-- ==== Defs.lean ====
def Pre_Kernel [hPre_rows_of_groups : Cert.Pre_rows_of_groups.Facts] (m : (ℓ : Loc Cert.Kernel.nD Cert.Kernel.τ Cert.Kernel.sig) → Buf (Elt Bits) ℓ) : Prop :=
  ∀ c : Dev Cert.Kernel.nD,
    (Cert.Pre_rows_of_groups.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_rows_of_groups : Cert.Pre_rows_of_groups.Facts] (m : (ℓ : Loc Cert.KernelIdeal.nD Cert.KernelIdeal.τ Cert.KernelIdeal.sig) → Buf (Elt Ideal) ℓ) : Prop :=
  ∀ c : Dev Cert.KernelIdeal.nD,
    (Cert.Pre_rows_of_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_rows_of_groups [hPre_finite_rows_of_groups : Cert.Pre_finite_rows_of_groups.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_of_groups.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows_of_groups [hPre_finite_rows_of_groups : Cert.Pre_finite_rows_of_groups.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_of_groups.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_rows_of_groups : Cert.Pre_rows_of_groups.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_rows_of_groups : Cert.Pre_rows_of_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_rows_of_groups [hKernelIdeal : Cert.KernelIdeal.Facts] [hPre_finite_rows_of_groups : Cert.Pre_finite_rows_of_groups.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_of_groups m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_rows_of_groups [hReferenceIdeal : Cert.ReferenceIdeal.Facts] [hPre_finite_rows_of_groups : Cert.Pre_finite_rows_of_groups.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_of_groups m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_rows_of_groups [hKernelIdeal : Cert.KernelIdeal.Facts] [hReferenceIdeal : Cert.ReferenceIdeal.Facts] [hPre_finite_rows_of_groups : Cert.Pre_finite_rows_of_groups.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_of_groups m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_of_groups : Cert.Pre_rows_of_groups.Facts) (hPre_finite_rows_of_groups : Cert.Pre_finite_rows_of_groups.Facts),
    quiescent_Kernel (hKernel := hKernel) (hPre_rows_of_groups := hPre_rows_of_groups)
    ∧ quiescent_KernelIdeal (hKernelIdeal := hKernelIdeal) (hPre_rows_of_groups := hPre_rows_of_groups)
    ∧ quiescent_KernelIdeal_pre_finite_rows_of_groups (hKernelIdeal := hKernelIdeal) (hPre_finite_rows_of_groups := hPre_finite_rows_of_groups)
    ∧ quiescent_ReferenceIdeal (hReferenceIdeal := hReferenceIdeal)
    ∧ quiescent_ReferenceIdeal_pre_finite_rows_of_groups (hReferenceIdeal := hReferenceIdeal) (hPre_finite_rows_of_groups := hPre_finite_rows_of_groups)
    ∧ preserves_Kernel_KernelIdeal
    ∧ algebraic_KernelIdeal_ReferenceIdeal_pre_finite_rows_of_groups (hKernelIdeal := hKernelIdeal) (hReferenceIdeal := hReferenceIdeal) (hPre_finite_rows_of_groups := hPre_finite_rows_of_groups)
-- ==== Pre_finite_rows_of_groups.lean ====
abbrev S512x2048 : Shape := ⟨2, ![512, 2048]⟩
abbrev S16 : Shape := ⟨1, ![16]⟩
abbrev S16x2048x6144 : Shape := ⟨3, ![16, 2048, 6144]⟩
abbrev S16x1x6144 : Shape := ⟨3, ![16, 1, 6144]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bitsLt_bf16_f32 : FTy.bits .bf16 < FTy.bits .f32
  bcast_S_S512x2048 : S_.BroadcastsInDim S512x2048 (![] : Fin 0 → Fin S512x2048.rank)
  reducesTo_S512x2048_S_d0_1 : S512x2048.ReducesTo [0, 1] S_

variable [Facts]

def fn {F : FTy → Type} [FloatOps F] (main_arg0 : FVec F S512x2048 .bf16) (main_arg1 : IVec S16 32) (main_arg2 : FVec F S16x2048x6144 .fp8e4m3) (main_arg3 : FVec F S16x1x6144 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 512#32
  let main_v3 : IVec S16 32 := broadcastInDim S16 ![] bcast_S_S16 main_c_1
  let main_v4 : IVec S16 1 := cmpi .sle main_arg1 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S16_S_d0 h_S_) main_arg1 main_c_3
  let main_c_4 : IVec S_ 32 := constantI S_ 32 512#32
  let main_v8 : IVec S_ 1 := cmpi .eq main_v7 main_c_4
  let main_v9 : IVec S_ 1 := andi main_v6 main_v8
  let main_v10 : FVec F S512x2048 .f32 := (extf .f32 · bitsLt_bf16_f32) main_arg0
  let main_v11 : FVec F S512x2048 .f32 := Host.absf main_v10
  let main_cst : FVec F S_ .f32 := constant S_ .f32 0x7F7F0000#32
  let main_v12 : FVec F S512x2048 .f32 := broadcastInDim S512x2048 ![] bcast_S_S512x2048 main_cst
  let main_v13 : IVec S512x2048 1 := cmpf .ole main_v11 main_v12
  let main_c_5 : IVec S_ 1 := constantI S_ 1 1#1
  let main_v14 : IVec S_ 1 := (fun x v => Host.reduce IntOp.andi x v reducesTo_S512x2048_S_d0_1 h_S_) main_v13 main_c_5
  let main_v15 : IVec S_ 1 := andi main_v9 main_v14
  main_v15
-- ==== Pre_rows_of_groups.lean ====
abbrev S512x2048 : Shape := ⟨2, ![512, 2048]⟩
abbrev S16 : Shape := ⟨1, ![16]⟩
abbrev S16x2048x6144 : Shape := ⟨3, ![16, 2048, 6144]⟩
abbrev S16x1x6144 : Shape := ⟨3, ![16, 1, 6144]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S512x2048 .bf16) (main_arg1 : IVec S16 32) (main_arg2 : FVec F S16x2048x6144 .fp8e4m3) (main_arg3 : FVec F S16x1x6144 .f32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 1 := constantI S_ 1 1#1
  let main_v2 : IVec S_ 1 := (fun x v => Host.reduce IntOp.andi x v reducesTo_S16_S_d0 h_S_) main_v1 main_c_0
  let main_c_1 : IVec S_ 32 := constantI S_ 32 512#32
  let main_v3 : IVec S16 32 := broadcastInDim S16 ![] bcast_S_S16 main_c_1
  let main_v4 : IVec S16 1 := cmpi .sle main_arg1 main_v3
  let main_c_2 : IVec S_ 1 := constantI S_ 1 1#1
  let main_v5 : IVec S_ 1 := (fun x v => Host.reduce IntOp.andi x v reducesTo_S16_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S16_S_d0 h_S_) main_arg1 main_c_3
  let main_c_4 : IVec S_ 32 := constantI S_ 32 512#32
  let main_v8 : IVec S_ 1 := cmpi .eq main_v7 main_c_4
  let main_v9 : IVec S_ 1 := andi main_v6 main_v8
  main_v9
-- ==== Kernel.lean ====
abbrev S512x2048 : Shape := ⟨2, ![512, 2048]⟩
abbrev S16 : Shape := ⟨1, ![16]⟩
abbrev S16x2048x6144 : Shape := ⟨3, ![16, 2048, 6144]⟩
abbrev S16x1x6144 : Shape := ⟨3, ![16, 1, 6144]⟩
abbrev S512x6144 : Shape := ⟨2, ![512, 6144]⟩
abbrev S512x128 : Shape := ⟨2, ![512, 128]⟩
abbrev S6x2048x3072 : Shape := ⟨3, ![6, 2048, 3072]⟩
abbrev S2x512x3072 : Shape := ⟨3, ![2, 512, 3072]⟩
abbrev S_ : Shape := ⟨0, ![]⟩
abbrev S6 : Shape := ⟨1, ![6]⟩
abbrev S2 : Shape := ⟨1, ![2]⟩
abbrev S1 : Shape := ⟨1, ![1]⟩
abbrev S1x2048x3072 : Shape := ⟨3, ![1, 2048, 3072]⟩
abbrev S2048x3072 : Shape := ⟨2, ![2048, 3072]⟩
abbrev S64x2048 : Shape := ⟨2, ![64, 2048]⟩
abbrev S64 : Shape := ⟨1, ![64]⟩
abbrev S64x1 : Shape := ⟨2, ![64, 1]⟩
abbrev S64x128 : Shape := ⟨2, ![64, 128]⟩
abbrev S512x3072 : Shape := ⟨2, ![512, 3072]⟩
abbrev S1x512x3072 : Shape := ⟨3, ![1, 512, 3072]⟩
abbrev S1x1x3072 : Shape := ⟨3, ![1, 1, 3072]⟩
abbrev S1x3072 : Shape := ⟨2, ![1, 3072]⟩
abbrev S128x2048 : Shape := ⟨2, ![128, 2048]⟩
abbrev S128x3072 : Shape := ⟨2, ![128, 3072]⟩
abbrev S128x1 : Shape := ⟨2, ![128, 1]⟩
abbrev S1x128x3072 : Shape := ⟨3, ![1, 128, 3072]⟩

abbrev nBuf : Space → Nat
  | .hbm => 5
  | .vmem => 6
  | .smem => 4
  | _ => 0

abbrev bufTy : (tb : Table) → Fin (tcTables nBuf tb) → BufTy
  | .hbm, ⟨0, _⟩ => ⟨S512x2048, .bf16⟩
  | .hbm, ⟨1, _⟩ => ⟨S16, .i32⟩
  | .hbm, ⟨2, _⟩ => ⟨S16x2048x6144, .fp8e4m3⟩
  | .hbm, ⟨3, _⟩ => ⟨S16x1x6144, .f32⟩
  | .hbm, ⟨4, _⟩ => ⟨S512x6144, .bf16⟩
  | .local _ .vmem, ⟨0, _⟩ => ⟨S512x2048, .bf16⟩
  | .local _ .vmem, ⟨1, _⟩ => ⟨S512x2048, .fp8e4m3⟩
  | .local _ .vmem, ⟨2, _⟩ => ⟨S512x128, .f32⟩
  | .local _ .vmem, ⟨3, _⟩ => ⟨S16x1x6144, .f32⟩
  | .local _ .vmem, ⟨4, _⟩ => ⟨S6x2048x3072, .fp8e4m3⟩
  | .local _ .vmem, ⟨5, _⟩ => ⟨S2x512x3072, .bf16⟩
  | .local _ .smem, ⟨0, _⟩ => ⟨S16, .i32⟩
  | .local _ .smem, ⟨1, _⟩ => ⟨S16, .i32⟩
  | .local _ .smem, ⟨2, _⟩ => ⟨S16, .i32⟩
  | .local _ .smem, ⟨3, _⟩ => ⟨S16, .i32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch4 : Ref sig .tc := ⟨.vmem, 0, rfl⟩
abbrev cc0_scratch5 : Ref sig .tc := ⟨.vmem, 1, rfl⟩
abbrev cc0_scratch6 : Ref sig .tc := ⟨.vmem, 2, rfl⟩
abbrev cc0_scratch7 : Ref sig .tc := ⟨.vmem, 3, rfl⟩
abbrev cc0_scratch8 : Ref sig .tc := ⟨.vmem, 4, rfl⟩
abbrev cc0_scratch9 : Ref sig .tc := ⟨.vmem, 5, rfl⟩
abbrev cc0_scratch0 : Ref sig .tc := ⟨.smem, 0, rfl⟩
abbrev cc0_scratch1 : Ref sig .tc := ⟨.smem, 1, rfl⟩
abbrev cc0_scratch2 : Ref sig .tc := ⟨.smem, 2, rfl⟩
abbrev cc0_scratch3 : Ref sig .tc := ⟨.smem, 3, rfl⟩

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c16_i32 : BitVec 32 := 16#32
  let v0 : BitVec 32 := Scalar.addi c0_i32_1 c16_i32
  let c1_i32 : BitVec 32 := 1#32
  ⟨c0_i32_1, v0, c1_i32⟩
def k0_off1 (k0_t1 : Fin k0_t1_loop.trips) : Fin 1 → Nat :=
  let c0_i32_1 : BitVec 32 := 0#32
  let c1_i32 : BitVec 32 := 1#32
  let arg20 : BitVec 32 := Scf.iv c0_i32_1 c1_i32 k0_t1
  let v25 : Index := Scalar.indexCast arg20
  ![v25.toNat]
def k0_off2 (arg21 : BitVec 32) : Fin 1 → Nat :=
  let v27 : Index := Scalar.indexCast arg21
  ![v27.toNat]

def k0_chk1 (arg21 : BitVec 32) : Prop :=
  (∀ a, (k0_off2 arg21) a + S1.size a ≤ S16.size a)
theorem k0_off2_inb : ∀ (arg21 : BitVec 32) (k0_hw1 : k0_chk1 arg21), ∀ a, (k0_off2 arg21) a + S1.size a ≤ S16.size a := fun arg21 k0_hw1 => k0_hw1

@[reducible] def k0_t2_loop : Scf.Loop 32 :=
  let c0_i32_5 : BitVec 32 := 0#32
  let c5_i32 : BitVec 32 := 5#32
  let v3 : BitVec 32 := Scalar.addi c0_i32_5 c5_i32
  let c1_i32_6 : BitVec 32 := 1#32
  ⟨c0_i32_5, v3, c1_i32_6⟩
def k0_mult1 (arg22 : BitVec 32) : BitVec 32 :=
  let c3072_i32_33 : BitVec 32 := 3072#32
  let v34 : BitVec 32 := Scalar.muli arg22 c3072_i32_33
  v34
def k0_cond1 (v1_0 : BitVec 32) (k0_t2 : Fin k0_t2_loop.trips) : BitVec 1 :=
  let c0_i32_5 : BitVec 32 := 0#32
  let c1_i32_6 : BitVec 32 := 1#32
  let arg20 : BitVec 32 := Scf.iv c0_i32_5 c1_i32_6 k0_t2
  let c2_i32 : BitVec 32 := 2#32
  let v2 : BitVec 32 := Scalar.muli v1_0 c2_i32
  let v25 : BitVec 1 := Scalar.cmpi .slt arg20 v2
  let v26 : BitVec 32 := Scalar.extui v25
  let c0_i32_28 : BitVec 32 := 0#32
  let v27 : BitVec 1 := Scalar.cmpi .ne v26 c0_i32_28
  v27

def k0_chk2 (v1_0 : BitVec 32) (k0_t2 : Fin k0_t2_loop.trips) (arg22 : BitVec 32) : Prop :=
  (∀ (k0_h1 : k0_cond1 v1_0 k0_t2 = 1#1), 3072 ∣ (k0_mult1 arg22).toNat)
theorem k0_mult1_dvd : ∀ (v1_0 : BitVec 32) (k0_t2 : Fin k0_t2_loop.trips) (arg22 : BitVec 32) (k0_hw2 : k0_chk2 v1_0 k0_t2 arg22), ∀ (k0_h1 : k0_cond1 v1_0 k0_t2 = 1#1), 3072 ∣ (k0_mult1 arg22).toNat := fun v1_0 k0_t2 arg22 k0_hw2 k0_h1 => k0_hw2 k0_h1

def k0_off3 (arg21 : BitVec 32) : Fin 1 → Nat :=
  let v36 : Index := Scalar.indexCast arg21
  ![v36.toNat]

def k0_chk3 (v1_0 : BitVec 32) (k0_t2 : Fin k0_t2_loop.trips) (arg21 : BitVec 32) : Prop :=
  (∀ (k0_h1 : k0_cond1 v1_0 k0_t2 = 1#1), ∀ a, (k0_off3 arg21) a + S1.size a ≤ S16.size a)
theorem k0_off3_inb : ∀ (v1_0 : BitVec 32) (k0_t2 : Fin k0_t2_loop.trips) (arg21 : BitVec 32) (k0_hw3 : k0_chk3 v1_0 k0_t2 arg21), ∀ (k0_h1 : k0_cond1 v1_0 k0_t2 = 1#1), ∀ a, (k0_off3 arg21) a + S1.size a ≤ S16.size a := fun v1_0 k0_t2 arg21 k0_hw3 k0_h1 => k0_hw3 k0_h1

def k0_off4 (k0_t2 : Fin k0_t2_loop.trips) : Fin 1 → Nat :=
  let c0_i32_5 : BitVec 32 := 0#32
  let c1_i32_6 : BitVec 32 := 1#32
  let arg20 : BitVec 32 := Scf.iv c0_i32_5 c1_i32_6 k0_t2
  ![arg20.toNat]
def k0_off5 (k0_t2 : Fin k0_t2_loop.trips) : Fin 3 → Nat :=
  let c0_i32_5 : BitVec 32 := 0#32
  let c1_i32_6 : BitVec 32 := 1#32
  let arg20 : BitVec 32 := Scf.iv c0_i32_5 c1_i32_6 k0_t2
  let c0_i32_34 : BitVec 32 := 0#32
  let c0_i32_35 : BitVec 32 := 0#32
  ![arg20.toNat, 0, 0]
def k0_off6 (arg22 : BitVec 32) (v37 : BitVec 32) : Fin 3 → Nat :=
  let c0_i32_36 : BitVec 32 := 0#32
  let c3072_i32_33 : BitVec 32 := 3072#32
  let v34 : BitVec 32 := Scalar.muli arg22 c3072_i32_33
  let v35 : BitVec 32 := v34
  ![v37.toNat, 0, v35.toNat]

def k0_chk4 (v1_0 : BitVec 32) (k0_t2 : Fin k0_t2_loop.trips) (arg22 : BitVec 32) (v37 : BitVec 32) : Prop :=
  (∀ (k0_h1 : k0_cond1 v1_0 k0_t2 = 1#1), ∀ a, (k0_off6 arg22 v37) a + S1x2048x3072.size a ≤ S16x2048x6144.size a) ∧
  (∀ (k0_h1 : k0_cond1 v1_0 k0_t2 = 1#1), ∀ (hinb : ∀ a, (k0_off6 arg22 v37) a + S1x2048x3072.size a ≤ S16x2048x6144.size a), (Rect.unit (s := S16x2048x6144) (k0_off6 arg22 v37) S1x2048x3072.size hinb).WholeWords (EltTy.packing .fp8e4m3))
theorem k0_off6_inb : ∀ (v1_0 : BitVec 32) (k0_t2 : Fin k0_t2_loop.trips) (arg22 : BitVec 32) (v37 : BitVec 32) (k0_hw4 : k0_chk4 v1_0 k0_t2 arg22 v37), ∀ (k0_h1 : k0_cond1 v1_0 k0_t2 = 1#1), ∀ a, (k0_off6 arg22 v37) a + S1x2048x3072.size a ≤ S16x2048x6144.size a := fun v1_0 k0_t2 arg22 v37 k0_hw4 k0_h1 => k0_hw4.1 k0_h1
theorem k0_off6_wordsfp8e4m3 : ∀ (v1_0 : BitVec 32) (k0_t2 : Fin k0_t2_loop.trips) (arg22 : BitVec 32) (v37 : BitVec 32) (k0_hw4 : k0_chk4 v1_0 k0_t2 arg22 v37), ∀ (k0_h1 : k0_cond1 v1_0 k0_t2 = 1#1), (Rect.unit (s := S16x2048x6144) (k0_off6 arg22 v37) S1x2048x3072.size (k0_off6_inb v1_0 k0_t2 arg22 v37 k0_hw4 k0_h1)).WholeWords (EltTy.packing .fp8e4m3) := fun v1_0 k0_t2 arg22 v37 k0_hw4 k0_h1 => k0_hw4.2 k0_h1 (k0_off6_inb v1_0 k0_t2 arg22 v37 k0_hw4 k0_h1)

@[reducible] def k0_t3_loop : Scf.Loop 32 :=
  let c0_i32_8 : BitVec 32 := 0#32
  let c8_i32 : BitVec 32 := 8#32
  let v5 : BitVec 32 := Scalar.addi c0_i32_8 c8_i32
  let c1_i32_9 : BitVec 32 := 1#32
  ⟨c0_i32_8, v5, c1_i32_9⟩
def k0_mult2 (k0_t3 : Fin k0_t3_loop.trips) : BitVec 32 :=
  let c0_i32_29 : BitVec 32 := 0#32
  let c0_i32_8 : BitVec 32 := 0#32
  let c1_i32_9 : BitVec 32 := 1#32
  let arg20 : BitVec 32 := Scf.iv c0_i32_8 c1_i32_9 k0_t3
  let c1_i32_28 : BitVec 32 := 1#32
  let v25 : BitVec 32 := Scalar.muli arg20 c1_i32_28
  let v26 : BitVec 32 := Scalar.addi c0_i32_29 v25
  let c64_i32 : BitVec 32 := 64#32
  let v27 : BitVec 32 := Scalar.muli v26 c64_i32
  v27
def k0_off7 (k0_t3 : Fin k0_t3_loop.trips) : Fin 2 → Nat :=
  let c0_i32_29 : BitVec 32 := 0#32
  let c0_i32_8 : BitVec 32 := 0#32
  let c1_i32_9 : BitVec 32 := 1#32
  let arg20 : BitVec 32 := Scf.iv c0_i32_8 c1_i32_9 k0_t3
  let c1_i32_28 : BitVec 32 := 1#32
  let v25 : BitVec 32 := Scalar.muli arg20 c1_i32_28
  let v26 : BitVec 32 := Scalar.addi c0_i32_29 v25
  let c64_i32 : BitVec 32 := 64#32
  let v27 : BitVec 32 := Scalar.muli v26 c64_i32
  let v28 : BitVec 32 := v27
  let v29 : Index := Scalar.indexCast v28
  let c0 : Index := 0#32
  ![v29.toNat, 0]
def k0_off8 (k0_t3 : Fin k0_t3_loop.trips) : Fin 2 → Nat :=
  let c0_i32_29 : BitVec 32 := 0#32
  let c0_i32_8 : BitVec 32 := 0#32
  let c1_i32_9 : BitVec 32 := 1#32
  let arg20 : BitVec 32 := Scf.iv c0_i32_8 c1_i32_9 k0_t3
  let c1_i32_28 : BitVec 32 := 1#32
  let v25 : BitVec 32 := Scalar.muli arg20 c1_i32_28
  let v26 : BitVec 32 := Scalar.addi c0_i32_29 v25
  let c64_i32 : BitVec 32 := 64#32
  let v27 : BitVec 32 := Scalar.muli v26 c64_i32
  let v28 : BitVec 32 := v27
  let v109 : Index := Scalar.indexCast v28
  let c0_40 : Index := 0#32
  ![v109.toNat, 0]
@[reducible] def k0_t4_loop (v1_0 : BitVec 32) : Scf.Loop 32 :=
  let c0_i32_11 : BitVec 32 := 0#32
  let c2_i32 : BitVec 32 := 2#32
  let v2 : BitVec 32 := Scalar.muli v1_0 c2_i32
  let v6 : BitVec 32 := Scalar.subi v2 c0_i32_11
  let c1_i32_14 : BitVec 32 := 1#32
  let v8 : BitVec 32 := Scalar.divsi v6 c1_i32_14
  let v9 : BitVec 32 := Scalar.muli v8 c1_i32_14
  let v10 : BitVec 32 := Scalar.addi c0_i32_11 v9
  let c1_i32_15 : BitVec 32 := 1#32
  ⟨c0_i32_11, v10, c1_i32_15⟩

def k0_mult3 (arg24 : BitVec 32) : BitVec 32 :=
  let c3072_i32_64 : BitVec 32 := 3072#32
  let v92 : BitVec 32 := Scalar.muli arg24 c3072_i32_64
  v92
def k0_cond2 (v1_0 : BitVec 32) (k0_t4 : Fin (k0_t4_loop v1_0).trips) : BitVec 1 :=
  let c0_i32_11 : BitVec 32 := 0#32
  let c1_i32_15 : BitVec 32 := 1#32
  let arg20 : BitVec 32 := Scf.iv c0_i32_11 c1_i32_15 k0_t4
  let c6_i32_28 : BitVec 32 := 6#32
  let v26 : BitVec 32 := Scalar.addi arg20 c6_i32_28
  let c1_i32_29 : BitVec 32 := 1#32
  let v27 : BitVec 32 := Scalar.subi v26 c1_i32_29
  let c2_i32 : BitVec 32 := 2#32
  let v2 : BitVec 32 := Scalar.muli v1_0 c2_i32
  let v28 : BitVec 1 := Scalar.cmpi .slt v27 v2
  let v29 : BitVec 32 := Scalar.extui v28
  let c0_i32_30 : BitVec 32 := 0#32
  let v30 : BitVec 1 := Scalar.cmpi .ne v29 c0_i32_30
  v30

def k0_chk6 (v1_0 : BitVec 32) (k0_t4 : Fin (k0_t4_loop v1_0).trips) (arg24 : BitVec 32) : Prop :=
  (∀ (k0_h2 : k0_cond2 v1_0 k0_t4 = 1#1), 3072 ∣ (k0_mult3 arg24).toNat)
theorem k0_mult3_dvd : ∀ (v1_0 : BitVec 32) (k0_t4 : Fin (k0_t4_loop v1_0).trips) (arg24 : BitVec 32) (k0_hw6 : k0_chk6 v1_0 k0_t4 arg24), ∀ (k0_h2 : k0_cond2 v1_0 k0_t4 = 1#1), 3072 ∣ (k0_mult3 arg24).toNat := fun v1_0 k0_t4 arg24 k0_hw6 k0_h2 => k0_hw6 k0_h2

def k0_off9 (arg23 : BitVec 32) : Fin 1 → Nat :=
  let v94 : Index := Scalar.indexCast arg23
  ![v94.toNat]

def k0_chk7 (v1_0 : BitVec 32) (k0_t4 : Fin (k0_t4_loop v1_0).trips) (arg23 : BitVec 32) : Prop :=
  (∀ (k0_h2 : k0_cond2 v1_0 k0_t4 = 1#1), ∀ a, (k0_off9 arg23) a + S1.size a ≤ S16.size a)
theorem k0_off9_inb : ∀ (v1_0 : BitVec 32) (k0_t4 : Fin (k0_t4_loop v1_0).trips) (arg23 : BitVec 32) (k0_hw7 : k0_chk7 v1_0 k0_t4 arg23), ∀ (k0_h2 : k0_cond2 v1_0 k0_t4 = 1#1), ∀ a, (k0_off9 arg23) a + S1.size a ≤ S16.size a := fun v1_0 k0_t4 arg23 k0_hw7 k0_h2 => k0_hw7 k0_h2

def k0_off10 (v1_0 : BitVec 32) (k0_t4 : Fin (k0_t4_loop v1_0).trips) : Fin 1 → Nat :=
  let c0_i32_11 : BitVec 32 := 0#32
  let c1_i32_15 : BitVec 32 := 1#32
  let arg20 : BitVec 32 := Scf.iv c0_i32_11 c1_i32_15 k0_t4
  let c6_i32_61 : BitVec 32 := 6#32
  let v89 : BitVec 32 := Scalar.addi arg20 c6_i32_61
  let c1_i32_62 : BitVec 32 := 1#32
  let v90 : BitVec 32 := Scalar.subi v89 c1_i32_62
  let c6_i32_63 : BitVec 32 := 6#32
  let v91 : BitVec 32 := Scalar.remsi v90 c6_i32_63
  ![v91.toNat]
def k0_off11 (v1_0 : BitVec 32) (k0_t4 : Fin (k0_t4_loop v1_0).trips) : Fin 3 → Nat :=
  let c0_i32_11 : BitVec 32 := 0#32
  let c1_i32_15 : BitVec 32 := 1#32
  let arg20 : BitVec 32 := Scf.iv c0_i32_11 c1_i32_15 k0_t4
  let c6_i32_61 : BitVec 32 := 6#32
  let v89 : BitVec 32 := Scalar.addi arg20 c6_i32_61
  let c1_i32_62 : BitVec 32 := 1#32
  let v90 : BitVec 32 := Scalar.subi v89 c1_i32_62
  let c6_i32_63 : BitVec 32 := 6#32
  let v91 : BitVec 32 := Scalar.remsi v90 c6_i32_63
  let c0_i32_65 : BitVec 32 := 0#32
  let c0_i32_66 : BitVec 32 := 0#32
  ![v91.toNat, 0, 0]
def k0_off12 (arg24 : BitVec 32) (v95 : BitVec 32) : Fin 3 → Nat :=
  let c0_i32_67 : BitVec 32 := 0#32
  let c3072_i32_64 : BitVec 32 := 3072#32
  let v92 : BitVec 32 := Scalar.muli arg24 c3072_i32_64
  let v93 : BitVec 32 := v92
  ![v95.toNat, 0, v93.toNat]

def k0_chk8 (v1_0 : BitVec 32) (k0_t4 : Fin (k0_t4_loop v1_0).trips) (arg24 : BitVec 32) (v95 : BitVec 32) : Prop :=
  (∀ (k0_h2 : k0_cond2 v1_0 k0_t4 = 1#1), ∀ a, (k0_off12 arg24 v95) a + S1x2048x3072.size a ≤ S16x2048x6144.size a) ∧
  (∀ (k0_h2 : k0_cond2 v1_0 k0_t4 = 1#1), ∀ (hinb : ∀ a, (k0_off12 arg24 v95) a + S1x2048x3072.size a ≤ S16x2048x6144.size a), (Rect.unit (s := S16x2048x6144) (k0_off12 arg24 v95) S1x2048x3072.size hinb).WholeWords (EltTy.packing .fp8e4m3))
theorem k0_off12_inb : ∀ (v1_0 : BitVec 32) (k0_t4 : Fin (k0_t4_loop v1_0).trips) (arg24 : BitVec 32) (v95 : BitVec 32) (k0_hw8 : k0_chk8 v1_0 k0_t4 arg24 v95), ∀ (k0_h2 : k0_cond2 v1_0 k0_t4 = 1#1), ∀ a, (k0_off12 arg24 v95) a + S1x2048x3072.size a ≤ S16x2048x6144.size a := fun v1_0 k0_t4 arg24 v95 k0_hw8 k0_h2 => k0_hw8.1 k0_h2
theorem k0_off12_wordsfp8e4m3 : ∀ (v1_0 : BitVec 32) (k0_t4 : Fin (k0_t4_loop v1_0).trips) (arg24 : BitVec 32) (v95 : BitVec 32) (k0_hw8 : k0_chk8 v1_0 k0_t4 arg24 v95), ∀ (k0_h2 : k0_cond2 v1_0 k0_t4 = 1#1), (Rect.unit (s := S16x2048x6144) (k0_off12 arg24 v95) S1x2048x3072.size (k0_off12_inb v1_0 k0_t4 arg24 v95 k0_hw8 k0_h2)).WholeWords (EltTy.packing .fp8e4m3) := fun v1_0 k0_t4 arg24 v95 k0_hw8 k0_h2 => k0_hw8.2 k0_h2 (k0_off12_inb v1_0 k0_t4 arg24 v95 k0_hw8 k0_h2)

def k0_mult4 (arg22 : BitVec 32) : BitVec 32 :=
  let c2_i32_61 : BitVec 32 := 2#32
  let v89 : BitVec 32 := Scalar.subi arg22 c2_i32_61
  let c3072_i32_62 : BitVec 32 := 3072#32
  let v90 : BitVec 32 := Scalar.muli v89 c3072_i32_62
  v90
def k0_cond3 (arg21 : BitVec 32) (arg22 : BitVec 32) : BitVec 1 :=
  let c0_i32_31 : BitVec 32 := 0#32
  let v31 : BitVec 1 := Scalar.cmpi .eq arg21 c0_i32_31
  let c2_i32_32 : BitVec 32 := 2#32
  let v32 : BitVec 1 := Scalar.cmpi .sge arg22 c2_i32_32
  let v33 : BitVec 1 := Scalar.andi v31 v32
  let v34 : BitVec 32 := Scalar.extui v33
  let c0_i32_33 : BitVec 32 := 0#32
  let v35 : BitVec 1 := Scalar.cmpi .ne v34 c0_i32_33
  v35

def k0_off13 (arg22 : BitVec 32) : Fin 1 → Nat :=
  let c2_i32_61 : BitVec 32 := 2#32
  let v89 : BitVec 32 := Scalar.subi arg22 c2_i32_61
  let c2_i32_69 : BitVec 32 := 2#32
  let c0_i32_70 : BitVec 32 := 0#32
  let v102 : BitVec 1 := Scalar.cmpi .eq c2_i32_69 c0_i32_70
  let c1_i32_71 : BitVec 32 := 1#32
  let v103 : BitVec 32 := Scalar.select v102 c1_i32_71 c2_i32_69
  let v104 : BitVec 32 := Scalar.remsi v89 v103
  let c0_i32_73 : BitVec 32 := 0#32
  let v106 : BitVec 1 := Scalar.cmpi .slt v104 c0_i32_73
  let c0_i32_74 : BitVec 32 := 0#32
  let v107 : BitVec 1 := Scalar.cmpi .slt v103 c0_i32_74
  let v108 : BitVec 1 := Scalar.xori v106 v107
  let c0_i32_72 : BitVec 32 := 0#32
  let v105 : BitVec 1 := Scalar.cmpi .ne v104 c0_i32_72
  let v109 : BitVec 1 := Scalar.andi v108 v105
  let v110 : BitVec 32 := Scalar.addi v104 v103
  let v111 : BitVec 32 := Scalar.select v109 v110 v104
  ![v111.toNat]
def k0_off14 (arg22 : BitVec 32) : Fin 2 → Nat :=
  let c0_i32_75 : BitVec 32 := 0#32
  let c2_i32_61 : BitVec 32 := 2#32
  let v89 : BitVec 32 := Scalar.subi arg22 c2_i32_61
  let c3072_i32_62 : BitVec 32 := 3072#32
  let v90 : BitVec 32 := Scalar.muli v89 c3072_i32_62
  let v91 : BitVec 32 := v90
  ![0, v91.toNat]
def k0_off15 (arg22 : BitVec 32) : Fin 3 → Nat :=
  let c2_i32_61 : BitVec 32 := 2#32
  let v89 : BitVec 32 := Scalar.subi arg22 c2_i32_61
  let c2_i32_63 : BitVec 32 := 2#32
  let c0_i32_64 : BitVec 32 := 0#32
  let v92 : BitVec 1 := Scalar.cmpi .eq c2_i32_63 c0_i32_64
  let c1_i32_65 : BitVec 32 := 1#32
  let v93 : BitVec 32 := Scalar.select v92 c1_i32_65 c2_i32_63
  let v94 : BitVec 32 := Scalar.remsi v89 v93
  let c0_i32_67 : BitVec 32 := 0#32
  let v96 : BitVec 1 := Scalar.cmpi .slt v94 c0_i32_67
  let c0_i32_68 : BitVec 32 := 0#32
  let v97 : BitVec 1 := Scalar.cmpi .slt v93 c0_i32_68
  let v98 : BitVec 1 := Scalar.xori v96 v97
  let c0_i32_66 : BitVec 32 := 0#32
  let v95 : BitVec 1 := Scalar.cmpi .ne v94 c0_i32_66
  let v99 : BitVec 1 := Scalar.andi v98 v95
  let v100 : BitVec 32 := Scalar.addi v94 v93
  let v101 : BitVec 32 := Scalar.select v99 v100 v94
  let c0_i32_76 : BitVec 32 := 0#32
  let c0_i32_77 : BitVec 32 := 0#32
  ![v101.toNat, 0, 0]
def k0_mult5 (arg22 : BitVec 32) : BitVec 32 :=
  let c3072_i32_34 : BitVec 32 := 3072#32
  let v36 : BitVec 32 := Scalar.muli arg22 c3072_i32_34
  v36
def k0_off16 (arg21 : BitVec 32) : Fin 1 → Nat :=
  let v38 : Index := Scalar.indexCast arg21
  ![v38.toNat]

def k0_off17 (v1_0 : BitVec 32) (k0_t4 : Fin (k0_t4_loop v1_0).trips) : Fin 1 → Nat :=
  let c0_i32_11 : BitVec 32 := 0#32
  let c1_i32_15 : BitVec 32 := 1#32
  let arg20 : BitVec 32 := Scf.iv c0_i32_11 c1_i32_15 k0_t4
  let c6_i32 : BitVec 32 := 6#32
  let v25 : BitVec 32 := Scalar.remsi arg20 c6_i32
  ![v25.toNat]
def k0_off18 (v1_0 : BitVec 32) (k0_t4 : Fin (k0_t4_loop v1_0).trips) : Fin 3 → Nat :=
  let c0_i32_11 : BitVec 32 := 0#32
  let c1_i32_15 : BitVec 32 := 1#32
  let arg20 : BitVec 32 := Scf.iv c0_i32_11 c1_i32_15 k0_t4
  let c6_i32 : BitVec 32 := 6#32
  let v25 : BitVec 32 := Scalar.remsi arg20 c6_i32
  let c0_i32_35 : BitVec 32 := 0#32
  let c0_i32_36 : BitVec 32 := 0#32
  ![v25.toNat, 0, 0]
def k0_off19 (arg22 : BitVec 32) (v39 : BitVec 32) : Fin 3 → Nat :=
  let c0_i32_37 : BitVec 32 := 0#32
  let c3072_i32_34 : BitVec 32 := 3072#32
  let v36 : BitVec 32 := Scalar.muli arg22 c3072_i32_34
  let v37 : BitVec 32 := v36
  ![v39.toNat, 0, v37.toNat]

def k0_chk11 (arg22 : BitVec 32) (v39 : BitVec 32) : Prop :=
  (∀ a, (k0_off19 arg22 v39) a + S1x2048x3072.size a ≤ S16x2048x6144.size a) ∧
  (∀ (hinb : ∀ a, (k0_off19 arg22 v39) a + S1x2048x3072.size a ≤ S16x2048x6144.size a), (Rect.unit (s := S16x2048x6144) (k0_off19 arg22 v39) S1x2048x3072.size hinb).WholeWords (EltTy.packing .fp8e4m3))
theorem k0_off19_inb : ∀ (arg22 : BitVec 32) (v39 : BitVec 32) (k0_hw11 : k0_chk11 arg22 v39), ∀ a, (k0_off19 arg22 v39) a + S1x2048x3072.size a ≤ S16x2048x6144.size a := fun arg22 v39 k0_hw11 => k0_hw11.1
theorem k0_off19_wordsfp8e4m3 : ∀ (arg22 : BitVec 32) (v39 : BitVec 32) (k0_hw11 : k0_chk11 arg22 v39), (Rect.unit (s := S16x2048x6144) (k0_off19 arg22 v39) S1x2048x3072.size (k0_off19_inb arg22 v39 k0_hw11)).WholeWords (EltTy.packing .fp8e4m3) := fun arg22 v39 k0_hw11 => k0_hw11.2 (k0_off19_inb arg22 v39 k0_hw11)

def k0_off20 (arg21 : BitVec 32) : Fin 1 → Nat :=
  let v46 : Index := Scalar.indexCast arg21
  ![v46.toNat]

def k0_chk10 (arg21 : BitVec 32) : Prop :=
  (∀ a, (k0_off16 arg21) a + S1.size a ≤ S16.size a) ∧
  (∀ a, (k0_off20 arg21) a + S1.size a ≤ S16.size a)
theorem k0_off16_inb : ∀ (arg21 : BitVec 32) (k0_hw10 : k0_chk10 arg21), ∀ a, (k0_off16 arg21) a + S1.size a ≤ S16.size a := fun arg21 k0_hw10 => k0_hw10.1
theorem k0_off20_inb : ∀ (arg21 : BitVec 32) (k0_hw10 : k0_chk10 arg21), ∀ a, (k0_off20 arg21) a + S1.size a ≤ S16.size a := fun arg21 k0_hw10 => k0_hw10.2

def k0_mult6 (arg22 : BitVec 32) : BitVec 32 :=
  let c3072_i32_39 : BitVec 32 := 3072#32
  let v55 : BitVec 32 := Scalar.muli arg22 c3072_i32_39
  v55
def k0_off21 (arg22 : BitVec 32) (v58 : BitVec 32) : Fin 3 → Nat :=
  let v59 : Index := Scalar.indexCast v58
  let c0 : Index := 0#32
  let c3072_i32_39 : BitVec 32 := 3072#32
  let v55 : BitVec 32 := Scalar.muli arg22 c3072_i32_39
  let v56 : BitVec 32 := v55
  let v60 : Index := Scalar.indexCast v56
  ![v59.toNat, 0, v60.toNat]

def k0_chk12 (arg22 : BitVec 32) (v58 : BitVec 32) : Prop :=
  (∀ a, (k0_off21 arg22 v58) a + S1x1x3072.size a ≤ S16x1x6144.size a)
theorem k0_off21_inb : ∀ (arg22 : BitVec 32) (v58 : BitVec 32) (k0_hw12 : k0_chk12 arg22 v58), ∀ a, (k0_off21 arg22 v58) a + S1x1x3072.size a ≤ S16x1x6144.size a := fun arg22 v58 k0_hw12 => k0_hw12

@[reducible] def k0_t5_loop (v47 : BitVec 32) (v49 : BitVec 32) : Scf.Loop 32 :=
  let c0_i32_47 : BitVec 32 := 0#32
  let c32_i32 : BitVec 32 := 32#32
  let v50 : BitVec 32 := Scalar.divsi v47 c32_i32
  let c32_i32_38 : BitVec 32 := 32#32
  let v51 : BitVec 32 := Scalar.muli v50 c32_i32_38
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_49 : BitVec 32 := 1#32
  ⟨c0_i32_47, v72, c1_i32_49⟩

def k0_mult7 (v47 : BitVec 32) (v49 : BitVec 32) (k0_t5 : Fin (k0_t5_loop v47 v49).trips) : BitVec 32 :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let c1_i32_49 : BitVec 32 := 1#32
  let arg25 : BitVec 32 := Scf.iv c0_i32_47 c1_i32_49 k0_t5
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  v93
def k0_off22 (v47 : BitVec 32) (v49 : BitVec 32) (k0_t5 : Fin (k0_t5_loop v47 v49).trips) : Fin 2 → Nat :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let c1_i32_49 : BitVec 32 := 1#32
  let arg25 : BitVec 32 := Scf.iv c0_i32_47 c1_i32_49 k0_t5
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v95 : Index := Scalar.indexCast v94
  let c0_62 : Index := 0#32
  ![v95.toNat, 0]
def k0_off23 (v1_0 : BitVec 32) (k0_t4 : Fin (k0_t4_loop v1_0).trips) : Fin 3 → Nat :=
  let c0_i32_11 : BitVec 32 := 0#32
  let c1_i32_15 : BitVec 32 := 1#32
  let arg20 : BitVec 32 := Scf.iv c0_i32_11 c1_i32_15 k0_t4
  let c6_i32 : BitVec 32 := 6#32
  let v25 : BitVec 32 := Scalar.remsi arg20 c6_i32
  let v97 : Index := Scalar.indexCast v25
  let c0_63 : Index := 0#32
  let c0_64 : Index := 0#32
  ![v97.toNat, 0, 0]
def k0_off24 (v47 : BitVec 32) (v49 : BitVec 32) (k0_t5 : Fin (k0_t5_loop v47 v49).trips) : Fin 2 → Nat :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let c1_i32_49 : BitVec 32 := 1#32
  let arg25 : BitVec 32 := Scf.iv c0_i32_47 c1_i32_49 k0_t5
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v109 : Index := Scalar.indexCast v94
  let c0_65 : Index := 0#32
  ![v109.toNat, 0]
def k0_off25 (arg22 : BitVec 32) (v47 : BitVec 32) (v49 : BitVec 32) (k0_t5 : Fin (k0_t5_loop v47 v49).trips) : Fin 3 → Nat :=
  let c2_i32_40 : BitVec 32 := 2#32
  let v63 : BitVec 32 := Scalar.remsi arg22 c2_i32_40
  let v116 : Index := Scalar.indexCast v63
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let c1_i32_49 : BitVec 32 := 1#32
  let arg25 : BitVec 32 := Scf.iv c0_i32_47 c1_i32_49 k0_t5
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v117 : Index := Scalar.indexCast v94
  let c0_66 : Index := 0#32
  ![v116.toNat, v117.toNat, 0]
@[reducible] def k0_t6_loop (v47 : BitVec 32) (v49 : BitVec 32) : Scf.Loop 32 :=
  let c0_i32_47 : BitVec 32 := 0#32
  let c32_i32 : BitVec 32 := 32#32
  let v50 : BitVec 32 := Scalar.divsi v47 c32_i32
  let c32_i32_38 : BitVec 32 := 32#32
  let v51 : BitVec 32 := Scalar.muli v50 c32_i32_38
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let v69 : BitVec 32 := Scalar.addi c0_i32_47 v68
  let c1_i32_50 : BitVec 32 := 1#32
  ⟨v72, v69, c1_i32_50⟩
def k0_mult8 (v47 : BitVec 32) (v49 : BitVec 32) (k0_t6 : Fin (k0_t6_loop v47 v49).trips) : BitVec 32 :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_50 : BitVec 32 := 1#32
  let arg25 : BitVec 32 := Scf.iv v72 c1_i32_50 k0_t6
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  v93
def k0_off26 (v47 : BitVec 32) (v49 : BitVec 32) (k0_t6 : Fin (k0_t6_loop v47 v49).trips) : Fin 2 → Nat :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_50 : BitVec 32 := 1#32
  let arg25 : BitVec 32 := Scf.iv v72 c1_i32_50 k0_t6
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v95 : Index := Scalar.indexCast v94
  let c0_62 : Index := 0#32
  ![v95.toNat, 0]
def k0_off27 (v1_0 : BitVec 32) (k0_t4 : Fin (k0_t4_loop v1_0).trips) : Fin 3 → Nat :=
  let c0_i32_11 : BitVec 32 := 0#32
  let c1_i32_15 : BitVec 32 := 1#32
  let arg20 : BitVec 32 := Scf.iv c0_i32_11 c1_i32_15 k0_t4
  let c6_i32 : BitVec 32 := 6#32
  let v25 : BitVec 32 := Scalar.remsi arg20 c6_i32
  let v97 : Index := Scalar.indexCast v25
  let c0_63 : Index := 0#32
  let c0_64 : Index := 0#32
  ![v97.toNat, 0, 0]
def k0_off28 (v47 : BitVec 32) (v49 : BitVec 32) (k0_t6 : Fin (k0_t6_loop v47 v49).trips) : Fin 2 → Nat :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_50 : BitVec 32 := 1#32
  let arg25 : BitVec 32 := Scf.iv v72 c1_i32_50 k0_t6
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v109 : Index := Scalar.indexCast v94
  let c0_65 : Index := 0#32
  ![v109.toNat, 0]
def k0_off29 (arg22 : BitVec 32) (v47 : BitVec 32) (v49 : BitVec 32) (k0_t6 : Fin (k0_t6_loop v47 v49).trips) : Fin 3 → Nat :=
  let c2_i32_40 : BitVec 32 := 2#32
  let v63 : BitVec 32 := Scalar.remsi arg22 c2_i32_40
  let v116 : Index := Scalar.indexCast v63
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_50 : BitVec 32 := 1#32
  let arg25 : BitVec 32 := Scf.iv v72 c1_i32_50 k0_t6
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v117 : Index := Scalar.indexCast v94
  let c0_66 : Index := 0#32
  ![v116.toNat, v117.toNat, 0]

def k0_chk13 (v1_0 : BitVec 32) (k0_t4 : Fin (k0_t4_loop v1_0).trips) (arg22 : BitVec 32) (v47 : BitVec 32) (v49 : BitVec 32) : Prop :=
  ((k0_t5_loop v47 v49).OK) ∧
  (∀ k0_t5 : Fin (k0_t5_loop v47 v49).trips, 32 ∣ (k0_mult7 v47 v49 k0_t5).toNat) ∧
  (∀ k0_t5 : Fin (k0_t5_loop v47 v49).trips, ∀ a, (k0_off22 v47 v49 k0_t5) a + S128x2048.size a ≤ S512x2048.size a) ∧
  (∀ k0_t5 : Fin (k0_t5_loop v47 v49).trips, ∀ a, (k0_off23 v1_0 k0_t4) a + S1x2048x3072.size a ≤ S6x2048x3072.size a) ∧
  (∀ k0_t5 : Fin (k0_t5_loop v47 v49).trips, ∀ a, (k0_off24 v47 v49 k0_t5) a + S128x1.size a ≤ S512x128.size a) ∧
  (∀ k0_t5 : Fin (k0_t5_loop v47 v49).trips, ∀ a, (k0_off25 arg22 v47 v49 k0_t5) a + S1x128x3072.size a ≤ S2x512x3072.size a) ∧
  (∀ k0_t5 : Fin (k0_t5_loop v47 v49).trips, ∀ (hinb : ∀ a, (k0_off25 arg22 v47 v49 k0_t5) a + S1x128x3072.size a ≤ S2x512x3072.size a), (Rect.unit (s := S2x512x3072) (k0_off25 arg22 v47 v49 k0_t5) S1x128x3072.size hinb).PackedRows (EltTy.packing .bf16)) ∧
  ((k0_t6_loop v47 v49).OK) ∧
  (∀ k0_t6 : Fin (k0_t6_loop v47 v49).trips, 32 ∣ (k0_mult8 v47 v49 k0_t6).toNat) ∧
  (∀ k0_t6 : Fin (k0_t6_loop v47 v49).trips, ∀ a, (k0_off26 v47 v49 k0_t6) a + S128x2048.size a ≤ S512x2048.size a) ∧
  (∀ k0_t6 : Fin (k0_t6_loop v47 v49).trips, ∀ a, (k0_off27 v1_0 k0_t4) a + S1x2048x3072.size a ≤ S6x2048x3072.size a) ∧
  (∀ k0_t6 : Fin (k0_t6_loop v47 v49).trips, ∀ a, (k0_off28 v47 v49 k0_t6) a + S128x1.size a ≤ S512x128.size a) ∧
  (∀ k0_t6 : Fin (k0_t6_loop v47 v49).trips, ∀ a, (k0_off29 arg22 v47 v49 k0_t6) a + S1x128x3072.size a ≤ S2x512x3072.size a) ∧
  (∀ k0_t6 : Fin (k0_t6_loop v47 v49).trips, ∀ (hinb : ∀ a, (k0_off29 arg22 v47 v49 k0_t6) a + S1x128x3072.size a ≤ S2x512x3072.size a), (Rect.unit (s := S2x512x3072) (k0_off29 arg22 v47 v49 k0_t6) S1x128x3072.size hinb).PackedRows (EltTy.packing .bf16))
theorem k0_t5_ok : ∀ (v1_0 : BitVec 32) (k0_t4 : Fin (k0_t4_loop v1_0).trips) (arg22 : BitVec 32) (v47 : BitVec 32) (v49 : BitVec 32) (k0_hw13 : k0_chk13 v1_0 k0_t4 arg22 v47 v49), (k0_t5_loop v47 v49).OK := fun v1_0 k0_t4 arg22 v47 v49 k0_hw13 => k0_hw13.1
theorem k0_mult7_dvd : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t5 : Fin (k0_t5_loop v47 v49).trips), 32 ∣ (k0_mult7 v47 v49 k0_t5).toNat := fun v1_0 k0_t4 arg22 v47 v49 k0_hw13 k0_t5 => k0_hw13.2.1 k0_t5
theorem k0_off22_inb : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t5 : Fin (k0_t5_loop v47 v49).trips), ∀ a, (k0_off22 v47 v49 k0_t5) a + S128x2048.size a ≤ S512x2048.size a := fun v1_0 k0_t4 arg22 v47 v49 k0_hw13 k0_t5 => k0_hw13.2.2.1 k0_t5
theorem k0_off23_inb : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t5 : Fin (k0_t5_loop v47 v49).trips), ∀ a, (k0_off23 v1_0 k0_t4) a + S1x2048x3072.size a ≤ S6x2048x3072.size a := fun v1_0 k0_t4 arg22 v47 v49 k0_hw13 k0_t5 => k0_hw13.2.2.2.1 k0_t5
theorem k0_off24_inb : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t5 : Fin (k0_t5_loop v47 v49).trips), ∀ a, (k0_off24 v47 v49 k0_t5) a + S128x1.size a ≤ S512x128.size a := fun v1_0 k0_t4 arg22 v47 v49 k0_hw13 k0_t5 => k0_hw13.2.2.2.2.1 k0_t5
theorem k0_off25_inb : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t5 : Fin (k0_t5_loop v47 v49).trips), ∀ a, (k0_off25 arg22 v47 v49 k0_t5) a + S1x128x3072.size a ≤ S2x512x3072.size a := fun v1_0 k0_t4 arg22 v47 v49 k0_hw13 k0_t5 => k0_hw13.2.2.2.2.2.1 k0_t5
theorem k0_off25_packedbf16 : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t5 : Fin (k0_t5_loop v47 v49).trips), (Rect.unit (s := S2x512x3072) (k0_off25 arg22 v47 v49 k0_t5) S1x128x3072.size (k0_off25_inb v1_0 k0_t4 arg22 v47 v49 k0_hw13 k0_t5)).PackedRows (EltTy.packing .bf16) := fun v1_0 k0_t4 arg22 v47 v49 k0_hw13 k0_t5 => k0_hw13.2.2.2.2.2.2.1 k0_t5 (k0_off25_inb v1_0 k0_t4 arg22 v47 v49 k0_hw13 k0_t5)
theorem k0_t6_ok : ∀ (v1_0 : BitVec 32) (k0_t4 : Fin (k0_t4_loop v1_0).trips) (arg22 : BitVec 32) (v47 : BitVec 32) (v49 : BitVec 32) (k0_hw13 : k0_chk13 v1_0 k0_t4 arg22 v47 v49), (k0_t6_loop v47 v49).OK := fun v1_0 k0_t4 arg22 v47 v49 k0_hw13 => k0_hw13.2.2.2.2.2.2.2.1
theorem k0_mult8_dvd : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t6 : Fin (k0_t6_loop v47 v49).trips), 32 ∣ (k0_mult8 v47 v49 k0_t6).toNat := fun v1_0 k0_t4 arg22 v47 v49 k0_hw13 k0_t6 => k0_hw13.2.2.2.2.2.2.2.2.1 k0_t6
theorem k0_off26_inb : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t6 : Fin (k0_t6_loop v47 v49).trips), ∀ a, (k0_off26 v47 v49 k0_t6) a + S128x2048.size a ≤ S512x2048.size a := fun v1_0 k0_t4 arg22 v47 v49 k0_hw13 k0_t6 => k0_hw13.2.2.2.2.2.2.2.2.2.1 k0_t6
theorem k0_off27_inb : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t6 : Fin (k0_t6_loop v47 v49).trips), ∀ a, (k0_off27 v1_0 k0_t4) a + S1x2048x3072.size a ≤ S6x2048x3072.size a := fun v1_0 k0_t4 arg22 v47 v49 k0_hw13 k0_t6 => k0_hw13.2.2.2.2.2.2.2.2.2.2.1 k0_t6
theorem k0_off28_inb : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t6 : Fin (k0_t6_loop v47 v49).trips), ∀ a, (k0_off28 v47 v49 k0_t6) a + S128x1.size a ≤ S512x128.size a := fun v1_0 k0_t4 arg22 v47 v49 k0_hw13 k0_t6 => k0_hw13.2.2.2.2.2.2.2.2.2.2.2.1 k0_t6
theorem k0_off29_inb : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t6 : Fin (k0_t6_loop v47 v49).trips), ∀ a, (k0_off29 arg22 v47 v49 k0_t6) a + S1x128x3072.size a ≤ S2x512x3072.size a := fun v1_0 k0_t4 arg22 v47 v49 k0_hw13 k0_t6 => k0_hw13.2.2.2.2.2.2.2.2.2.2.2.2.1 k0_t6
theorem k0_off29_packedbf16 : ∀ (v1_0 : BitVec 32) (k0_t4 : Fin (k0_t4_loop v1_0).trips) (arg22 : BitVec 32) (v47 : BitVec 32) (v49 : BitVec 32) (k0_hw13 : k0_chk13 v1_0 k0_t4 arg22 v47 v49) (k0_t6 : Fin (k0_t6_loop v47 v49).trips), (Rect.unit (s := S2x512x3072) (k0_off29 arg22 v47 v49 k0_t6) S1x128x3072.size (k0_off29_inb v1_0 k0_t4 arg22 v47 v49 k0_hw13 k0_t6)).PackedRows (EltTy.packing .bf16) := fun v1_0 k0_t4 arg22 v47 v49 k0_hw13 k0_t6 => k0_hw13.2.2.2.2.2.2.2.2.2.2.2.2.2 k0_t6 (k0_off29_inb v1_0 k0_t4 arg22 v47 v49 k0_hw13 k0_t6)

def k0_mult9 (arg22 : BitVec 32) : BitVec 32 :=
  let c3072_i32_61 : BitVec 32 := 3072#32
  let v89 : BitVec 32 := Scalar.muli arg22 c3072_i32_61
  v89
def k0_cond4 (v1_0 : BitVec 32) (arg21 : BitVec 32) : BitVec 1 :=
  let c1_i32_51 : BitVec 32 := 1#32
  let v73 : BitVec 32 := Scalar.subi v1_0 c1_i32_51
  let v74 : BitVec 1 := Scalar.cmpi .eq arg21 v73
  let v75 : BitVec 32 := Scalar.extui v74
  let c0_i32_52 : BitVec 32 := 0#32
  let v76 : BitVec 1 := Scalar.cmpi .ne v75 c0_i32_52
  v76

def k0_off30 (arg22 : BitVec 32) : Fin 1 → Nat :=
  let c2_i32_68 : BitVec 32 := 2#32
  let c0_i32_69 : BitVec 32 := 0#32
  let v101 : BitVec 1 := Scalar.cmpi .eq c2_i32_68 c0_i32_69
  let c1_i32_70 : BitVec 32 := 1#32
  let v102 : BitVec 32 := Scalar.select v101 c1_i32_70 c2_i32_68
  let v103 : BitVec 32 := Scalar.remsi arg22 v102
  let c0_i32_72 : BitVec 32 := 0#32
  let v105 : BitVec 1 := Scalar.cmpi .slt v103 c0_i32_72
  let c0_i32_73 : BitVec 32 := 0#32
  let v106 : BitVec 1 := Scalar.cmpi .slt v102 c0_i32_73
  let v107 : BitVec 1 := Scalar.xori v105 v106
  let c0_i32_71 : BitVec 32 := 0#32
  let v104 : BitVec 1 := Scalar.cmpi .ne v103 c0_i32_71
  let v108 : BitVec 1 := Scalar.andi v107 v104
  let v109 : BitVec 32 := Scalar.addi v103 v102
  let v110 : BitVec 32 := Scalar.select v108 v109 v103
  ![v110.toNat]
def k0_off31 (arg22 : BitVec 32) : Fin 2 → Nat :=
  let c0_i32_74 : BitVec 32 := 0#32
  let c3072_i32_61 : BitVec 32 := 3072#32
  let v89 : BitVec 32 := Scalar.muli arg22 c3072_i32_61
  let v90 : BitVec 32 := v89
  ![0, v90.toNat]
def k0_off32 (arg22 : BitVec 32) : Fin 3 → Nat :=
  let c2_i32_62 : BitVec 32 := 2#32
  let c0_i32_63 : BitVec 32 := 0#32
  let v91 : BitVec 1 := Scalar.cmpi .eq c2_i32_62 c0_i32_63
  let c1_i32_64 : BitVec 32 := 1#32
  let v92 : BitVec 32 := Scalar.select v91 c1_i32_64 c2_i32_62
  let v93 : BitVec 32 := Scalar.remsi arg22 v92
  let c0_i32_66 : BitVec 32 := 0#32
  let v95 : BitVec 1 := Scalar.cmpi .slt v93 c0_i32_66
  let c0_i32_67 : BitVec 32 := 0#32
  let v96 : BitVec 1 := Scalar.cmpi .slt v92 c0_i32_67
  let v97 : BitVec 1 := Scalar.xori v95 v96
  let c0_i32_65 : BitVec 32 := 0#32
  let v94 : BitVec 1 := Scalar.cmpi .ne v93 c0_i32_65
  let v98 : BitVec 1 := Scalar.andi v97 v94
  let v99 : BitVec 32 := Scalar.addi v93 v92
  let v100 : BitVec 32 := Scalar.select v98 v99 v93
  let c0_i32_75 : BitVec 32 := 0#32
  let c0_i32_76 : BitVec 32 := 0#32
  ![v100.toNat, 0, 0]

def k0_chk9 (v1_0 : BitVec 32) (arg21 : BitVec 32) (arg22 : BitVec 32) : Prop :=
  (∀ (k0_h3 : k0_cond3 arg21 arg22 = 1#1), 3072 ∣ (k0_mult4 arg22).toNat) ∧
  (∀ (k0_h3 : k0_cond3 arg21 arg22 = 1#1), ∀ a, (k0_off13 arg22) a + S1.size a ≤ S2.size a) ∧
  (∀ (k0_h3 : k0_cond3 arg21 arg22 = 1#1), ∀ a, (k0_off14 arg22) a + S512x3072.size a ≤ S512x6144.size a) ∧
  (∀ (k0_h3 : k0_cond3 arg21 arg22 = 1#1), ∀ a, (k0_off15 arg22) a + S1x512x3072.size a ≤ S2x512x3072.size a) ∧
  (∀ (k0_h3 : k0_cond3 arg21 arg22 = 1#1), ∀ (hinb : ∀ a, (k0_off15 arg22) a + S1x512x3072.size a ≤ S2x512x3072.size a), (Rect.unit (s := S2x512x3072) (k0_off15 arg22) S1x512x3072.size hinb).WholeWords (EltTy.packing .bf16)) ∧
  (∀ (k0_h3 : k0_cond3 arg21 arg22 = 1#1), ∀ (hinb : ∀ a, (k0_off14 arg22) a + S512x3072.size a ≤ S512x6144.size a), (Rect.unit (s := S512x6144) (k0_off14 arg22) S512x3072.size hinb).WholeWords (EltTy.packing .bf16)) ∧
  (3072 ∣ (k0_mult5 arg22).toNat) ∧
  (3072 ∣ (k0_mult6 arg22).toNat) ∧
  (∀ (k0_h4 : k0_cond4 v1_0 arg21 = 1#1), 3072 ∣ (k0_mult9 arg22).toNat) ∧
  (∀ (k0_h4 : k0_cond4 v1_0 arg21 = 1#1), ∀ a, (k0_off30 arg22) a + S1.size a ≤ S2.size a) ∧
  (∀ (k0_h4 : k0_cond4 v1_0 arg21 = 1#1), ∀ a, (k0_off31 arg22) a + S512x3072.size a ≤ S512x6144.size a) ∧
  (∀ (k0_h4 : k0_cond4 v1_0 arg21 = 1#1), ∀ a, (k0_off32 arg22) a + S1x512x3072.size a ≤ S2x512x3072.size a) ∧
  (∀ (k0_h4 : k0_cond4 v1_0 arg21 = 1#1), ∀ (hinb : ∀ a, (k0_off32 arg22) a + S1x512x3072.size a ≤ S2x512x3072.size a), (Rect.unit (s := S2x512x3072) (k0_off32 arg22) S1x512x3072.size hinb).WholeWords (EltTy.packing .bf16)) ∧
  (∀ (k0_h4 : k0_cond4 v1_0 arg21 = 1#1), ∀ (hinb : ∀ a, (k0_off31 arg22) a + S512x3072.size a ≤ S512x6144.size a), (Rect.unit (s := S512x6144) (k0_off31 arg22) S512x3072.size hinb).WholeWords (EltTy.packing .bf16))
theorem k0_mult4_dvd : ∀ (v1_0 : BitVec 32) (arg21 : BitVec 32) (arg22 : BitVec 32) (k0_hw9 : k0_chk9 v1_0 arg21 arg22), ∀ (k0_h3 : k0_cond3 arg21 arg22 = 1#1), 3072 ∣ (k0_mult4 arg22).toNat := fun v1_0 arg21 arg22 k0_hw9 k0_h3 => k0_hw9.1 k0_h3
theorem k0_off13_inb : ∀ (v1_0 : BitVec 32) (arg21 : BitVec 32) (arg22 : BitVec 32) (k0_hw9 : k0_chk9 v1_0 arg21 arg22), ∀ (k0_h3 : k0_cond3 arg21 arg22 = 1#1), ∀ a, (k0_off13 arg22) a + S1.size a ≤ S2.size a := fun v1_0 arg21 arg22 k0_hw9 k0_h3 => k0_hw9.2.1 k0_h3
theorem k0_off14_inb : ∀ (v1_0 : BitVec 32) (arg21 : BitVec 32) (arg22 : BitVec 32) (k0_hw9 : k0_chk9 v1_0 arg21 arg22), ∀ (k0_h3 : k0_cond3 arg21 arg22 = 1#1), ∀ a, (k0_off14 arg22) a + S512x3072.size a ≤ S512x6144.size a := fun v1_0 arg21 arg22 k0_hw9 k0_h3 => k0_hw9.2.2.1 k0_h3
theorem k0_off15_inb : ∀ (v1_0 : BitVec 32) (arg21 : BitVec 32) (arg22 : BitVec 32) (k0_hw9 : k0_chk9 v1_0 arg21 arg22), ∀ (k0_h3 : k0_cond3 arg21 arg22 = 1#1), ∀ a, (k0_off15 arg22) a + S1x512x3072.size a ≤ S2x512x3072.size a := fun v1_0 arg21 arg22 k0_hw9 k0_h3 => k0_hw9.2.2.2.1 k0_h3
theorem k0_off15_wordsbf16 : ∀ (v1_0 : BitVec 32) (arg21 : BitVec 32) (arg22 : BitVec 32) (k0_hw9 : k0_chk9 v1_0 arg21 arg22), ∀ (k0_h3 : k0_cond3 arg21 arg22 = 1#1), (Rect.unit (s := S2x512x3072) (k0_off15 arg22) S1x512x3072.size (k0_off15_inb v1_0 arg21 arg22 k0_hw9 k0_h3)).WholeWords (EltTy.packing .bf16) := fun v1_0 arg21 arg22 k0_hw9 k0_h3 => k0_hw9.2.2.2.2.1 k0_h3 (k0_off15_inb v1_0 arg21 arg22 k0_hw9 k0_h3)
theorem k0_off14_wordsbf16 : ∀ (v1_0 : BitVec 32) (arg21 : BitVec 32) (arg22 : BitVec 32) (k0_hw9 : k0_chk9 v1_0 arg21 arg22), ∀ (k0_h3 : k0_cond3 arg21 arg22 = 1#1), (Rect.unit (s := S512x6144) (k0_off14 arg22) S512x3072.size (k0_off14_inb v1_0 arg21 arg22 k0_hw9 k0_h3)).WholeWords (EltTy.packing .bf16) := fun v1_0 arg21 arg22 k0_hw9 k0_h3 => k0_hw9.2.2.2.2.2.1 k0_h3 (k0_off14_inb v1_0 arg21 arg22 k0_hw9 k0_h3)
theorem k0_mult5_dvd : ∀ (v1_0 : BitVec 32) (arg21 : BitVec 32) (arg22 : BitVec 32) (k0_hw9 : k0_chk9 v1_0 arg21 arg22), 3072 ∣ (k0_mult5 arg22).toNat := fun v1_0 arg21 arg22 k0_hw9 => k0_hw9.2.2.2.2.2.2.1
theorem k0_mult6_dvd : ∀ (v1_0 : BitVec 32) (arg21 : BitVec 32) (arg22 : BitVec 32) (k0_hw9 : k0_chk9 v1_0 arg21 arg22), 3072 ∣ (k0_mult6 arg22).toNat := fun v1_0 arg21 arg22 k0_hw9 => k0_hw9.2.2.2.2.2.2.2.1
theorem k0_mult9_dvd : ∀ (v1_0 : BitVec 32) (arg21 : BitVec 32) (arg22 : BitVec 32) (k0_hw9 : k0_chk9 v1_0 arg21 arg22), ∀ (k0_h4 : k0_cond4 v1_0 arg21 = 1#1), 3072 ∣ (k0_mult9 arg22).toNat := fun v1_0 arg21 arg22 k0_hw9 k0_h4 => k0_hw9.2.2.2.2.2.2.2.2.1 k0_h4
theorem k0_off30_inb : ∀ (v1_0 : BitVec 32) (arg21 : BitVec 32) (arg22 : BitVec 32) (k0_hw9 : k0_chk9 v1_0 arg21 arg22), ∀ (k0_h4 : k0_cond4 v1_0 arg21 = 1#1), ∀ a, (k0_off30 arg22) a + S1.size a ≤ S2.size a := fun v1_0 arg21 arg22 k0_hw9 k0_h4 => k0_hw9.2.2.2.2.2.2.2.2.2.1 k0_h4
theorem k0_off31_inb : ∀ (v1_0 : BitVec 32) (arg21 : BitVec 32) (arg22 : BitVec 32) (k0_hw9 : k0_chk9 v1_0 arg21 arg22), ∀ (k0_h4 : k0_cond4 v1_0 arg21 = 1#1), ∀ a, (k0_off31 arg22) a + S512x3072.size a ≤ S512x6144.size a := fun v1_0 arg21 arg22 k0_hw9 k0_h4 => k0_hw9.2.2.2.2.2.2.2.2.2.2.1 k0_h4
theorem k0_off32_inb : ∀ (v1_0 : BitVec 32) (arg21 : BitVec 32) (arg22 : BitVec 32) (k0_hw9 : k0_chk9 v1_0 arg21 arg22), ∀ (k0_h4 : k0_cond4 v1_0 arg21 = 1#1), ∀ a, (k0_off32 arg22) a + S1x512x3072.size a ≤ S2x512x3072.size a := fun v1_0 arg21 arg22 k0_hw9 k0_h4 => k0_hw9.2.2.2.2.2.2.2.2.2.2.2.1 k0_h4
theorem k0_off32_wordsbf16 : ∀ (v1_0 : BitVec 32) (arg21 : BitVec 32) (arg22 : BitVec 32) (k0_hw9 : k0_chk9 v1_0 arg21 arg22), ∀ (k0_h4 : k0_cond4 v1_0 arg21 = 1#1), (Rect.unit (s := S2x512x3072) (k0_off32 arg22) S1x512x3072.size (k0_off32_inb v1_0 arg21 arg22 k0_hw9 k0_h4)).WholeWords (EltTy.packing .bf16) := fun v1_0 arg21 arg22 k0_hw9 k0_h4 => k0_hw9.2.2.2.2.2.2.2.2.2.2.2.2.1 k0_h4 (k0_off32_inb v1_0 arg21 arg22 k0_hw9 k0_h4)
theorem k0_off31_wordsbf16 : ∀ (v1_0 : BitVec 32) (arg21 : BitVec 32) (arg22 : BitVec 32) (k0_hw9 : k0_chk9 v1_0 arg21 arg22), ∀ (k0_h4 : k0_cond4 v1_0 arg21 = 1#1), (Rect.unit (s := S512x6144) (k0_off31 arg22) S512x3072.size (k0_off31_inb v1_0 arg21 arg22 k0_hw9 k0_h4)).WholeWords (EltTy.packing .bf16) := fun v1_0 arg21 arg22 k0_hw9 k0_h4 => k0_hw9.2.2.2.2.2.2.2.2.2.2.2.2.2 k0_h4 (k0_off31_inb v1_0 arg21 arg22 k0_hw9 k0_h4)

@[reducible] def k0_t7_loop (v1_0 : BitVec 32) : Scf.Loop 32 :=
  let c0_i32_11 : BitVec 32 := 0#32
  let c2_i32 : BitVec 32 := 2#32
  let v2 : BitVec 32 := Scalar.muli v1_0 c2_i32
  let v6 : BitVec 32 := Scalar.subi v2 c0_i32_11
  let c1_i32_14 : BitVec 32 := 1#32
  let v8 : BitVec 32 := Scalar.divsi v6 c1_i32_14
  let v9 : BitVec 32 := Scalar.muli v8 c1_i32_14
  let v10 : BitVec 32 := Scalar.addi c0_i32_11 v9
  let v7 : BitVec 32 := Scalar.addi c0_i32_11 v6
  let c1_i32_16 : BitVec 32 := 1#32
  ⟨v10, v7, c1_i32_16⟩
def k0_mult10 (arg24 : BitVec 32) : BitVec 32 :=
  let c3072_i32_64 : BitVec 32 := 3072#32
  let v92 : BitVec 32 := Scalar.muli arg24 c3072_i32_64
  v92
def k0_cond5 (v1_0 : BitVec 32) (k0_t7 : Fin (k0_t7_loop v1_0).trips) : BitVec 1 :=
  let c0_i32_11 : BitVec 32 := 0#32
  let c2_i32 : BitVec 32 := 2#32
  let v2 : BitVec 32 := Scalar.muli v1_0 c2_i32
  let v6 : BitVec 32 := Scalar.subi v2 c0_i32_11
  let c1_i32_14 : BitVec 32 := 1#32
  let v8 : BitVec 32 := Scalar.divsi v6 c1_i32_14
  let v9 : BitVec 32 := Scalar.muli v8 c1_i32_14
  let v10 : BitVec 32 := Scalar.addi c0_i32_11 v9
  let c1_i32_16 : BitVec 32 := 1#32
  let arg20 : BitVec 32 := Scf.iv v10 c1_i32_16 k0_t7
  let c6_i32_28 : BitVec 32 := 6#32
  let v26 : BitVec 32 := Scalar.addi arg20 c6_i32_28
  let c1_i32_29 : BitVec 32 := 1#32
  let v27 : BitVec 32 := Scalar.subi v26 c1_i32_29
  let v28 : BitVec 1 := Scalar.cmpi .slt v27 v2
  let v29 : BitVec 32 := Scalar.extui v28
  let c0_i32_30 : BitVec 32 := 0#32
  let v30 : BitVec 1 := Scalar.cmpi .ne v29 c0_i32_30
  v30

def k0_chk14 (v1_0 : BitVec 32) (k0_t7 : Fin (k0_t7_loop v1_0).trips) (arg24 : BitVec 32) : Prop :=
  (∀ (k0_h5 : k0_cond5 v1_0 k0_t7 = 1#1), 3072 ∣ (k0_mult10 arg24).toNat)
theorem k0_mult10_dvd : ∀ (v1_0 : BitVec 32) (k0_t7 : Fin (k0_t7_loop v1_0).trips) (arg24 : BitVec 32) (k0_hw14 : k0_chk14 v1_0 k0_t7 arg24), ∀ (k0_h5 : k0_cond5 v1_0 k0_t7 = 1#1), 3072 ∣ (k0_mult10 arg24).toNat := fun v1_0 k0_t7 arg24 k0_hw14 k0_h5 => k0_hw14 k0_h5

def k0_off33 (arg23 : BitVec 32) : Fin 1 → Nat :=
  let v94 : Index := Scalar.indexCast arg23
  ![v94.toNat]

def k0_chk15 (v1_0 : BitVec 32) (k0_t7 : Fin (k0_t7_loop v1_0).trips) (arg23 : BitVec 32) : Prop :=
  (∀ (k0_h5 : k0_cond5 v1_0 k0_t7 = 1#1), ∀ a, (k0_off33 arg23) a + S1.size a ≤ S16.size a)
theorem k0_off33_inb : ∀ (v1_0 : BitVec 32) (k0_t7 : Fin (k0_t7_loop v1_0).trips) (arg23 : BitVec 32) (k0_hw15 : k0_chk15 v1_0 k0_t7 arg23), ∀ (k0_h5 : k0_cond5 v1_0 k0_t7 = 1#1), ∀ a, (k0_off33 arg23) a + S1.size a ≤ S16.size a := fun v1_0 k0_t7 arg23 k0_hw15 k0_h5 => k0_hw15 k0_h5

def k0_off34 (v1_0 : BitVec 32) (k0_t7 : Fin (k0_t7_loop v1_0).trips) : Fin 1 → Nat :=
  let c0_i32_11 : BitVec 32 := 0#32
  let c2_i32 : BitVec 32 := 2#32
  let v2 : BitVec 32 := Scalar.muli v1_0 c2_i32
  let v6 : BitVec 32 := Scalar.subi v2 c0_i32_11
  let c1_i32_14 : BitVec 32 := 1#32
  let v8 : BitVec 32 := Scalar.divsi v6 c1_i32_14
  let v9 : BitVec 32 := Scalar.muli v8 c1_i32_14
  let v10 : BitVec 32 := Scalar.addi c0_i32_11 v9
  let c1_i32_16 : BitVec 32 := 1#32
  let arg20 : BitVec 32 := Scf.iv v10 c1_i32_16 k0_t7
  let c6_i32_61 : BitVec 32 := 6#32
  let v89 : BitVec 32 := Scalar.addi arg20 c6_i32_61
  let c1_i32_62 : BitVec 32 := 1#32
  let v90 : BitVec 32 := Scalar.subi v89 c1_i32_62
  let c6_i32_63 : BitVec 32 := 6#32
  let v91 : BitVec 32 := Scalar.remsi v90 c6_i32_63
  ![v91.toNat]
def k0_off35 (v1_0 : BitVec 32) (k0_t7 : Fin (k0_t7_loop v1_0).trips) : Fin 3 → Nat :=
  let c0_i32_11 : BitVec 32 := 0#32
  let c2_i32 : BitVec 32 := 2#32
  let v2 : BitVec 32 := Scalar.muli v1_0 c2_i32
  let v6 : BitVec 32 := Scalar.subi v2 c0_i32_11
  let c1_i32_14 : BitVec 32 := 1#32
  let v8 : BitVec 32 := Scalar.divsi v6 c1_i32_14
  let v9 : BitVec 32 := Scalar.muli v8 c1_i32_14
  let v10 : BitVec 32 := Scalar.addi c0_i32_11 v9
  let c1_i32_16 : BitVec 32 := 1#32
  let arg20 : BitVec 32 := Scf.iv v10 c1_i32_16 k0_t7
  let c6_i32_61 : BitVec 32 := 6#32
  let v89 : BitVec 32 := Scalar.addi arg20 c6_i32_61
  let c1_i32_62 : BitVec 32 := 1#32
  let v90 : BitVec 32 := Scalar.subi v89 c1_i32_62
  let c6_i32_63 : BitVec 32 := 6#32
  let v91 : BitVec 32 := Scalar.remsi v90 c6_i32_63
  let c0_i32_65 : BitVec 32 := 0#32
  let c0_i32_66 : BitVec 32 := 0#32
  ![v91.toNat, 0, 0]
def k0_off36 (arg24 : BitVec 32) (v95 : BitVec 32) : Fin 3 → Nat :=
  let c0_i32_67 : BitVec 32 := 0#32
  let c3072_i32_64 : BitVec 32 := 3072#32
  let v92 : BitVec 32 := Scalar.muli arg24 c3072_i32_64
  let v93 : BitVec 32 := v92
  ![v95.toNat, 0, v93.toNat]

def k0_chk16 (v1_0 : BitVec 32) (k0_t7 : Fin (k0_t7_loop v1_0).trips) (arg24 : BitVec 32) (v95 : BitVec 32) : Prop :=
  (∀ (k0_h5 : k0_cond5 v1_0 k0_t7 = 1#1), ∀ a, (k0_off36 arg24 v95) a + S1x2048x3072.size a ≤ S16x2048x6144.size a) ∧
  (∀ (k0_h5 : k0_cond5 v1_0 k0_t7 = 1#1), ∀ (hinb : ∀ a, (k0_off36 arg24 v95) a + S1x2048x3072.size a ≤ S16x2048x6144.size a), (Rect.unit (s := S16x2048x6144) (k0_off36 arg24 v95) S1x2048x3072.size hinb).WholeWords (EltTy.packing .fp8e4m3))
theorem k0_off36_inb : ∀ (v1_0 : BitVec 32) (k0_t7 : Fin (k0_t7_loop v1_0).trips) (arg24 : BitVec 32) (v95 : BitVec 32) (k0_hw16 : k0_chk16 v1_0 k0_t7 arg24 v95), ∀ (k0_h5 : k0_cond5 v1_0 k0_t7 = 1#1), ∀ a, (k0_off36 arg24 v95) a + S1x2048x3072.size a ≤ S16x2048x6144.size a := fun v1_0 k0_t7 arg24 v95 k0_hw16 k0_h5 => k0_hw16.1 k0_h5
theorem k0_off36_wordsfp8e4m3 : ∀ (v1_0 : BitVec 32) (k0_t7 : Fin (k0_t7_loop v1_0).trips) (arg24 : BitVec 32) (v95 : BitVec 32) (k0_hw16 : k0_chk16 v1_0 k0_t7 arg24 v95), ∀ (k0_h5 : k0_cond5 v1_0 k0_t7 = 1#1), (Rect.unit (s := S16x2048x6144) (k0_off36 arg24 v95) S1x2048x3072.size (k0_off36_inb v1_0 k0_t7 arg24 v95 k0_hw16 k0_h5)).WholeWords (EltTy.packing .fp8e4m3) := fun v1_0 k0_t7 arg24 v95 k0_hw16 k0_h5 => k0_hw16.2 k0_h5 (k0_off36_inb v1_0 k0_t7 arg24 v95 k0_hw16 k0_h5)

def k0_mult11 (arg22 : BitVec 32) : BitVec 32 :=
  let c2_i32_61 : BitVec 32 := 2#32
  let v89 : BitVec 32 := Scalar.subi arg22 c2_i32_61
  let c3072_i32_62 : BitVec 32 := 3072#32
  let v90 : BitVec 32 := Scalar.muli v89 c3072_i32_62
  v90
def k0_cond6 (arg21 : BitVec 32) (arg22 : BitVec 32) : BitVec 1 :=
  let c0_i32_31 : BitVec 32 := 0#32
  let v31 : BitVec 1 := Scalar.cmpi .eq arg21 c0_i32_31
  let c2_i32_32 : BitVec 32 := 2#32
  let v32 : BitVec 1 := Scalar.cmpi .sge arg22 c2_i32_32
  let v33 : BitVec 1 := Scalar.andi v31 v32
  let v34 : BitVec 32 := Scalar.extui v33
  let c0_i32_33 : BitVec 32 := 0#32
  let v35 : BitVec 1 := Scalar.cmpi .ne v34 c0_i32_33
  v35

def k0_off37 (arg22 : BitVec 32) : Fin 1 → Nat :=
  let c2_i32_61 : BitVec 32 := 2#32
  let v89 : BitVec 32 := Scalar.subi arg22 c2_i32_61
  let c2_i32_69 : BitVec 32 := 2#32
  let c0_i32_70 : BitVec 32 := 0#32
  let v102 : BitVec 1 := Scalar.cmpi .eq c2_i32_69 c0_i32_70
  let c1_i32_71 : BitVec 32 := 1#32
  let v103 : BitVec 32 := Scalar.select v102 c1_i32_71 c2_i32_69
  let v104 : BitVec 32 := Scalar.remsi v89 v103
  let c0_i32_73 : BitVec 32 := 0#32
  let v106 : BitVec 1 := Scalar.cmpi .slt v104 c0_i32_73
  let c0_i32_74 : BitVec 32 := 0#32
  let v107 : BitVec 1 := Scalar.cmpi .slt v103 c0_i32_74
  let v108 : BitVec 1 := Scalar.xori v106 v107
  let c0_i32_72 : BitVec 32 := 0#32
  let v105 : BitVec 1 := Scalar.cmpi .ne v104 c0_i32_72
  let v109 : BitVec 1 := Scalar.andi v108 v105
  let v110 : BitVec 32 := Scalar.addi v104 v103
  let v111 : BitVec 32 := Scalar.select v109 v110 v104
  ![v111.toNat]
def k0_off38 (arg22 : BitVec 32) : Fin 2 → Nat :=
  let c0_i32_75 : BitVec 32 := 0#32
  let c2_i32_61 : BitVec 32 := 2#32
  let v89 : BitVec 32 := Scalar.subi arg22 c2_i32_61
  let c3072_i32_62 : BitVec 32 := 3072#32
  let v90 : BitVec 32 := Scalar.muli v89 c3072_i32_62
  let v91 : BitVec 32 := v90
  ![0, v91.toNat]
def k0_off39 (arg22 : BitVec 32) : Fin 3 → Nat :=
  let c2_i32_61 : BitVec 32 := 2#32
  let v89 : BitVec 32 := Scalar.subi arg22 c2_i32_61
  let c2_i32_63 : BitVec 32 := 2#32
  let c0_i32_64 : BitVec 32 := 0#32
  let v92 : BitVec 1 := Scalar.cmpi .eq c2_i32_63 c0_i32_64
  let c1_i32_65 : BitVec 32 := 1#32
  let v93 : BitVec 32 := Scalar.select v92 c1_i32_65 c2_i32_63
  let v94 : BitVec 32 := Scalar.remsi v89 v93
  let c0_i32_67 : BitVec 32 := 0#32
  let v96 : BitVec 1 := Scalar.cmpi .slt v94 c0_i32_67
  let c0_i32_68 : BitVec 32 := 0#32
  let v97 : BitVec 1 := Scalar.cmpi .slt v93 c0_i32_68
  let v98 : BitVec 1 := Scalar.xori v96 v97
  let c0_i32_66 : BitVec 32 := 0#32
  let v95 : BitVec 1 := Scalar.cmpi .ne v94 c0_i32_66
  let v99 : BitVec 1 := Scalar.andi v98 v95
  let v100 : BitVec 32 := Scalar.addi v94 v93
  let v101 : BitVec 32 := Scalar.select v99 v100 v94
  let c0_i32_76 : BitVec 32 := 0#32
  let c0_i32_77 : BitVec 32 := 0#32
  ![v101.toNat, 0, 0]
def k0_mult12 (arg22 : BitVec 32) : BitVec 32 :=
  let c3072_i32_34 : BitVec 32 := 3072#32
  let v36 : BitVec 32 := Scalar.muli arg22 c3072_i32_34
  v36
def k0_off40 (arg21 : BitVec 32) : Fin 1 → Nat :=
  let v38 : Index := Scalar.indexCast arg21
  ![v38.toNat]

def k0_off41 (v1_0 : BitVec 32) (k0_t7 : Fin (k0_t7_loop v1_0).trips) : Fin 1 → Nat :=
  let c0_i32_11 : BitVec 32 := 0#32
  let c2_i32 : BitVec 32 := 2#32
  let v2 : BitVec 32 := Scalar.muli v1_0 c2_i32
  let v6 : BitVec 32 := Scalar.subi v2 c0_i32_11
  let c1_i32_14 : BitVec 32 := 1#32
  let v8 : BitVec 32 := Scalar.divsi v6 c1_i32_14
  let v9 : BitVec 32 := Scalar.muli v8 c1_i32_14
  let v10 : BitVec 32 := Scalar.addi c0_i32_11 v9
  let c1_i32_16 : BitVec 32 := 1#32
  let arg20 : BitVec 32 := Scf.iv v10 c1_i32_16 k0_t7
  let c6_i32 : BitVec 32 := 6#32
  let v25 : BitVec 32 := Scalar.remsi arg20 c6_i32
  ![v25.toNat]
def k0_off42 (v1_0 : BitVec 32) (k0_t7 : Fin (k0_t7_loop v1_0).trips) : Fin 3 → Nat :=
  let c0_i32_11 : BitVec 32 := 0#32
  let c2_i32 : BitVec 32 := 2#32
  let v2 : BitVec 32 := Scalar.muli v1_0 c2_i32
  let v6 : BitVec 32 := Scalar.subi v2 c0_i32_11
  let c1_i32_14 : BitVec 32 := 1#32
  let v8 : BitVec 32 := Scalar.divsi v6 c1_i32_14
  let v9 : BitVec 32 := Scalar.muli v8 c1_i32_14
  let v10 : BitVec 32 := Scalar.addi c0_i32_11 v9
  let c1_i32_16 : BitVec 32 := 1#32
  let arg20 : BitVec 32 := Scf.iv v10 c1_i32_16 k0_t7
  let c6_i32 : BitVec 32 := 6#32
  let v25 : BitVec 32 := Scalar.remsi arg20 c6_i32
  let c0_i32_35 : BitVec 32 := 0#32
  let c0_i32_36 : BitVec 32 := 0#32
  ![v25.toNat, 0, 0]
def k0_off43 (arg22 : BitVec 32) (v39 : BitVec 32) : Fin 3 → Nat :=
  let c0_i32_37 : BitVec 32 := 0#32
  let c3072_i32_34 : BitVec 32 := 3072#32
  let v36 : BitVec 32 := Scalar.muli arg22 c3072_i32_34
  let v37 : BitVec 32 := v36
  ![v39.toNat, 0, v37.toNat]

def k0_chk19 (arg22 : BitVec 32) (v39 : BitVec 32) : Prop :=
  (∀ a, (k0_off43 arg22 v39) a + S1x2048x3072.size a ≤ S16x2048x6144.size a) ∧
  (∀ (hinb : ∀ a, (k0_off43 arg22 v39) a + S1x2048x3072.size a ≤ S16x2048x6144.size a), (Rect.unit (s := S16x2048x6144) (k0_off43 arg22 v39) S1x2048x3072.size hinb).WholeWords (EltTy.packing .fp8e4m3))
theorem k0_off43_inb : ∀ (arg22 : BitVec 32) (v39 : BitVec 32) (k0_hw19 : k0_chk19 arg22 v39), ∀ a, (k0_off43 arg22 v39) a + S1x2048x3072.size a ≤ S16x2048x6144.size a := fun arg22 v39 k0_hw19 => k0_hw19.1
theorem k0_off43_wordsfp8e4m3 : ∀ (arg22 : BitVec 32) (v39 : BitVec 32) (k0_hw19 : k0_chk19 arg22 v39), (Rect.unit (s := S16x2048x6144) (k0_off43 arg22 v39) S1x2048x3072.size (k0_off43_inb arg22 v39 k0_hw19)).WholeWords (EltTy.packing .fp8e4m3) := fun arg22 v39 k0_hw19 => k0_hw19.2 (k0_off43_inb arg22 v39 k0_hw19)

def k0_chk5 (v1_0 : BitVec 32) : Prop :=
  ((k0_t4_loop v1_0).OK) ∧
  (∀ k0_t4 : Fin (k0_t4_loop v1_0).trips, ∀ (k0_h2 : k0_cond2 v1_0 k0_t4 = 1#1), ∀ a, (k0_off10 v1_0 k0_t4) a + S1.size a ≤ S6.size a) ∧
  (∀ k0_t4 : Fin (k0_t4_loop v1_0).trips, ∀ (k0_h2 : k0_cond2 v1_0 k0_t4 = 1#1), ∀ a, (k0_off11 v1_0 k0_t4) a + S1x2048x3072.size a ≤ S6x2048x3072.size a) ∧
  (∀ k0_t4 : Fin (k0_t4_loop v1_0).trips, ∀ (k0_h2 : k0_cond2 v1_0 k0_t4 = 1#1), ∀ (hinb : ∀ a, (k0_off11 v1_0 k0_t4) a + S1x2048x3072.size a ≤ S6x2048x3072.size a), (Rect.unit (s := S6x2048x3072) (k0_off11 v1_0 k0_t4) S1x2048x3072.size hinb).WholeWords (EltTy.packing .fp8e4m3)) ∧
  (∀ k0_t4 : Fin (k0_t4_loop v1_0).trips, ∀ a, (k0_off17 v1_0 k0_t4) a + S1.size a ≤ S6.size a) ∧
  (∀ k0_t4 : Fin (k0_t4_loop v1_0).trips, ∀ a, (k0_off18 v1_0 k0_t4) a + S1x2048x3072.size a ≤ S6x2048x3072.size a) ∧
  (∀ k0_t4 : Fin (k0_t4_loop v1_0).trips, ∀ (hinb : ∀ a, (k0_off18 v1_0 k0_t4) a + S1x2048x3072.size a ≤ S6x2048x3072.size a), (Rect.unit (s := S6x2048x3072) (k0_off18 v1_0 k0_t4) S1x2048x3072.size hinb).WholeWords (EltTy.packing .fp8e4m3)) ∧
  ((k0_t7_loop v1_0).OK) ∧
  (∀ k0_t7 : Fin (k0_t7_loop v1_0).trips, ∀ (k0_h5 : k0_cond5 v1_0 k0_t7 = 1#1), ∀ a, (k0_off34 v1_0 k0_t7) a + S1.size a ≤ S6.size a) ∧
  (∀ k0_t7 : Fin (k0_t7_loop v1_0).trips, ∀ (k0_h5 : k0_cond5 v1_0 k0_t7 = 1#1), ∀ a, (k0_off35 v1_0 k0_t7) a + S1x2048x3072.size a ≤ S6x2048x3072.size a) ∧
  (∀ k0_t7 : Fin (k0_t7_loop v1_0).trips, ∀ (k0_h5 : k0_cond5 v1_0 k0_t7 = 1#1), ∀ (hinb : ∀ a, (k0_off35 v1_0 k0_t7) a + S1x2048x3072.size a ≤ S6x2048x3072.size a), (Rect.unit (s := S6x2048x3072) (k0_off35 v1_0 k0_t7) S1x2048x3072.size hinb).WholeWords (EltTy.packing .fp8e4m3)) ∧
  (∀ k0_t7 : Fin (k0_t7_loop v1_0).trips, ∀ a, (k0_off41 v1_0 k0_t7) a + S1.size a ≤ S6.size a) ∧
  (∀ k0_t7 : Fin (k0_t7_loop v1_0).trips, ∀ a, (k0_off42 v1_0 k0_t7) a + S1x2048x3072.size a ≤ S6x2048x3072.size a) ∧
  (∀ k0_t7 : Fin (k0_t7_loop v1_0).trips, ∀ (hinb : ∀ a, (k0_off42 v1_0 k0_t7) a + S1x2048x3072.size a ≤ S6x2048x3072.size a), (Rect.unit (s := S6x2048x3072) (k0_off42 v1_0 k0_t7) S1x2048x3072.size hinb).WholeWords (EltTy.packing .fp8e4m3))
theorem k0_t4_ok : ∀ (v1_0 : BitVec 32) (k0_hw5 : k0_chk5 v1_0), (k0_t4_loop v1_0).OK := fun v1_0 k0_hw5 => k0_hw5.1
theorem k0_off10_inb : ∀ (v1_0 : BitVec 32) (k0_hw5 : k0_chk5 v1_0) (k0_t4 : Fin (k0_t4_loop v1_0).trips), ∀ (k0_h2 : k0_cond2 v1_0 k0_t4 = 1#1), ∀ a, (k0_off10 v1_0 k0_t4) a + S1.size a ≤ S6.size a := fun v1_0 k0_hw5 k0_t4 k0_h2 => k0_hw5.2.1 k0_t4 k0_h2
theorem k0_off11_inb : ∀ (v1_0 : BitVec 32) (k0_hw5 : k0_chk5 v1_0) (k0_t4 : Fin (k0_t4_loop v1_0).trips), ∀ (k0_h2 : k0_cond2 v1_0 k0_t4 = 1#1), ∀ a, (k0_off11 v1_0 k0_t4) a + S1x2048x3072.size a ≤ S6x2048x3072.size a := fun v1_0 k0_hw5 k0_t4 k0_h2 => k0_hw5.2.2.1 k0_t4 k0_h2
theorem k0_off11_wordsfp8e4m3 : ∀ (v1_0 : BitVec 32) (k0_hw5 : k0_chk5 v1_0) (k0_t4 : Fin (k0_t4_loop v1_0).trips), ∀ (k0_h2 : k0_cond2 v1_0 k0_t4 = 1#1), (Rect.unit (s := S6x2048x3072) (k0_off11 v1_0 k0_t4) S1x2048x3072.size (k0_off11_inb v1_0 k0_hw5 k0_t4 k0_h2)).WholeWords (EltTy.packing .fp8e4m3) := fun v1_0 k0_hw5 k0_t4 k0_h2 => k0_hw5.2.2.2.1 k0_t4 k0_h2 (k0_off11_inb v1_0 k0_hw5 k0_t4 k0_h2)
theorem k0_off17_inb : ∀ (v1_0 : BitVec 32) (k0_hw5 : k0_chk5 v1_0) (k0_t4 : Fin (k0_t4_loop v1_0).trips), ∀ a, (k0_off17 v1_0 k0_t4) a + S1.size a ≤ S6.size a := fun v1_0 k0_hw5 k0_t4 => k0_hw5.2.2.2.2.1 k0_t4
theorem k0_off18_inb : ∀ (v1_0 : BitVec 32) (k0_hw5 : k0_chk5 v1_0) (k0_t4 : Fin (k0_t4_loop v1_0).trips), ∀ a, (k0_off18 v1_0 k0_t4) a + S1x2048x3072.size a ≤ S6x2048x3072.size a := fun v1_0 k0_hw5 k0_t4 => k0_hw5.2.2.2.2.2.1 k0_t4
theorem k0_off18_wordsfp8e4m3 : ∀ (v1_0 : BitVec 32) (k0_hw5 : k0_chk5 v1_0) (k0_t4 : Fin (k0_t4_loop v1_0).trips), (Rect.unit (s := S6x2048x3072) (k0_off18 v1_0 k0_t4) S1x2048x3072.size (k0_off18_inb v1_0 k0_hw5 k0_t4)).WholeWords (EltTy.packing .fp8e4m3) := fun v1_0 k0_hw5 k0_t4 => k0_hw5.2.2.2.2.2.2.1 k0_t4 (k0_off18_inb v1_0 k0_hw5 k0_t4)
theorem k0_t7_ok : ∀ (v1_0 : BitVec 32) (k0_hw5 : k0_chk5 v1_0), (k0_t7_loop v1_0).OK := fun v1_0 k0_hw5 => k0_hw5.2.2.2.2.2.2.2.1
theorem k0_off34_inb : ∀ (v1_0 : BitVec 32) (k0_hw5 : k0_chk5 v1_0) (k0_t7 : Fin (k0_t7_loop v1_0).trips), ∀ (k0_h5 : k0_cond5 v1_0 k0_t7 = 1#1), ∀ a, (k0_off34 v1_0 k0_t7) a + S1.size a ≤ S6.size a := fun v1_0 k0_hw5 k0_t7 k0_h5 => k0_hw5.2.2.2.2.2.2.2.2.1 k0_t7 k0_h5
theorem k0_off35_inb : ∀ (v1_0 : BitVec 32) (k0_hw5 : k0_chk5 v1_0) (k0_t7 : Fin (k0_t7_loop v1_0).trips), ∀ (k0_h5 : k0_cond5 v1_0 k0_t7 = 1#1), ∀ a, (k0_off35 v1_0 k0_t7) a + S1x2048x3072.size a ≤ S6x2048x3072.size a := fun v1_0 k0_hw5 k0_t7 k0_h5 => k0_hw5.2.2.2.2.2.2.2.2.2.1 k0_t7 k0_h5
theorem k0_off35_wordsfp8e4m3 : ∀ (v1_0 : BitVec 32) (k0_hw5 : k0_chk5 v1_0) (k0_t7 : Fin (k0_t7_loop v1_0).trips), ∀ (k0_h5 : k0_cond5 v1_0 k0_t7 = 1#1), (Rect.unit (s := S6x2048x3072) (k0_off35 v1_0 k0_t7) S1x2048x3072.size (k0_off35_inb v1_0 k0_hw5 k0_t7 k0_h5)).WholeWords (EltTy.packing .fp8e4m3) := fun v1_0 k0_hw5 k0_t7 k0_h5 => k0_hw5.2.2.2.2.2.2.2.2.2.2.1 k0_t7 k0_h5 (k0_off35_inb v1_0 k0_hw5 k0_t7 k0_h5)
theorem k0_off41_inb : ∀ (v1_0 : BitVec 32) (k0_hw5 : k0_chk5 v1_0) (k0_t7 : Fin (k0_t7_loop v1_0).trips), ∀ a, (k0_off41 v1_0 k0_t7) a + S1.size a ≤ S6.size a := fun v1_0 k0_hw5 k0_t7 => k0_hw5.2.2.2.2.2.2.2.2.2.2.2.1 k0_t7
theorem k0_off42_inb : ∀ (v1_0 : BitVec 32) (k0_hw5 : k0_chk5 v1_0) (k0_t7 : Fin (k0_t7_loop v1_0).trips), ∀ a, (k0_off42 v1_0 k0_t7) a + S1x2048x3072.size a ≤ S6x2048x3072.size a := fun v1_0 k0_hw5 k0_t7 => k0_hw5.2.2.2.2.2.2.2.2.2.2.2.2.1 k0_t7
theorem k0_off42_wordsfp8e4m3 : ∀ (v1_0 : BitVec 32) (k0_hw5 : k0_chk5 v1_0) (k0_t7 : Fin (k0_t7_loop v1_0).trips), (Rect.unit (s := S6x2048x3072) (k0_off42 v1_0 k0_t7) S1x2048x3072.size (k0_off42_inb v1_0 k0_hw5 k0_t7)).WholeWords (EltTy.packing .fp8e4m3) := fun v1_0 k0_hw5 k0_t7 => k0_hw5.2.2.2.2.2.2.2.2.2.2.2.2.2 k0_t7 (k0_off42_inb v1_0 k0_hw5 k0_t7)

def k0_off44 (arg21 : BitVec 32) : Fin 1 → Nat :=
  let v46 : Index := Scalar.indexCast arg21
  ![v46.toNat]

def k0_chk18 (arg21 : BitVec 32) : Prop :=
  (∀ a, (k0_off40 arg21) a + S1.size a ≤ S16.size a) ∧
  (∀ a, (k0_off44 arg21) a + S1.size a ≤ S16.size a)
theorem k0_off40_inb : ∀ (arg21 : BitVec 32) (k0_hw18 : k0_chk18 arg21), ∀ a, (k0_off40 arg21) a + S1.size a ≤ S16.size a := fun arg21 k0_hw18 => k0_hw18.1
theorem k0_off44_inb : ∀ (arg21 : BitVec 32) (k0_hw18 : k0_chk18 arg21), ∀ a, (k0_off44 arg21) a + S1.size a ≤ S16.size a := fun arg21 k0_hw18 => k0_hw18.2

def k0_mult13 (arg22 : BitVec 32) : BitVec 32 :=
  let c3072_i32_39 : BitVec 32 := 3072#32
  let v55 : BitVec 32 := Scalar.muli arg22 c3072_i32_39
  v55
def k0_off45 (arg22 : BitVec 32) (v58 : BitVec 32) : Fin 3 → Nat :=
  let v59 : Index := Scalar.indexCast v58
  let c0 : Index := 0#32
  let c3072_i32_39 : BitVec 32 := 3072#32
  let v55 : BitVec 32 := Scalar.muli arg22 c3072_i32_39
  let v56 : BitVec 32 := v55
  let v60 : Index := Scalar.indexCast v56
  ![v59.toNat, 0, v60.toNat]

def k0_chk20 (arg22 : BitVec 32) (v58 : BitVec 32) : Prop :=
  (∀ a, (k0_off45 arg22 v58) a + S1x1x3072.size a ≤ S16x1x6144.size a)
theorem k0_off45_inb : ∀ (arg22 : BitVec 32) (v58 : BitVec 32) (k0_hw20 : k0_chk20 arg22 v58), ∀ a, (k0_off45 arg22 v58) a + S1x1x3072.size a ≤ S16x1x6144.size a := fun arg22 v58 k0_hw20 => k0_hw20

@[reducible] def k0_t8_loop (v47 : BitVec 32) (v49 : BitVec 32) : Scf.Loop 32 :=
  let c0_i32_47 : BitVec 32 := 0#32
  let c32_i32 : BitVec 32 := 32#32
  let v50 : BitVec 32 := Scalar.divsi v47 c32_i32
  let c32_i32_38 : BitVec 32 := 32#32
  let v51 : BitVec 32 := Scalar.muli v50 c32_i32_38
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_49 : BitVec 32 := 1#32
  ⟨c0_i32_47, v72, c1_i32_49⟩

def k0_mult14 (v47 : BitVec 32) (v49 : BitVec 32) (k0_t8 : Fin (k0_t8_loop v47 v49).trips) : BitVec 32 :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let c1_i32_49 : BitVec 32 := 1#32
  let arg25 : BitVec 32 := Scf.iv c0_i32_47 c1_i32_49 k0_t8
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  v93
def k0_off46 (v47 : BitVec 32) (v49 : BitVec 32) (k0_t8 : Fin (k0_t8_loop v47 v49).trips) : Fin 2 → Nat :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let c1_i32_49 : BitVec 32 := 1#32
  let arg25 : BitVec 32 := Scf.iv c0_i32_47 c1_i32_49 k0_t8
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v95 : Index := Scalar.indexCast v94
  let c0_62 : Index := 0#32
  ![v95.toNat, 0]
def k0_off47 (v1_0 : BitVec 32) (k0_t7 : Fin (k0_t7_loop v1_0).trips) : Fin 3 → Nat :=
  let c0_i32_11 : BitVec 32 := 0#32
  let c2_i32 : BitVec 32 := 2#32
  let v2 : BitVec 32 := Scalar.muli v1_0 c2_i32
  let v6 : BitVec 32 := Scalar.subi v2 c0_i32_11
  let c1_i32_14 : BitVec 32 := 1#32
  let v8 : BitVec 32 := Scalar.divsi v6 c1_i32_14
  let v9 : BitVec 32 := Scalar.muli v8 c1_i32_14
  let v10 : BitVec 32 := Scalar.addi c0_i32_11 v9
  let c1_i32_16 : BitVec 32 := 1#32
  let arg20 : BitVec 32 := Scf.iv v10 c1_i32_16 k0_t7
  let c6_i32 : BitVec 32 := 6#32
  let v25 : BitVec 32 := Scalar.remsi arg20 c6_i32
  let v97 : Index := Scalar.indexCast v25
  let c0_63 : Index := 0#32
  let c0_64 : Index := 0#32
  ![v97.toNat, 0, 0]
def k0_off48 (v47 : BitVec 32) (v49 : BitVec 32) (k0_t8 : Fin (k0_t8_loop v47 v49).trips) : Fin 2 → Nat :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let c1_i32_49 : BitVec 32 := 1#32
  let arg25 : BitVec 32 := Scf.iv c0_i32_47 c1_i32_49 k0_t8
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v109 : Index := Scalar.indexCast v94
  let c0_65 : Index := 0#32
  ![v109.toNat, 0]
def k0_off49 (arg22 : BitVec 32) (v47 : BitVec 32) (v49 : BitVec 32) (k0_t8 : Fin (k0_t8_loop v47 v49).trips) : Fin 3 → Nat :=
  let c2_i32_40 : BitVec 32 := 2#32
  let v63 : BitVec 32 := Scalar.remsi arg22 c2_i32_40
  let v116 : Index := Scalar.indexCast v63
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let c1_i32_49 : BitVec 32 := 1#32
  let arg25 : BitVec 32 := Scf.iv c0_i32_47 c1_i32_49 k0_t8
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v117 : Index := Scalar.indexCast v94
  let c0_66 : Index := 0#32
  ![v116.toNat, v117.toNat, 0]
@[reducible] def k0_t9_loop (v47 : BitVec 32) (v49 : BitVec 32) : Scf.Loop 32 :=
  let c0_i32_47 : BitVec 32 := 0#32
  let c32_i32 : BitVec 32 := 32#32
  let v50 : BitVec 32 := Scalar.divsi v47 c32_i32
  let c32_i32_38 : BitVec 32 := 32#32
  let v51 : BitVec 32 := Scalar.muli v50 c32_i32_38
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let v69 : BitVec 32 := Scalar.addi c0_i32_47 v68
  let c1_i32_50 : BitVec 32 := 1#32
  ⟨v72, v69, c1_i32_50⟩
def k0_mult15 (v47 : BitVec 32) (v49 : BitVec 32) (k0_t9 : Fin (k0_t9_loop v47 v49).trips) : BitVec 32 :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_50 : BitVec 32 := 1#32
  let arg25 : BitVec 32 := Scf.iv v72 c1_i32_50 k0_t9
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  v93
def k0_off50 (v47 : BitVec 32) (v49 : BitVec 32) (k0_t9 : Fin (k0_t9_loop v47 v49).trips) : Fin 2 → Nat :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_50 : BitVec 32 := 1#32
  let arg25 : BitVec 32 := Scf.iv v72 c1_i32_50 k0_t9
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v95 : Index := Scalar.indexCast v94
  let c0_62 : Index := 0#32
  ![v95.toNat, 0]
def k0_off51 (v1_0 : BitVec 32) (k0_t7 : Fin (k0_t7_loop v1_0).trips) : Fin 3 → Nat :=
  let c0_i32_11 : BitVec 32 := 0#32
  let c2_i32 : BitVec 32 := 2#32
  let v2 : BitVec 32 := Scalar.muli v1_0 c2_i32
  let v6 : BitVec 32 := Scalar.subi v2 c0_i32_11
  let c1_i32_14 : BitVec 32 := 1#32
  let v8 : BitVec 32 := Scalar.divsi v6 c1_i32_14
  let v9 : BitVec 32 := Scalar.muli v8 c1_i32_14
  let v10 : BitVec 32 := Scalar.addi c0_i32_11 v9
  let c1_i32_16 : BitVec 32 := 1#32
  let arg20 : BitVec 32 := Scf.iv v10 c1_i32_16 k0_t7
  let c6_i32 : BitVec 32 := 6#32
  let v25 : BitVec 32 := Scalar.remsi arg20 c6_i32
  let v97 : Index := Scalar.indexCast v25
  let c0_63 : Index := 0#32
  let c0_64 : Index := 0#32
  ![v97.toNat, 0, 0]
def k0_off52 (v47 : BitVec 32) (v49 : BitVec 32) (k0_t9 : Fin (k0_t9_loop v47 v49).trips) : Fin 2 → Nat :=
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_50 : BitVec 32 := 1#32
  let arg25 : BitVec 32 := Scf.iv v72 c1_i32_50 k0_t9
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v109 : Index := Scalar.indexCast v94
  let c0_65 : Index := 0#32
  ![v109.toNat, 0]
def k0_off53 (arg22 : BitVec 32) (v47 : BitVec 32) (v49 : BitVec 32) (k0_t9 : Fin (k0_t9_loop v47 v49).trips) : Fin 3 → Nat :=
  let c2_i32_40 : BitVec 32 := 2#32
  let v63 : BitVec 32 := Scalar.remsi arg22 c2_i32_40
  let v116 : Index := Scalar.indexCast v63
  let c32_i32 : BitVec 32 := 32#32
  let v50 : BitVec 32 := Scalar.divsi v47 c32_i32
  let c32_i32_38 : BitVec 32 := 32#32
  let v51 : BitVec 32 := Scalar.muli v50 c32_i32_38
  let c0_i32_46 : BitVec 32 := 0#32
  let c0_i32_47 : BitVec 32 := 0#32
  let v52 : BitVec 32 := Scalar.subi v49 v51
  let c127_i32 : BitVec 32 := 127#32
  let v53 : BitVec 32 := Scalar.addi v52 c127_i32
  let c128_i32 : BitVec 32 := 128#32
  let v54 : BitVec 32 := Scalar.divsi v53 c128_i32
  let c0_i32_41 : BitVec 32 := 0#32
  let v64 : BitVec 32 := Scalar.subi v54 c0_i32_41
  let c1_i32_42 : BitVec 32 := 1#32
  let c1_i32_43 : BitVec 32 := 1#32
  let v65 : BitVec 32 := Scalar.subi c1_i32_42 c1_i32_43
  let v66 : BitVec 32 := Scalar.addi v64 v65
  let c1_i32_44 : BitVec 32 := 1#32
  let v67 : BitVec 32 := Scalar.divsi v66 c1_i32_44
  let v68 : BitVec 32 := Scalar.subi v67 c0_i32_47
  let c1_i32_48 : BitVec 32 := 1#32
  let v70 : BitVec 32 := Scalar.divsi v68 c1_i32_48
  let v71 : BitVec 32 := Scalar.muli v70 c1_i32_48
  let v72 : BitVec 32 := Scalar.addi c0_i32_47 v71
  let c1_i32_50 : BitVec 32 := 1#32
  let arg25 : BitVec 32 := Scf.iv v72 c1_i32_50 k0_t9
  let c1_i32_45 : BitVec 32 := 1#32
  let v89 : BitVec 32 := Scalar.muli arg25 c1_i32_45
  let v90 : BitVec 32 := Scalar.addi c0_i32_46 v89
  let c128_i32_61 : BitVec 32 := 128#32
  let v91 : BitVec 32 := Scalar.muli v90 c128_i32_61
  let v92 : BitVec 32 := Scalar.addi v51 v91
  let c384_i32 : BitVec 32 := 384#32
  let v93 : BitVec 32 := Scalar.minsi v92 c384_i32
  let v94 : BitVec 32 := v93
  let v117 : Index := Scalar.indexCast v94
  let c0_66 : Index := 0#32
  ![v116.toNat, v117.toNat, 0]

def k0_chk21 (v1_0 : BitVec 32) (k0_t7 : Fin (k0_t7_loop v1_0).trips) (arg22 : BitVec 32) (v47 : BitVec 32) (v49 : BitVec 32) : Prop :=
  ((k0_t8_loop v47 v49).OK) ∧
  (∀ k0_t8 : Fin (k0_t8_loop v47 v49).trips, 32 ∣ (k0_mult14 v47 v49 k0_t8).toNat) ∧
  (∀ k0_t8 : Fin (k0_t8_loop v47 v49).trips, ∀ a, (k0_off46 v47 v49 k0_t8) a + S128x2048.size a ≤ S512x2048.size a) ∧
  (∀ k0_t8 : Fin (k0_t8_loop v47 v49).trips, ∀ a, (k0_off47 v1_0 k0_t7) a + S1x2048x3072.size a ≤ S6x2048x3072.size a) ∧
  (∀ k0_t8 : Fin (k0_t8_loop v47 v49).trips, ∀ a, (k0_off48 v47 v49 k0_t8) a + S128x1.size a ≤ S512x128.size a) ∧
  (∀ k0_t8 : Fin (k0_t8_loop v47 v49).trips, ∀ a, (k0_off49 arg22 v47 v49 k0_t8) a + S1x128x3072.size a ≤ S2x512x3072.size a) ∧
  (∀ k0_t8 : Fin (k0_t8_loop v47 v49).trips, ∀ (hinb : ∀ a, (k0_off49 arg22 v47 v49 k0_t8) a + S1x128x3072.size a ≤ S2x512x3072.size a), (Rect.unit (s := S2x512x3072) (k0_off49 arg22 v47 v49 k0_t8) S1x128x3072.size hinb).PackedRows (EltTy.packing .bf16)) ∧
  ((k0_t9_loop v47 v49).OK) ∧
  (∀ k0_t9 : Fin (k0_t9_loop v47 v49).trips, 32 ∣ (k0_mult15 v47 v49 k0_t9).toNat) ∧
  (∀ k0_t9 : Fin (k0_t9_loop v47 v49).trips, ∀ a, (k0_off50 v47 v49 k0_t9) a + S128x2048.size a ≤ S512x2048.size a) ∧
  (∀ k0_t9 : Fin (k0_t9_loop v47 v49).trips, ∀ a, (k0_off51 v1_0 k0_t7) a + S1x2048x3072.size a ≤ S6x2048x3072.size a) ∧
  (∀ k0_t9 : Fin (k0_t9_loop v47 v49).trips, ∀ a, (k0_off52 v47 v49 k0_t9) a + S128x1.size a ≤ S512x128.size a) ∧
  (∀ k0_t9 : Fin (k0_t9_loop v47 v49).trips, ∀ a, (k0_off53 arg22 v47 v49 k0_t9) a + S1x128x3072.size a ≤ S2x512x3072.size a) ∧
  (∀ k0_t9 : Fin (k0_t9_loop v47 v49).trips, ∀ (hinb : ∀ a, (k0_off53 arg22 v47 v49 k0_t9) a + S1x128x3072.size a ≤ S2x512x3072.size a), (Rect.unit (s := S2x512x3072) (k0_off53 arg22 v47 v49 k0_t9) S1x128x3072.size hinb).PackedRows (EltTy.packing .bf16))
theorem k0_t8_ok : ∀ (v1_0 : BitVec 32) (k0_t7 : Fin (k0_t7_loop v1_0).trips) (arg22 : BitVec 32) (v47 : BitVec 32) (v49 : BitVec 32) (k0_hw21 : k0_chk21 v1_0 k0_t7 arg22 v47 v49), (k0_t8_loop v47 v49).OK := fun v1_0 k0_t7 arg22 v47 v49 k0_hw21 => k0_hw21.1
theorem k0_mult14_dvd : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t8 : Fin (k0_t8_loop v47 v49).trips), 32 ∣ (k0_mult14 v47 v49 k0_t8).toNat := fun v1_0 k0_t7 arg22 v47 v49 k0_hw21 k0_t8 => k0_hw21.2.1 k0_t8
theorem k0_off46_inb : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t8 : Fin (k0_t8_loop v47 v49).trips), ∀ a, (k0_off46 v47 v49 k0_t8) a + S128x2048.size a ≤ S512x2048.size a := fun v1_0 k0_t7 arg22 v47 v49 k0_hw21 k0_t8 => k0_hw21.2.2.1 k0_t8
theorem k0_off47_inb : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t8 : Fin (k0_t8_loop v47 v49).trips), ∀ a, (k0_off47 v1_0 k0_t7) a + S1x2048x3072.size a ≤ S6x2048x3072.size a := fun v1_0 k0_t7 arg22 v47 v49 k0_hw21 k0_t8 => k0_hw21.2.2.2.1 k0_t8
theorem k0_off48_inb : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t8 : Fin (k0_t8_loop v47 v49).trips), ∀ a, (k0_off48 v47 v49 k0_t8) a + S128x1.size a ≤ S512x128.size a := fun v1_0 k0_t7 arg22 v47 v49 k0_hw21 k0_t8 => k0_hw21.2.2.2.2.1 k0_t8
theorem k0_off49_inb : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t8 : Fin (k0_t8_loop v47 v49).trips), ∀ a, (k0_off49 arg22 v47 v49 k0_t8) a + S1x128x3072.size a ≤ S2x512x3072.size a := fun v1_0 k0_t7 arg22 v47 v49 k0_hw21 k0_t8 => k0_hw21.2.2.2.2.2.1 k0_t8
theorem k0_off49_packedbf16 : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t8 : Fin (k0_t8_loop v47 v49).trips), (Rect.unit (s := S2x512x3072) (k0_off49 arg22 v47 v49 k0_t8) S1x128x3072.size (k0_off49_inb v1_0 k0_t7 arg22 v47 v49 k0_hw21 k0_t8)).PackedRows (EltTy.packing .bf16) := fun v1_0 k0_t7 arg22 v47 v49 k0_hw21 k0_t8 => k0_hw21.2.2.2.2.2.2.1 k0_t8 (k0_off49_inb v1_0 k0_t7 arg22 v47 v49 k0_hw21 k0_t8)
theorem k0_t9_ok : ∀ (v1_0 : BitVec 32) (k0_t7 : Fin (k0_t7_loop v1_0).trips) (arg22 : BitVec 32) (v47 : BitVec 32) (v49 : BitVec 32) (k0_hw21 : k0_chk21 v1_0 k0_t7 arg22 v47 v49), (k0_t9_loop v47 v49).OK := fun v1_0 k0_t7 arg22 v47 v49 k0_hw21 => k0_hw21.2.2.2.2.2.2.2.1
theorem k0_mult15_dvd : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t9 : Fin (k0_t9_loop v47 v49).trips), 32 ∣ (k0_mult15 v47 v49 k0_t9).toNat := fun v1_0 k0_t7 arg22 v47 v49 k0_hw21 k0_t9 => k0_hw21.2.2.2.2.2.2.2.2.1 k0_t9
theorem k0_off50_inb : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t9 : Fin (k0_t9_loop v47 v49).trips), ∀ a, (k0_off50 v47 v49 k0_t9) a + S128x2048.size a ≤ S512x2048.size a := fun v1_0 k0_t7 arg22 v47 v49 k0_hw21 k0_t9 => k0_hw21.2.2.2.2.2.2.2.2.2.1 k0_t9
theorem k0_off51_inb : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t9 : Fin (k0_t9_loop v47 v49).trips), ∀ a, (k0_off51 v1_0 k0_t7) a + S1x2048x3072.size a ≤ S6x2048x3072.size a := fun v1_0 k0_t7 arg22 v47 v49 k0_hw21 k0_t9 => k0_hw21.2.2.2.2.2.2.2.2.2.2.1 k0_t9
theorem k0_off52_inb : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t9 : Fin (k0_t9_loop v47 v49).trips), ∀ a, (k0_off52 v47 v49 k0_t9) a + S128x1.size a ≤ S512x128.size a := fun v1_0 k0_t7 arg22 v47 v49 k0_hw21 k0_t9 => k0_hw21.2.2.2.2.2.2.2.2.2.2.2.1 k0_t9
theorem k0_off53_inb : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t9 : Fin (k0_t9_loop v47 v49).trips), ∀ a, (k0_off53 arg22 v47 v49 k0_t9) a + S1x128x3072.size a ≤ S2x512x3072.size a := fun v1_0 k0_t7 arg22 v47 v49 k0_hw21 k0_t9 => k0_hw21.2.2.2.2.2.2.2.2.2.2.2.2.1 k0_t9
theorem k0_off53_packedbf16 : ∀ (v1_0 : BitVec 32) (k0_t7 : Fin (k0_t7_loop v1_0).trips) (arg22 : BitVec 32) (v47 : BitVec 32) (v49 : BitVec 32) (k0_hw21 : k0_chk21 v1_0 k0_t7 arg22 v47 v49) (k0_t9 : Fin (k0_t9_loop v47 v49).trips), (Rect.unit (s := S2x512x3072) (k0_off53 arg22 v47 v49 k0_t9) S1x128x3072.size (k0_off53_inb v1_0 k0_t7 arg22 v47 v49 k0_hw21 k0_t9)).PackedRows (EltTy.packing .bf16) := fun v1_0 k0_t7 arg22 v47 v49 k0_hw21 k0_t9 => k0_hw21.2.2.2.2.2.2.2.2.2.2.2.2.2 k0_t9 (k0_off53_inb v1_0 k0_t7 arg22 v47 v49 k0_hw21 k0_t9)

def k0_mult16 (arg22 : BitVec 32) : BitVec 32 :=
  let c3072_i32_61 : BitVec 32 := 3072#32
  let v89 : BitVec 32 := Scalar.muli arg22 c3072_i32_61
  v89
def k0_cond7 (v1_0 : BitVec 32) (arg21 : BitVec 32) : BitVec 1 :=
  let c1_i32_51 : BitVec 32 := 1#32
  let v73 : BitVec 32 := Scalar.subi v1_0 c1_i32_51
  let v74 : BitVec 1 := Scalar.cmpi .eq arg21 v73
  let v75 : BitVec 32 := Scalar.extui v74
  let c0_i32_52 : BitVec 32 := 0#32
  let v76 : BitVec 1 := Scalar.cmpi .ne v75 c0_i32_52
  v76

def k0_off54 (arg22 : BitVec 32) : Fin 1 → Nat :=
  let c2_i32_68 : BitVec 32 := 2#32
  let c0_i32_69 : BitVec 32 := 0#32
  let v101 : BitVec 1 := Scalar.cmpi .eq c2_i32_68 c0_i32_69
  let c1_i32_70 : BitVec 32 := 1#32
  let v102 : BitVec 32 := Scalar.select v101 c1_i32_70 c2_i32_68
  let v103 : BitVec 32 := Scalar.remsi arg22 v102
  let c0_i32_72 : BitVec 32 := 0#32
  let v105 : BitVec 1 := Scalar.cmpi .slt v103 c0_i32_72
  let c0_i32_73 : BitVec 32 := 0#32
  let v106 : BitVec 1 := Scalar.cmpi .slt v102 c0_i32_73
  let v107 : BitVec 1 := Scalar.xori v105 v106
  let c0_i32_71 : BitVec 32 := 0#32
  let v104 : BitVec 1 := Scalar.cmpi .ne v103 c0_i32_71
  let v108 : BitVec 1 := Scalar.andi v107 v104
  let v109 : BitVec 32 := Scalar.addi v103 v102
  let v110 : BitVec 32 := Scalar.select v108 v109 v103
  ![v110.toNat]
def k0_off55 (arg22 : BitVec 32) : Fin 2 → Nat :=
  let c0_i32_74 : BitVec 32 := 0#32
  let c3072_i32_61 : BitVec 32 := 3072#32
  let v89 : BitVec 32 := Scalar.muli arg22 c3072_i32_61
  let v90 : BitVec 32 := v89
  ![0, v90.toNat]
def k0_off56 (arg22 : BitVec 32) : Fin 3 → Nat :=
  let c2_i32_62 : BitVec 32 := 2#32
  let c0_i32_63 : BitVec 32 := 0#32
  let v91 : BitVec 1 := Scalar.cmpi .eq c2_i32_62 c0_i32_63
  let c1_i32_64 : BitVec 32 := 1#32
  let v92 : BitVec 32 := Scalar.select v91 c1_i32_64 c2_i32_62
  let v93 : BitVec 32 := Scalar.remsi arg22 v92
  let c0_i32_66 : BitVec 32 := 0#32
  let v95 : BitVec 1 := Scalar.cmpi .slt v93 c0_i32_66
  let c0_i32_67 : BitVec 32 := 0#32
  let v96 : BitVec 1 := Scalar.cmpi .slt v92 c0_i32_67
  let v97 : BitVec 1 := Scalar.xori v95 v96
  let c0_i32_65 : BitVec 32 := 0#32
  let v94 : BitVec 1 := Scalar.cmpi .ne v93 c0_i32_65
  let v98 : BitVec 1 := Scalar.andi v97 v94
  let v99 : BitVec 32 := Scalar.addi v93 v92
  let v100 : BitVec 32 := Scalar.select v98 v99 v93
  let c0_i32_75 : BitVec 32 := 0#32
  let c0_i32_76 : BitVec 32 := 0#32
  ![v100.toNat, 0, 0]

def k0_chk17 (v1_0 : BitVec 32) (arg21 : BitVec 32) (arg22 : BitVec 32) : Prop :=
  (∀ (k0_h6 : k0_cond6 arg21 arg22 = 1#1), 3072 ∣ (k0_mult11 arg22).toNat) ∧
  (∀ (k0_h6 : k0_cond6 arg21 arg22 = 1#1), ∀ a, (k0_off37 arg22) a + S1.size a ≤ S2.size a) ∧
  (∀ (k0_h6 : k0_cond6 arg21 arg22 = 1#1), ∀ a, (k0_off38 arg22) a + S512x3072.size a ≤ S512x6144.size a) ∧
  (∀ (k0_h6 : k0_cond6 arg21 arg22 = 1#1), ∀ a, (k0_off39 arg22) a + S1x512x3072.size a ≤ S2x512x3072.size a) ∧
  (∀ (k0_h6 : k0_cond6 arg21 arg22 = 1#1), ∀ (hinb : ∀ a, (k0_off39 arg22) a + S1x512x3072.size a ≤ S2x512x3072.size a), (Rect.unit (s := S2x512x3072) (k0_off39 arg22) S1x512x3072.size hinb).WholeWords (EltTy.packing .bf16)) ∧
  (∀ (k0_h6 : k0_cond6 arg21 arg22 = 1#1), ∀ (hinb : ∀ a, (k0_off38 arg22) a + S512x3072.size a ≤ S512x6144.size a), (Rect.unit (s := S512x6144) (k0_off38 arg22) S512x3072.size hinb).WholeWords (EltTy.packing .bf16)) ∧
  (3072 ∣ (k0_mult12 arg22).toNat) ∧
  (3072 ∣ (k0_mult13 arg22).toNat) ∧
  (∀ (k0_h7 : k0_cond7 v1_0 arg21 = 1#1), 3072 ∣ (k0_mult16 arg22).toNat) ∧
  (∀ (k0_h7 : k0_cond7 v1_0 arg21 = 1#1), ∀ a, (k0_off54 arg22) a + S1.size a ≤ S2.size a) ∧
  (∀ (k0_h7 : k0_cond7 v1_0 arg21 = 1#1), ∀ a, (k0_off55 arg22) a + S512x3072.size a ≤ S512x6144.size a) ∧
  (∀ (k0_h7 : k0_cond7 v1_0 arg21 = 1#1), ∀ a, (k0_off56 arg22) a + S1x512x3072.size a ≤ S2x512x3072.size a) ∧
  (∀ (k0_h7 : k0_cond7 v1_0 arg21 = 1#1), ∀ (hinb : ∀ a, (k0_off56 arg22) a + S1x512x3072.size a ≤ S2x512x3072.size a), (Rect.unit (s := S2x512x3072) (k0_off56 arg22) S1x512x3072.size hinb).WholeWords (EltTy.packing .bf16)) ∧
  (∀ (k0_h7 : k0_cond7 v1_0 arg21 = 1#1), ∀ (hinb : ∀ a, (k0_off55 arg22) a + S512x3072.size a ≤ S512x6144.size a), (Rect.unit (s := S512x6144) (k0_off55 arg22) S512x3072.size hinb).WholeWords (EltTy.packing .bf16))
theorem k0_mult11_dvd : ∀ (v1_0 : BitVec 32) (arg21 : BitVec 32) (arg22 : BitVec 32) (k0_hw17 : k0_chk17 v1_0 arg21 arg22), ∀ (k0_h6 : k0_cond6 arg21 arg22 = 1#1), 3072 ∣ (k0_mult11 arg22).toNat := fun v1_0 arg21 arg22 k0_hw17 k0_h6 => k0_hw17.1 k0_h6
theorem k0_off37_inb : ∀ (v1_0 : BitVec 32) (arg21 : BitVec 32) (arg22 : BitVec 32) (k0_hw17 : k0_chk17 v1_0 arg21 arg22), ∀ (k0_h6 : k0_cond6 arg21 arg22 = 1#1), ∀ a, (k0_off37 arg22) a + S1.size a ≤ S2.size a := fun v1_0 arg21 arg22 k0_hw17 k0_h6 => k0_hw17.2.1 k0_h6
theorem k0_off38_inb : ∀ (v1_0 : BitVec 32) (arg21 : BitVec 32) (arg22 : BitVec 32) (k0_hw17 : k0_chk17 v1_0 arg21 arg22), ∀ (k0_h6 : k0_cond6 arg21 arg22 = 1#1), ∀ a, (k0_off38 arg22) a + S512x3072.size a ≤ S512x6144.size a := fun v1_0 arg21 arg22 k0_hw17 k0_h6 => k0_hw17.2.2.1 k0_h6
theorem k0_off39_inb : ∀ (v1_0 : BitVec 32) (arg21 : BitVec 32) (arg22 : BitVec 32) (k0_hw17 : k0_chk17 v1_0 arg21 arg22), ∀ (k0_h6 : k0_cond6 arg21 arg22 = 1#1), ∀ a, (k0_off39 arg22) a + S1x512x3072.size a ≤ S2x512x3072.size a := fun v1_0 arg21 arg22 k0_hw17 k0_h6 => k0_hw17.2.2.2.1 k0_h6
theorem k0_off39_wordsbf16 : ∀ (v1_0 : BitVec 32) (arg21 : BitVec 32) (arg22 : BitVec 32) (k0_hw17 : k0_chk17 v1_0 arg21 arg22), ∀ (k0_h6 : k0_cond6 arg21 arg22 = 1#1), (Rect.unit (s := S2x512x3072) (k0_off39 arg22) S1x512x3072.size (k0_off39_inb v1_0 arg21 arg22 k0_hw17 k0_h6)).WholeWords (EltTy.packing .bf16) := fun v1_0 arg21 arg22 k0_hw17 k0_h6 => k0_hw17.2.2.2.2.1 k0_h6 (k0_off39_inb v1_0 arg21 arg22 k0_hw17 k0_h6)
theorem k0_off38_wordsbf16 : ∀ (v1_0 : BitVec 32) (arg21 : BitVec 32) (arg22 : BitVec 32) (k0_hw17 : k0_chk17 v1_0 arg21 arg22), ∀ (k0_h6 : k0_cond6 arg21 arg22 = 1#1), (Rect.unit (s := S512x6144) (k0_off38 arg22) S512x3072.size (k0_off38_inb v1_0 arg21 arg22 k0_hw17 k0_h6)).WholeWords (EltTy.packing .bf16) := fun v1_0 arg21 arg22 k0_hw17 k0_h6 => k0_hw17.2.2.2.2.2.1 k0_h6 (k0_off38_inb v1_0 arg21 arg22 k0_hw17 k0_h6)
theorem k0_mult12_dvd : ∀ (v1_0 : BitVec 32) (arg21 : BitVec 32) (arg22 : BitVec 32) (k0_hw17 : k0_chk17 v1_0 arg21 arg22), 3072 ∣ (k0_mult12 arg22).toNat := fun v1_0 arg21 arg22 k0_hw17 => k0_hw17.2.2.2.2.2.2.1
theorem k0_mult13_dvd : ∀ (v1_0 : BitVec 32) (arg21 : BitVec 32) (arg22 : BitVec 32) (k0_hw17 : k0_chk17 v1_0 arg21 arg22), 3072 ∣ (k0_mult13 arg22).toNat := fun v1_0 arg21 arg22 k0_hw17 => k0_hw17.2.2.2.2.2.2.2.1
theorem k0_mult16_dvd : ∀ (v1_0 : BitVec 32) (arg21 : BitVec 32) (arg22 : BitVec 32) (k0_hw17 : k0_chk17 v1_0 arg21 arg22), ∀ (k0_h7 : k0_cond7 v1_0 arg21 = 1#1), 3072 ∣ (k0_mult16 arg22).toNat := fun v1_0 arg21 arg22 k0_hw17 k0_h7 => k0_hw17.2.2.2.2.2.2.2.2.1 k0_h7
theorem k0_off54_inb : ∀ (v1_0 : BitVec 32) (arg21 : BitVec 32) (arg22 : BitVec 32) (k0_hw17 : k0_chk17 v1_0 arg21 arg22), ∀ (k0_h7 : k0_cond7 v1_0 arg21 = 1#1), ∀ a, (k0_off54 arg22) a + S1.size a ≤ S2.size a := fun v1_0 arg21 arg22 k0_hw17 k0_h7 => k0_hw17.2.2.2.2.2.2.2.2.2.1 k0_h7
theorem k0_off55_inb : ∀ (v1_0 : BitVec 32) (arg21 : BitVec 32) (arg22 : BitVec 32) (k0_hw17 : k0_chk17 v1_0 arg21 arg22), ∀ (k0_h7 : k0_cond7 v1_0 arg21 = 1#1), ∀ a, (k0_off55 arg22) a + S512x3072.size a ≤ S512x6144.size a := fun v1_0 arg21 arg22 k0_hw17 k0_h7 => k0_hw17.2.2.2.2.2.2.2.2.2.2.1 k0_h7
theorem k0_off56_inb : ∀ (v1_0 : BitVec 32) (arg21 : BitVec 32) (arg22 : BitVec 32) (k0_hw17 : k0_chk17 v1_0 arg21 arg22), ∀ (k0_h7 : k0_cond7 v1_0 arg21 = 1#1), ∀ a, (k0_off56 arg22) a + S1x512x3072.size a ≤ S2x512x3072.size a := fun v1_0 arg21 arg22 k0_hw17 k0_h7 => k0_hw17.2.2.2.2.2.2.2.2.2.2.2.1 k0_h7
theorem k0_off56_wordsbf16 : ∀ (v1_0 : BitVec 32) (arg21 : BitVec 32) (arg22 : BitVec 32) (k0_hw17 : k0_chk17 v1_0 arg21 arg22), ∀ (k0_h7 : k0_cond7 v1_0 arg21 = 1#1), (Rect.unit (s := S2x512x3072) (k0_off56 arg22) S1x512x3072.size (k0_off56_inb v1_0 arg21 arg22 k0_hw17 k0_h7)).WholeWords (EltTy.packing .bf16) := fun v1_0 arg21 arg22 k0_hw17 k0_h7 => k0_hw17.2.2.2.2.2.2.2.2.2.2.2.2.1 k0_h7 (k0_off56_inb v1_0 arg21 arg22 k0_hw17 k0_h7)
theorem k0_off55_wordsbf16 : ∀ (v1_0 : BitVec 32) (arg21 : BitVec 32) (arg22 : BitVec 32) (k0_hw17 : k0_chk17 v1_0 arg21 arg22), ∀ (k0_h7 : k0_cond7 v1_0 arg21 = 1#1), (Rect.unit (s := S512x6144) (k0_off55 arg22) S512x3072.size (k0_off55_inb v1_0 arg21 arg22 k0_hw17 k0_h7)).WholeWords (EltTy.packing .bf16) := fun v1_0 arg21 arg22 k0_hw17 k0_h7 => k0_hw17.2.2.2.2.2.2.2.2.2.2.2.2.2 k0_h7 (k0_off55_inb v1_0 arg21 arg22 k0_hw17 k0_h7)

def k0_mult17 : BitVec 32 :=
  let c0_i32_17 : BitVec 32 := 0#32
  c0_i32_17
def k0_mult18 : BitVec 32 :=
  let c3072_i32 : BitVec 32 := 3072#32
  c3072_i32
-- ==== ReferenceIdeal.lean ====
abbrev S512x2048 : Shape := ⟨2, ![512, 2048]⟩
abbrev S16 : Shape := ⟨1, ![16]⟩
abbrev S16x2048x6144 : Shape := ⟨3, ![16, 2048, 6144]⟩
abbrev S16x1x6144 : Shape := ⟨3, ![16, 1, 6144]⟩
abbrev S512x6144 : Shape := ⟨2, ![512, 6144]⟩
abbrev S512 : Shape := ⟨1, ![512]⟩
abbrev S512x1 : Shape := ⟨2, ![512, 1]⟩
abbrev S512x277 : Shape := ⟨2, ![512, 277]⟩
abbrev S1 : Shape := ⟨1, ![1]⟩
abbrev S1x2048x6144 : Shape := ⟨3, ![1, 2048, 6144]⟩
abbrev S2048x6144 : Shape := ⟨2, ![2048, 6144]⟩
abbrev S1x1x6144 : Shape := ⟨3, ![1, 1, 6144]⟩
abbrev S1x6144 : Shape := ⟨2, ![1, 6144]⟩

abbrev nBuf : Space → Nat
  | .hbm => 5
  | .vmem => 4
  | .smem => 1
  | _ => 0

abbrev bufTy : (tb : Table) → Fin (tcTables nBuf tb) → BufTy
  | .hbm, ⟨0, _⟩ => ⟨S512x2048, .bf16⟩
  | .hbm, ⟨1, _⟩ => ⟨S16, .i32⟩
  | .hbm, ⟨2, _⟩ => ⟨S16x2048x6144, .fp8e4m3⟩
  | .hbm, ⟨3, _⟩ => ⟨S16x1x6144, .f32⟩
  | .hbm, ⟨4, _⟩ => ⟨S512x6144, .bf16⟩
  | .local _ .vmem, ⟨0, _⟩ => ⟨S512x2048, .bf16⟩
  | .local _ .vmem, ⟨1, _⟩ => ⟨S16x2048x6144, .fp8e4m3⟩
  | .local _ .vmem, ⟨2, _⟩ => ⟨S16x1x6144, .f32⟩
  | .local _ .vmem, ⟨3, _⟩ => ⟨S512x6144, .bf16⟩
  | .local _ .smem, ⟨0, _⟩ => ⟨S16, .i32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x2048x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Memory.lean ====
/-
  Hand-written. The kernel's buffers and the windows its copies, loads and stores go through, element by element.
-/
module

public import proofs.«01_k».proof.Proof.Gen.Kernel.Launch
public import proofs.«01_k».proof.Proof.Gen.Kernel.Skeleton
public import Idealize.ShloMosaic.Lib.Pipeline.FrameBody
public import Idealize.ShloMosaic.Lib.Tactic
public import Idealize.ShloMosaic.Lib.ValueLayout

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-! ## The buffers -/

abbrev gsH : Memref sig .tc .hbm S16 .i32 := Memref.whole main_arg1
abbrev xH : Memref sig .tc .hbm S512x2048 .bf16 := Memref.whole main_arg0
abbrev wH : Memref sig .tc .hbm S16x2048x6144 .fp8e4m3 := Memref.whole main_arg2
abbrev sH : Memref sig .tc .hbm S16x1x6144 .f32 := Memref.whole main_arg3
abbrev yH : Memref sig .tc .hbm S512x6144 .bf16 := Memref.whole main_v0
abbrev gsM : Memref sig .tc .smem S16 .i32 := Memref.whole cc0_scratch0
abbrev exM : Memref sig .tc .smem S16 .i32 := Memref.whole cc0_scratch1
abbrev loM : Memref sig .tc .smem S16 .i32 := Memref.whole cc0_scratch2
abbrev hiM : Memref sig .tc .smem S16 .i32 := Memref.whole cc0_scratch3
abbrev xM : Memref sig .tc .vmem S512x2048 .bf16 := Memref.whole cc0_scratch4
abbrev cdM : Memref sig .tc .vmem S512x2048 .fp8e4m3 := Memref.whole cc0_scratch5
abbrev scM : Memref sig .tc .vmem S512x128 .f32 := Memref.whole cc0_scratch6
abbrev wsM : Memref sig .tc .vmem S16x1x6144 .f32 := Memref.whole cc0_scratch7
abbrev rgM : Memref sig .tc .vmem S6x2048x3072 .fp8e4m3 := Memref.whole cc0_scratch8
abbrev yM : Memref sig .tc .vmem S2x512x3072 .bf16 := Memref.whole cc0_scratch9

/-! ## Loads and stores at a unit-stride rectangle of a whole buffer -/

section
variable {Val : EltTy → Type}

/-- The element a unit-stride rectangle of a whole buffer reads at `x`: the buffer's at the offsets plus `x`. -/
theorem read_unit (b : Ref sig .tc) {off size : Fin b.ty.shape.rank → ℕ} (inb : ∀ a, off a + size a ≤ b.ty.shape.size a)
    (f : b.ty.Contents Val) (x : (Rect.unit (s := b.ty.shape) off size inb).shape.Idx) :
    ((Memref.whole b).access (Rect.unit (s := b.ty.shape) off size inb)).read Val f x = f ((Rect.unit (s := b.ty.shape) off size inb).emb x) := rfl

theorem unit_emb_val {s : Shape} {off size : Fin s.rank → ℕ} (inb : ∀ a, off a + size a ≤ s.size a)
    (x : (Rect.unit (s := s) off size inb).shape.Idx) (a : Fin s.rank) :
    ((Rect.unit (s := s) off size inb).emb x a : ℕ) = off a + x a := by
  rw [Rect.emb_apply]; show off a + 1 * (x a : ℕ) = _; rw [Nat.one_mul]

/-- Inside the rectangle an unmasked store leaves the payload. -/
theorem write_unit_in (b : Ref sig .tc) {off size : Fin b.ty.shape.rank → ℕ} (inb : ∀ a, off a + size a ≤ b.ty.shape.size a)
    (f : b.ty.Contents Val) (w : (Rect.unit (s := b.ty.shape) off size inb).shape.Idx → Val b.ty.elt) (y : b.ty.shape.Idx)
    (x : (Rect.unit (s := b.ty.shape) off size inb).shape.Idx) (h : ∀ a, (y a : ℕ) = off a + x a) :
    ((Memref.whole b).access (Rect.unit (s := b.ty.shape) off size inb)).write Val f w Finset.univ y = w x := by
  have e : y = ((Memref.whole b).access (Rect.unit (s := b.ty.shape) off size inb)).emb x :=
    funext fun a => Fin.ext ((h a).trans (unit_emb_val inb x a).symm)
  rw [e]
  exact View.write_emb_of_mem _ _ (Finset.mem_univ x)

/-- Outside the rectangle a store changes nothing. -/
theorem write_unit_out (b : Ref sig .tc) {off size : Fin b.ty.shape.rank → ℕ} (inb : ∀ a, off a + size a ≤ b.ty.shape.size a)
    (f : b.ty.Contents Val) (w : (Rect.unit (s := b.ty.shape) off size inb).shape.Idx → Val b.ty.elt) (y : b.ty.shape.Idx)
    (a : Fin b.ty.shape.rank) (h : (y a : ℕ) < off a ∨ off a + size a ≤ (y a : ℕ)) :
    ((Memref.whole b).access (Rect.unit (s := b.ty.shape) off size inb)).write Val f w Finset.univ y = f y := by
  refine View.write_of_not_mem _ _ _ fun hm => ?_
  obtain ⟨x, -, hx⟩ := Finset.mem_map.mp hm
  have e : (y a : ℕ) = off a + x a := by rw [← hx]; exact unit_emb_val inb x a
  have := (x a).isLt
  have : (x a : ℕ) < size a := this
  omega

end

/-! ## The windows of the copies -/

/-- Slot `i` of the ring of weight tiles. -/
theorem slot_inb (i : Fin 6) : ∀ a, (![i.val, 0, 0] : Fin 3 → ℕ) a + S1x2048x3072.size a ≤ S6x2048x3072.size a := by
  revert i; decide
abbrev slotM (i : Fin 6) : Memref sig .tc .vmem S2048x3072 .fp8e4m3 :=
  (rgM.slice (Rect.unit (s := S6x2048x3072) ![i.val, 0, 0] S1x2048x3072.size (slot_inb i)) (fun _ => rfl)).squeeze S2048x3072 squeezes_S1x2048x3072_S2048x3072

/-- The columns of column tile `j` of group `e`'s weights. -/
theorem tile_inb (e : Fin 16) (j : Fin 2) : ∀ a, (![e.val, 0, 3072 * j.val] : Fin 3 → ℕ) a + S1x2048x3072.size a ≤ S16x2048x6144.size a := by
  revert e j; decide
abbrev tileH (e : Fin 16) (j : Fin 2) : Memref sig .tc .hbm S2048x3072 .fp8e4m3 :=
  (wH.slice (Rect.unit (s := S16x2048x6144) ![e.val, 0, 3072 * j.val] S1x2048x3072.size (tile_inb e j)) (fun _ => rfl)).squeeze S2048x3072 squeezes_S1x2048x3072_S2048x3072

/-- Half `h` of the two result tiles. -/
theorem half_inb (h : Fin 2) : ∀ a, (![h.val, 0, 0] : Fin 3 → ℕ) a + S1x512x3072.size a ≤ S2x512x3072.size a := by
  revert h; decide
abbrev halfM (h : Fin 2) : Memref sig .tc .vmem S512x3072 .bf16 :=
  (yM.slice (Rect.unit (s := S2x512x3072) ![h.val, 0, 0] S1x512x3072.size (half_inb h)) (fun _ => rfl)).squeeze S512x3072 squeezes_S1x512x3072_S512x3072

/-- The columns of column tile `h` of the result. -/
theorem out_inb (h : Fin 2) : ∀ a, (![0, 3072 * h.val] : Fin 2 → ℕ) a + S512x3072.size a ≤ S512x6144.size a := by
  revert h; decide
abbrev outH (h : Fin 2) : Memref sig .tc .hbm S512x3072 .bf16 :=
  yH.slice (Rect.unit (s := S512x6144) ![0, 3072 * h.val] S512x3072.size (out_inb h)) (fun _ => rfl)

/-- The semaphore of ring slot `i`, and of result tile `h`. -/
theorem wsem_inb (i : Fin 6) : ∀ a, (![i.val] : Fin 1 → ℕ) a + S1.size a ≤ S6.size a := by revert i; decide
theorem ysem_inb (h : Fin 2) : ∀ a, (![h.val] : Fin 1 → ℕ) a + S1.size a ≤ S2.size a := by revert h; decide
abbrev wSem (i : Fin 6) : DmaSem sig := ((cc0_scratch13.slice (Rect.unit (s := S6) ![i.val] S1.size (wsem_inb i))).squeeze S_ squeezes_S1_S_).sem
abbrev ySem (h : Fin 2) : DmaSem sig := ((cc0_scratch14.slice (Rect.unit (s := S2) ![h.val] S1.size (ysem_inb h))).squeeze S_ squeezes_S1_S_).sem

theorem slot_emb (i : Fin 6) (a : Fin 2048) (b : Fin 3072) : (slotM i).view.emb (ix2 a b) = (ix3 i a b : S6x2048x3072.Idx) := by
  show (Rect.unit (s := S6x2048x3072) ![i.val, 0, 0] S1x2048x3072.size (slot_inb i)).emb (Shape.reshapeEquiv _ (ix2 a b)) = _
  rw [reshapeEquiv_ix2_1ab]
  funext x; apply Fin.ext; rw [unit_emb_val]
  fin_cases x <;> simp [ix3]

theorem tile_emb (e : Fin 16) (j : Fin 2) (a : Fin 2048) (b : Fin 3072) :
    (tileH e j).view.emb (ix2 a b) = (ix3 e a ⟨3072 * j.val + b.val, by omega⟩ : S16x2048x6144.Idx) := by
  show (Rect.unit (s := S16x2048x6144) ![e.val, 0, 3072 * j.val] S1x2048x3072.size (tile_inb e j)).emb (Shape.reshapeEquiv _ (ix2 a b)) = _
  rw [reshapeEquiv_ix2_1ab]
  funext x; apply Fin.ext; rw [unit_emb_val]
  fin_cases x <;> simp [ix3]

theorem half_emb (h : Fin 2) (a : Fin 512) (b : Fin 3072) : (halfM h).view.emb (ix2 a b) = (ix3 h a b : S2x512x3072.Idx) := by
  show (Rect.unit (s := S2x512x3072) ![h.val, 0, 0] S1x512x3072.size (half_inb h)).emb (Shape.reshapeEquiv _ (ix2 a b)) = _
  rw [reshapeEquiv_ix2_1ab]
  funext x; apply Fin.ext; rw [unit_emb_val]
  fin_cases x <;> simp [ix3]

theorem out_emb (h : Fin 2) (a : Fin 512) (b : Fin 3072) :
    (outH h).view.emb (ix2 a b) = (ix2 a ⟨3072 * h.val + b.val, by omega⟩ : S512x6144.Idx) := by
  show (Rect.unit (s := S512x6144) ![0, 3072 * h.val] S512x3072.size (out_inb h)).emb (ix2 a b) = _
  funext x; apply Fin.ext; rw [unit_emb_val]
  fin_cases x <;> simp [ix2]

theorem mem_slot (i : Fin 6) (y : S6x2048x3072.Idx) : y ∈ (slotM i).view.set ↔ (y 0).val = i.val := by
  constructor
  · intro h
    obtain ⟨x, -, rfl⟩ := Finset.mem_map.mp h
    obtain ⟨a, b, rfl⟩ : ∃ (a : Fin 2048) (b : Fin 3072), x = ix2 a b := ⟨x 0, x 1, eq_ix2 x⟩
    rw [slot_emb]
  · intro h
    obtain ⟨i', a, b, rfl⟩ : ∃ (i' : Fin 6) (a : Fin 2048) (b : Fin 3072), y = ix3 i' a b := ⟨y 0, y 1, y 2, eq_ix3 y⟩
    obtain rfl : i' = i := Fin.ext h
    rw [← slot_emb]; exact View.emb_mem_set _ _

theorem mem_half (h : Fin 2) (y : S2x512x3072.Idx) : y ∈ (halfM h).view.set ↔ (y 0).val = h.val := by
  constructor
  · intro h
    obtain ⟨x, -, rfl⟩ := Finset.mem_map.mp h
    obtain ⟨a, b, rfl⟩ : ∃ (a : Fin 512) (b : Fin 3072), x = ix2 a b := ⟨x 0, x 1, eq_ix2 x⟩
    rw [half_emb]
  · intro h'
    obtain ⟨i', a, b, rfl⟩ : ∃ (i' : Fin 2) (a : Fin 512) (b : Fin 3072), y = ix3 i' a b := ⟨y 0, y 1, y 2, eq_ix3 y⟩
    obtain rfl : i' = h := Fin.ext h'
    rw [← half_emb]; exact View.emb_mem_set _ _

theorem mem_out (h : Fin 2) (y : S512x6144.Idx) : y ∈ (outH h).view.set ↔ (y 1).val / 3072 = h.val := by
  constructor
  · intro h
    obtain ⟨x, -, rfl⟩ := Finset.mem_map.mp h
    obtain ⟨a, b, rfl⟩ : ∃ (a : Fin 512) (b : Fin 3072), x = ix2 a b := ⟨x 0, x 1, eq_ix2 x⟩
    rw [out_emb]
    show (3072 * _ + b.val) / 3072 = _
    omega
  · intro h'
    obtain ⟨a, b, rfl⟩ : ∃ (a : Fin 512) (b : Fin 6144), y = ix2 a b := ⟨y 0, y 1, eq_ix2 y⟩
    have h' : b.val / 3072 = h.val := h'
    have : (ix2 a b : S512x6144.Idx) = (outH h).view.emb (ix2 a ⟨b.val - 3072 * h.val, by omega⟩) := by
      rw [out_emb]; refine congrArg (fun a' => ix2 a a') (Fin.ext ?_)
      show b.val = 3072 * h.val + (b.val - 3072 * h.val)
      omega
    rw [this]; exact View.emb_mem_set _ _

section
variable {Val : EltTy → Type}

/-- What a copy of a weight tile leaves in a ring slot. -/
theorem slot_landed (i : Fin 6) (e : Fin 16) (j : Fin 2) (fd : S6x2048x3072.Idx → Val .fp8e4m3) (w : S16x2048x6144.Idx → Val .fp8e4m3)
    (a : Fin 2048) (b : Fin 3072) :
    (slotM i).view.write Val fd (ReadAs.same.apply ((tileH e j).view.read Val w)) Finset.univ (ix3 i a b : S6x2048x3072.Idx)
      = w (ix3 e a ⟨3072 * j.val + b.val, by omega⟩) := by
  rw [← slot_emb, ← tile_emb]
  exact View.write_emb_of_mem _ _ (Finset.mem_univ _)

/-- What the copy of a result tile leaves in the result. -/
theorem out_landed (h : Fin 2) (fd : S512x6144.Idx → Val .bf16) (f : S2x512x3072.Idx → Val .bf16) (a : Fin 512) (b : Fin 3072) :
    (outH h).view.write Val fd (ReadAs.same.apply ((halfM h).view.read Val f)) Finset.univ (ix2 a ⟨3072 * h.val + b.val, by omega⟩ : S512x6144.Idx)
      = f (ix3 h a b) := by
  rw [← half_emb, ← out_emb]
  exact View.write_emb_of_mem _ _ (Finset.mem_univ _)

end

end Cert.Kernel.Hand
-- ==== Proof.Groups.lean ====
/-
  Hand-written. The groups that have rows, and where their rows lie: facts of natural numbers about sizes `g 0, …, g 15`
  that sum to 512.
-/

module

public import Idealize.ShloMosaic.Lib.Tactic
public import Mathlib.Tactic.Linarith
public import Mathlib.Order.Interval.Finset.Nat

@[expose] public section

namespace Cert.Kernel.Hand

/-- The rows before group `n`. -/
def pre (g : ℕ → ℕ) : ℕ → ℕ
  | 0 => 0
  | n + 1 => pre g n + g n
/-- How many groups before group `n` have rows. -/
def cnt (g : ℕ → ℕ) : ℕ → ℕ
  | 0 => 0
  | n + 1 => cnt g n + if 0 < g n then 1 else 0

variable {g : ℕ → ℕ}

theorem pre_mono {a b : ℕ} (h : a ≤ b) : pre g a ≤ pre g b := by
  induction b, h using Nat.le_induction with
  | base => exact le_rfl
  | succ n _ ih => exact ih.trans (Nat.le_add_right _ _)

theorem cnt_mono {a b : ℕ} (h : a ≤ b) : cnt g a ≤ cnt g b := by
  induction b, h using Nat.le_induction with
  | base => exact le_rfl
  | succ n _ ih => exact ih.trans (Nat.le_add_right _ _)

theorem cnt_le (n : ℕ) : cnt g n ≤ n := by
  induction n with
  | zero => exact le_rfl
  | succ n ih => simp only [cnt]; split <;> omega

/-- Between two positions with as many groups before them lie only empty groups. -/
theorem pre_eq_of_le {a b : ℕ} (h : a ≤ b) (hc : cnt g a = cnt g b) : pre g a = pre g b := by
  induction b, h using Nat.le_induction with
  | base => rfl
  | succ n hn ih =>
    have h1 := cnt_mono (g := g) hn
    simp only [cnt] at hc
    have h0 : g n = 0 := by by_contra h0; rw [if_pos (Nat.pos_of_ne_zero h0)] at hc; omega
    rw [h0] at hc
    simp only [pre, h0]
    exact ih hc

theorem pre_eq {a b : ℕ} (hc : cnt g a = cnt g b) : pre g a = pre g b := by
  rcases le_total a b with h | h
  · exact pre_eq_of_le h hc
  · exact (pre_eq_of_le h hc.symm).symm

/-- The number of groups with rows. -/
abbrev active (g : ℕ → ℕ) : ℕ := cnt g 16

theorem exists_group {n k : ℕ} (h : k < cnt g n) : ∃ i, i < n ∧ 0 < g i ∧ cnt g i = k := by
  induction n with
  | zero => exact absurd h (Nat.not_lt_zero _)
  | succ n ih =>
    by_cases h1 : k < cnt g n
    · obtain ⟨i, hi, hh⟩ := ih h1; exact ⟨i, by omega, hh⟩
    · simp only [cnt] at h
      by_cases h0 : 0 < g n
      · rw [if_pos h0] at h; exact ⟨n, by omega, h0, by omega⟩
      · rw [if_neg h0] at h; omega

open Classical in
/-- The `k`-th group that has rows. -/
noncomputable def grp (g : ℕ → ℕ) (k : ℕ) : ℕ := if h : ∃ i, i < 16 ∧ 0 < g i ∧ cnt g i = k then Classical.choose h else 0

theorem grp_spec {k : ℕ} (h : k < active g) : grp g k < 16 ∧ 0 < g (grp g k) ∧ cnt g (grp g k) = k := by
  unfold grp
  rw [dif_pos (exists_group h)]
  exact Classical.choose_spec (exists_group h)

theorem grp_lt (g : ℕ → ℕ) (k : ℕ) : grp g k < 16 := by
  unfold grp
  split
  · rename_i h; exact (Classical.choose_spec h).1
  · omega

/-- The rows of the `k`-th group that has rows: from `lo g k` up to `hi g k`. -/
noncomputable abbrev lo (g : ℕ → ℕ) (k : ℕ) : ℕ := pre g (grp g k)
noncomputable abbrev hi (g : ℕ → ℕ) (k : ℕ) : ℕ := pre g (grp g k + 1)

theorem cnt_next {k : ℕ} (h : k < active g) : cnt g (grp g k + 1) = k + 1 := by
  obtain ⟨-, h1, h2⟩ := grp_spec h
  simp only [cnt]; rw [if_pos h1, h2]

theorem lo_lt_hi {k : ℕ} (h : k < active g) : lo g k < hi g k := by
  obtain ⟨-, h1, -⟩ := grp_spec h
  show pre g _ < pre g _ + g _
  omega

theorem hi_le (hs : pre g 16 = 512) {k : ℕ} (h : k < active g) : hi g k ≤ 512 :=
  (pre_mono (Nat.succ_le_of_lt (grp_spec h).1)).trans hs.le

theorem lo_zero (h : 0 < active g) : lo g 0 = 0 :=
  pre_eq (b := 0) (grp_spec h).2.2

theorem lo_succ {k : ℕ} (h : k + 1 < active g) : lo g (k + 1) = hi g k :=
  pre_eq (((grp_spec h).2.2).trans (cnt_next (by omega)).symm)

theorem hi_last (hs : pre g 16 = 512) {k : ℕ} (h : k + 1 = active g) : hi g k = 512 :=
  (pre_eq ((cnt_next (by omega)).trans h)).trans hs

theorem active_pos (hs : pre g 16 = 512) : 0 < active g := by
  by_contra h
  have h0 : cnt g 0 = cnt g 16 := by
    have : cnt g 16 = 0 := Nat.eq_zero_of_not_pos h
    rw [this]; rfl
  have h1 : pre g 0 = 512 := (pre_eq h0).trans hs
  have h2 : pre g 0 = 0 := rfl
  omega

theorem active_le (g : ℕ → ℕ) : active g ≤ 16 := cnt_le 16

/-- The rows of group `n` end by row 512. -/
theorem pre_le (hs : pre g 16 = 512) {n : ℕ} (h : n ≤ 16) : pre g n ≤ 512 := (pre_mono h).trans hs.le

/-! ## The steps: every group with rows for the first column tile, then for the second -/

theorem step_mod {na u : ℕ} (h : 0 < na) : (if u % na + 1 = na then 0 else u % na + 1) = (u + 1) % na := by
  have h1 := Nat.mod_lt u h
  split
  · rename_i h2
    rw [Nat.add_mod_eq_ite]
    rcases Nat.lt_or_ge 1 na with h3 | h3
    · rw [Nat.mod_eq_of_lt h3, if_pos (by omega)]; omega
    · obtain rfl : na = 1 := by omega
      simp [Nat.mod_one]
  · rename_i h2
    rw [Nat.add_mod_eq_ite, Nat.mod_eq_of_lt (by omega : 1 < na), if_neg (by omega)]

theorem step_div {na u : ℕ} (h : 0 < na) : (if u % na + 1 = na then u / na + 1 else u / na) = (u + 1) / na := by
  have h1 := Nat.mod_lt u h
  have h2 := Nat.div_add_mod u na
  symm
  split
  · rename_i h3
    have e : u + 1 = na * (u / na + 1) := by rw [Nat.mul_add, Nat.mul_one]; omega
    rw [e, Nat.mul_div_cancel_left _ h]
  · rename_i h3
    have e : u + 1 = na * (u / na) + (u % na + 1) := by omega
    have h4 : (u % na + 1) / na = 0 := Nat.div_eq_of_lt (by omega)
    rw [e, Nat.mul_add_div h, h4, Nat.add_zero]

theorem step_tile {na u : ℕ} (h : 0 < na) (hu : u < 2 * na) : u / na < 2 := by
  rw [Nat.div_lt_iff_lt_mul h]; exact hu

end Cert.Kernel.Hand
-- ==== Proof.Ring.lean ====
/-
  Hand-written. The ring of six weight tiles: which copies are in flight, what each leaves in its slot, and the steps that
  start one and await one.
-/
module

public import proofs.«01_k».proof.Proof.Memory
public import proofs.«01_k».proof.Proof.Groups

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

open Idealize.ShloMosaic.Transfers

/-- The weights a step uses: the group with rows, and the column tile. -/
def eOf (g : ℕ → ℕ) (u : ℕ) : Fin 16 := ⟨grp g (u % active g), grp_lt g _⟩
def jOf (g : ℕ → ℕ) (u : ℕ) : Fin 2 := ⟨u / active g % 2, Nat.mod_lt _ (by decide)⟩

theorem jOf_val {g : ℕ → ℕ} {u : ℕ} (h : u / active g < 2) : (jOf g u).val = u / active g := Nat.mod_eq_of_lt h

/-- The weights' contents. -/
abbrev Weights (F : FTy → Type) : Type := S16x2048x6144.Idx → Elt F .fp8e4m3

/-- Slot `i` of the ring holds the weight tile of step `u`. -/
def Landed (g : ℕ → ℕ) (wv : Weights F) (u : ℕ) (i : Fin 6) (f : S6x2048x3072.Idx → Elt F .fp8e4m3) : Prop :=
  ∀ (a : Fin 2048) (b : Fin 3072), f (ix3 i a b) = wv (ix3 (eOf g u) a ⟨3072 * (jOf g u).val + b.val, by have := (jOf g u).isLt; omega⟩)

variable (c : Dev nD)

/-- A slot not in use: its semaphore at zero, the slot held, and a share of the weights. -/
def Free (wv : Weights F) (i : Fin 6) : sProp 𝕄 :=
  iprop(semVal ((c : Thread nD τ), SemLoc.dma (wSem i)) 0
    ∗ (∃ f : S6x2048x3072.Idx → Elt F .fp8e4m3, (rgM.view.loc (c : Thread nD τ) ↦[(slotM i).view.set]{fullShare} (f : Buf (Elt F) _)))
    ∗ (wH.view.loc (c : Thread nD τ) ↦{shareTok fullShare 6 i} (wv : Buf (Elt F) _)))

/-- What the copy for step `u` delivers: the slot at that step's weight tile, and the share of that tile of the weights. -/
def Arrived (g : ℕ → ℕ) (wv : Weights F) (i : Fin 6) (u : ℕ) : sProp 𝕄 :=
  iprop((∃ f : S6x2048x3072.Idx → Elt F .fp8e4m3, ⌜Landed g wv u i f⌝ ∗ (rgM.view.loc (c : Thread nD τ) ↦[(slotM i).view.set]{fullShare} (f : Buf (Elt F) _)))
    ∗ (wH.view.loc (c : Thread nD τ) ↦[(tileH (eOf g u) (jOf g u)).view.set]{shareTok fullShare 6 i} (wv : Buf (Elt F) _)))

/-- A slot whose copy for step `u` is in flight. -/
def Flying (g : ℕ → ℕ) (wv : Weights F) (i : Fin 6) (u : ℕ) : sProp 𝕄 :=
  iprop(Flight (countersEmb (U := Pipeline.UD sig nD τ)) (c : Thread nD τ) (SemLoc.dma (wSem i)) () (slotM i).view.dmaCredit (Arrived c g wv i u)
    ∗ (wH.view.loc (c : Thread nD τ) ↦[Finset.univ \ (tileH (eOf g u) (jOf g u)).view.set]{shareTok fullShare 6 i} (wv : Buf (Elt F) _)))

/-- The step whose copy slot `i` is for, when steps `lo, …` are outstanding. -/
def stepAt (lo : ℕ) (i : Fin 6) : ℕ := lo + (i.val + 6 - lo % 6) % 6

/-- A slot when the copies of steps `lo, …, hi - 1` are in flight. -/
def Slot (g : ℕ → ℕ) (wv : Weights F) (lo hi : ℕ) (i : Fin 6) : sProp 𝕄 :=
  if stepAt lo i < hi then Flying c g wv i (stepAt lo i) else Free c wv i

/-- The ring when the copies of steps `lo, …, hi - 1` are in flight. -/
def Ring (g : ℕ → ℕ) (wv : Weights F) (lo hi : ℕ) : sProp 𝕄 := bigSep Finset.univ (Slot (F := F) c g wv lo hi)

/-- A family changed at one place only. -/
theorem family_swap {Φ Ψ : Fin 6 → sProp 𝕄} (i : Fin 6) (h : ∀ j, j ≠ i → Φ j = Ψ j) :
    bigSep Finset.univ Φ ⊢ iprop(Φ i ∗ (Ψ i -∗ bigSep Finset.univ Ψ)) := by
  rw [bigSep_univ_split (Φ := Φ) i, bigSep_univ_split (Φ := Ψ) i,
    bigSep_congr (s := Finset.univ.erase i) (Φ := Φ) (Ψ := Ψ) (fun j hj => h j (Finset.ne_of_mem_erase hj))]
  show iprop(Φ i ∗ bigSep (Finset.univ.erase i) Ψ) ⊢ iprop(Φ i ∗ (Ψ i -∗ (Ψ i ∗ bigSep (Finset.univ.erase i) Ψ)))
  iintro ⟨H, HR⟩
  isplitl [H]; · iexact H
  iintro H'
  isplitl [H']; · iexact H'
  iexact HR

/-- The slot of the next copy to start. -/
theorem ring_start (g : ℕ → ℕ) (wv : Weights F) {lo hi : ℕ} (h1 : lo ≤ hi) (h2 : hi < lo + 6) (i : Fin 6) (hi' : i.val = hi % 6) :
    Ring (F := F) c g wv lo hi ⊢ iprop(Free c wv i ∗ (Flying c g wv i hi -∗ Ring (F := F) c g wv lo (hi + 1))) := by
  have e : stepAt lo i = hi := by unfold stepAt; omega
  have h := family_swap (Φ := Slot (F := F) c g wv lo hi) (Ψ := Slot (F := F) c g wv lo (hi + 1)) i fun j hj => by
    have hne : stepAt lo j ≠ hi := fun e' => hj (Fin.ext (by have := j.isLt; unfold stepAt at e'; omega))
    unfold Slot
    by_cases hlt : stepAt lo j < hi
    · rw [if_pos hlt, if_pos (by omega)]
    · rw [if_neg hlt, if_neg (by omega)]
  rw [show Slot (F := F) c g wv lo hi i = Free c wv i by unfold Slot; rw [if_neg (by omega)],
    show Slot (F := F) c g wv lo (hi + 1) i = Flying c g wv i hi by unfold Slot; rw [if_pos (by omega), e]] at h
  exact h

/-- The slot of the oldest copy in flight. -/
theorem ring_oldest (g : ℕ → ℕ) (wv : Weights F) {lo hi : ℕ} (h1 : lo < hi) (h2 : hi ≤ lo + 6) (i : Fin 6) (hi' : i.val = lo % 6) :
    Ring (F := F) c g wv lo hi ⊢ iprop(Flying c g wv i lo ∗ (Free c wv i -∗ Ring (F := F) c g wv (lo + 1) hi)) := by
  have e : stepAt lo i = lo := by unfold stepAt; omega
  have e2 : stepAt (lo + 1) i = lo + 6 := by unfold stepAt; omega
  have h := family_swap (Φ := Slot (F := F) c g wv lo hi) (Ψ := Slot (F := F) c g wv (lo + 1) hi) i fun j hj => by
    have hne : j.val ≠ i.val := fun e' => hj (Fin.ext e')
    have : stepAt lo j = stepAt (lo + 1) j := by have := j.isLt; unfold stepAt; omega
    unfold Slot
    rw [this]
  rw [show Slot (F := F) c g wv lo hi i = Flying c g wv i lo by unfold Slot; rw [e, if_pos h1],
    show Slot (F := F) c g wv (lo + 1) hi i = Free c wv i by unfold Slot; rw [if_neg (by omega)]] at h
  exact h

/-- The start of the copy of step `u`'s weight tile into slot `i`. -/
theorem wp_start {𝒱₀ : Variants} (g : ℕ → ℕ) (wv : Weights F) (i : Fin 6) (u : ℕ) {o1 : Fin 1 → ℕ} {o2 o3 : Fin 3 → ℕ}
    (h1 : o1 = ![i.val]) (h2 : o2 = ![i.val, 0, 0]) (h3 : o3 = ![(eOf g u).val, 0, 3072 * (jOf g u).val])
    {inb1 : ∀ a, o1 a + S1.size a ≤ S6.size a} {inb2 : ∀ a, o2 a + S1x2048x3072.size a ≤ S6x2048x3072.size a}
    {inb3 : ∀ a, o3 a + S1x2048x3072.size a ≤ S16x2048x6144.size a} {α : Type} {Q : α → sProp 𝕄} {hsrc hdst hsem}
    {k : PUnit → Prog (TpuEff nD τ sig (Elt F) Λ₀ .tc) α} :
    Free (F := F) c wv i ⊢ iprop((Flying c g wv i u -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma ((wH.slice (Rect.unit (s := S16x2048x6144) o3 S1x2048x3072.size inb3) (fun _ => rfl)).squeeze S2048x3072 squeezes_S1x2048x3072_S2048x3072)
          (.here ((rgM.slice (Rect.unit (s := S6x2048x3072) o2 S1x2048x3072.size inb2) (fun _ => rfl)).squeeze S2048x3072 squeezes_S1x2048x3072_S2048x3072))
          (.dma ((cc0_scratch13.slice (Rect.unit (s := S6) o1 S1.size inb1)).squeeze S_ squeezes_S1_S_).sem) hsrc hdst hsem) k) Q) := by
  subst h1 h2 h3
  unfold Free
  iintro ⟨Hs, ⟨%f, Hr⟩, Hw⟩ Hk
  ihave Hw' := (pointsTo_split_subset (Finset.subset_univ (tileH (eOf g u) (jOf g u)).view.set)).1 $$ Hw
  icases Hw' with ⟨Hw, Hrest⟩
  iapply (wp_dmaLocal (countersEmb (U := Pipeline.UD sig nD τ)) 𝒱₀ (c : Thread nD τ) none (src := tileH (eOf g u) (jOf g u)) (dst := slotM i) (Sd := (slotM i).view.set)
    () (slotM i).view.dmaCredit rfl (View.dmaCredit_pos _ (by decide)) (Finset.Subset.refl _)) $$ [Hw Hr Hs]
  · isplitl [Hw]; · iexact Hw
    isplitl [Hr]; · iexact Hr
    iexact Hs
  iintro HF
  iapply Hk
  unfold Flying
  isplitl [HF]
  · iapply (Flight_mono (countersEmb (U := Pipeline.UD sig nD τ)) ?_) $$ HF
    unfold Arrived
    iintro ⟨Hr, Hw⟩
    isplitl [Hr]
    · iexists _
      isplitr
      swap
      · iexact Hr
      ipureintro
      intro a b
      exact slot_landed i _ _ f wv a b
    iexact Hw
  iexact Hrest

/-- The wait for step `u`'s copy into slot `i`. -/
theorem wp_await {𝒱₀ : Variants} (g : ℕ → ℕ) (wv : Weights F) (i : Fin 6) (u : ℕ) {o1 : Fin 1 → ℕ} {o2 o3 : Fin 3 → ℕ}
    (h1 : o1 = ![i.val]) (h2 : o2 = ![i.val, 0, 0]) {W : Waits sig Unit}
    {inb1 : ∀ a, o1 a + S1.size a ≤ S6.size a} {inb2 : ∀ a, o2 a + S1x2048x3072.size a ≤ S6x2048x3072.size a}
    {inb3 : ∀ a, o3 a + S1x2048x3072.size a ≤ S16x2048x6144.size a} {α : Type} {Q : α → sProp 𝕄} {hsrc hdst}
    {k : PUnit → Prog (TpuEff nD τ sig (Elt F) Λ₀ .tc) α} :
    iprop(Flying (F := F) c g wv i u ∗ owes (c : Thread nD τ) 0 W)
      ⊢ iprop((iprop((∃ f : S6x2048x3072.Idx → Elt F .fp8e4m3, ⌜Landed g wv u i f⌝ ∗ (rgM.view.loc (c : Thread nD τ) ↦[(slotM i).view.set]{fullShare} (f : Buf (Elt F) _)))
          ∗ semVal ((c : Thread nD τ), SemLoc.dma (wSem i)) 0
          ∗ (wH.view.loc (c : Thread nD τ) ↦{shareTok fullShare 6 i} (wv : Buf (Elt F) _)) ∗ (∃ W', owes (c : Thread nD τ) 0 W'))
            -∗ wp frame (wpE (defs₀ (F := F)) 𝒱₀ (c : Thread nD τ) none) Set.univ (k ⟨⟩) Q)
      -∗ wp frame (wpE (defs₀ (F := F)) 𝒱₀ (c : Thread nD τ) none) Set.univ
        (.op (.waitDma2 ((cc0_scratch13.slice (Rect.unit (s := S6) o1 S1.size inb1)).squeeze S_ squeezes_S1_S_).sem
          ((wH.slice (Rect.unit (s := S16x2048x6144) o3 S1x2048x3072.size inb3) (fun _ => rfl)).squeeze S2048x3072 squeezes_S1x2048x3072_S2048x3072)
          ((rgM.slice (Rect.unit (s := S6x2048x3072) o2 S1x2048x3072.size inb2) (fun _ => rfl)).squeeze S2048x3072 squeezes_S1x2048x3072_S2048x3072) hsrc hdst) k) Q) := by
  subst h1 h2
  unfold Flying
  iintro ⟨⟨HF, Hrest⟩, HO⟩ Hk
  iapply (wp_waitLocal (countersEmb (U := Pipeline.UD sig nD τ)) 𝒱₀ (c : Thread nD τ) none (dstw := slotM i) () rfl) $$ [HF HO]
  · isplitl [HF]; · iexact HF
    iexact HO
  unfold Arrived
  iintro ⟨⟨Hr, Hw⟩, Hs, HO⟩
  iapply Hk
  isplitl [Hr]; · iexact Hr
  isplitl [Hs]; · iexact Hs
  isplitl [Hw Hrest]
  · iapply (pointsTo_split_subset (Finset.subset_univ (tileH (eOf g u) (jOf g u)).view.set)).2
    isplitl [Hw]; · iexact Hw
    iexact Hrest
  iexists _; iexact HO

end Cert.Kernel.Hand
-- ==== Proof.Words.lean ====
/-
  Hand-written. The words the kernel computes with, at the values they take: the loops' trip counts, the offsets of its
  accesses and its run-time checks. Every word here is the binary form of a small natural number: at most sixteen
  groups, two column tiles, thirty-two steps, rows below 513.
-/
module

public import proofs.«01_k».proof.Proof.Gen.Kernel
public import proofs.«01_k».proof.Proof.Gen.Kernel.Skeleton

@[expose] public section

set_option Elab.async false
set_option maxRecDepth 100000

namespace Cert.Kernel.Hand

open Cert.Kernel Cert.Kernel.Gen
open Idealize.ShloMosaic

/-- The 32-bit word of a natural number. -/
abbrev W (n : ℕ) : BitVec 32 := BitVec.ofNat 32 n

theorem W_toNat {n : ℕ} (h : n < 4294967296) : (W n).toNat = n := by
  simp [W, BitVec.toNat_ofNat]; omega

theorem W_add (a b : ℕ) : Scalar.addi (W a) (W b) = W (a + b) := by
  exact (BitVec.ofNat_add a b).symm

theorem W_inj {a b : ℕ} (ha : a < 4294967296) (hb : b < 4294967296) : W a = W b ↔ a = b := by
  constructor
  · intro h
    have := congrArg BitVec.toNat h
    rwa [W_toNat ha, W_toNat hb] at this
  · rintro rfl; rfl

theorem iv_eq (k : ℕ) : Scf.iv (0#32) (1#32) k = W k := by simp [Scf.iv, W]

/-! ## The scan of the group sizes -/

theorem trips1 : k0_t1_loop.trips = 16 := by decide +kernel
theorem chk1 {n : ℕ} (h : n < 16) : k0_chk1 (W n) :=
  (by decide +kernel : ∀ n : Fin 16, k0_chk1 (W n)) ⟨n, h⟩
theorem off2 {n : ℕ} (h : n < 16) : k0_off2 (W n) = ![n] :=
  (by decide +kernel : ∀ n : Fin 16, k0_off2 (W n) = ![n.val]) ⟨n, h⟩

/-- The word the scan adds to its count: one for a group that has rows, none for an empty one. -/
theorem nonempty_word {g : ℕ} (h : g ≤ 512) :
    Scalar.extui (Scalar.cmpi .sgt (W g) 0#32) = W (if 0 < g then 1 else 0) :=
  (by decide +kernel : ∀ g : Fin 513, (Scalar.extui (Scalar.cmpi .sgt (W g) 0#32) : BitVec 32) = W (if 0 < g.val then 1 else 0))
    ⟨g, by omega⟩

/-! ## The weight copies started ahead -/

theorem trips2 : k0_t2_loop.trips = 5 := by decide +kernel
theorem chk3 {na a : ℕ} (hn : na ≤ 16) (h : a < 16) (t : Fin k0_t2_loop.trips) : k0_chk3 (W na) t (W a) :=
  (by decide +kernel : ∀ (na : Fin 17) (a : Fin 16) (t : Fin k0_t2_loop.trips), k0_chk3 (W na) t (W a)) ⟨na, by omega⟩ ⟨a, h⟩ t
theorem cond1 {na : ℕ} (hn : na ≤ 16) (t : Fin k0_t2_loop.trips) : k0_cond1 (W na) t = 1#1 ↔ t.val < 2 * na :=
  (by decide +kernel : ∀ (na : Fin 17) (t : Fin k0_t2_loop.trips), k0_cond1 (W na) t = 1#1 ↔ t.val < 2 * na.val) ⟨na, by omega⟩ t
theorem chk2 {na b : ℕ} (hn : na ≤ 16) (hb : b < 6) (t : Fin k0_t2_loop.trips) : k0_chk2 (W na) t (W b) :=
  (by decide +kernel : ∀ (na : Fin 17) (b : Fin 6) (t : Fin k0_t2_loop.trips), k0_chk2 (W na) t (W b)) ⟨na, by omega⟩ ⟨b, hb⟩ t
theorem chk4 {na j e : ℕ} (hn : na ≤ 16) (hj : j < 2) (he : e < 16) (t : Fin k0_t2_loop.trips) : k0_chk4 (W na) t (W j) (W e) :=
  (by decide +kernel : ∀ (na : Fin 17) (j : Fin 2) (e : Fin 16) (t : Fin k0_t2_loop.trips), k0_chk4 (W na) t (W j) (W e))
    ⟨na, by omega⟩ ⟨j, hj⟩ ⟨e, he⟩ t
theorem off3 {a : ℕ} (h : a < 16) : k0_off3 (W a) = ![a] :=
  (by decide +kernel : ∀ n : Fin 16, k0_off3 (W n) = ![n.val]) ⟨a, h⟩
theorem off6 {j e : ℕ} (hj : j < 2) (he : e < 16) : k0_off6 (W j) (W e) = ![e, 0, 3072 * j] :=
  (by decide +kernel : ∀ (j : Fin 2) (e : Fin 16), k0_off6 (W j) (W e) = ![e.val, 0, 3072 * j.val]) ⟨j, hj⟩ ⟨e, he⟩

/-- The next active group after `k`, cyclically. -/
theorem next_group {na k : ℕ} (hn : na ≤ 16) (hk : k < na) :
    Scalar.select (Scalar.cmpi .eq (Scalar.addi (W k) 1#32) (W na)) 0#32 (Scalar.addi (W k) 1#32) = W (if k + 1 = na then 0 else k + 1) :=
  (by decide +kernel : ∀ (na : Fin 17) (k : Fin 16), Scalar.select (Scalar.cmpi .eq (Scalar.addi (W k) 1#32) (W na)) 0#32 (Scalar.addi (W k) 1#32)
    = W (if k.val + 1 = na.val then 0 else k.val + 1)) ⟨na, by omega⟩ ⟨k, by omega⟩
/-- The column tile after the step of group `k` in column tile `j`. -/
theorem next_tile {na k j : ℕ} (hn : na ≤ 16) (hk : k < na) (hj : j < 64) :
    Scalar.select (Scalar.cmpi .eq (Scalar.addi (W k) 1#32) (W na)) (Scalar.addi (W j) 1#32) (W j) = W (if k + 1 = na then j + 1 else j) :=
  (by decide +kernel : ∀ (na : Fin 17) (k : Fin 16) (j : Fin 64),
    Scalar.select (Scalar.cmpi .eq (Scalar.addi (W k) 1#32) (W na)) (Scalar.addi (W j) 1#32) (W j) = W (if k.val + 1 = na.val then j.val + 1 else j.val))
    ⟨na, by omega⟩ ⟨k, by omega⟩ ⟨j, hj⟩

/-! ## The steps -/

theorem chk5 {na : ℕ} (h1 : 1 ≤ na) (hn : na ≤ 16) : k0_chk5 (W na) :=
  (by decide +kernel : ∀ na : Fin 17, 1 ≤ na.val → k0_chk5 (W na)) ⟨na, by omega⟩ h1
theorem trips4 {na : ℕ} (hn : na ≤ 16) : (k0_t4_loop (W na)).trips = 2 * na :=
  (by decide +kernel : ∀ na : Fin 17, (k0_t4_loop (W na)).trips = 2 * na.val) ⟨na, by omega⟩
theorem trips7 {na : ℕ} (hn : na ≤ 16) : (k0_t7_loop (W na)).trips = 0 :=
  (by decide +kernel : ∀ na : Fin 17, (k0_t7_loop (W na)).trips = 0) ⟨na, by omega⟩
theorem off10 {na : ℕ} (hn : na ≤ 16) (t : Fin (k0_t4_loop (W na)).trips) : k0_off10 (W na) t = ![(t.val + 5) % 6] :=
  (by decide +kernel : ∀ (na : Fin 17) (t : Fin (k0_t4_loop (W na)).trips), k0_off10 (W na) t = ![(t.val + 5) % 6]) ⟨na, by omega⟩ t
theorem off11 {na : ℕ} (hn : na ≤ 16) (t : Fin (k0_t4_loop (W na)).trips) : k0_off11 (W na) t = ![(t.val + 5) % 6, 0, 0] :=
  (by decide +kernel : ∀ (na : Fin 17) (t : Fin (k0_t4_loop (W na)).trips), k0_off11 (W na) t = ![(t.val + 5) % 6, 0, 0]) ⟨na, by omega⟩ t
theorem off17 {na : ℕ} (hn : na ≤ 16) (t : Fin (k0_t4_loop (W na)).trips) : k0_off17 (W na) t = ![t.val % 6] :=
  (by decide +kernel : ∀ (na : Fin 17) (t : Fin (k0_t4_loop (W na)).trips), k0_off17 (W na) t = ![t.val % 6]) ⟨na, by omega⟩ t
theorem off18 {na : ℕ} (hn : na ≤ 16) (t : Fin (k0_t4_loop (W na)).trips) : k0_off18 (W na) t = ![t.val % 6, 0, 0] :=
  (by decide +kernel : ∀ (na : Fin 17) (t : Fin (k0_t4_loop (W na)).trips), k0_off18 (W na) t = ![t.val % 6, 0, 0]) ⟨na, by omega⟩ t
theorem off23 {na : ℕ} (hn : na ≤ 16) (t : Fin (k0_t4_loop (W na)).trips) : k0_off23 (W na) t = ![t.val % 6, 0, 0] :=
  (by decide +kernel : ∀ (na : Fin 17) (t : Fin (k0_t4_loop (W na)).trips), k0_off23 (W na) t = ![t.val % 6, 0, 0]) ⟨na, by omega⟩ t
theorem cond2 {na : ℕ} (hn : na ≤ 16) (t : Fin (k0_t4_loop (W na)).trips) : k0_cond2 (W na) t = 1#1 ↔ t.val + 5 < 2 * na :=
  (by decide +kernel : ∀ (na : Fin 17) (t : Fin (k0_t4_loop (W na)).trips), k0_cond2 (W na) t = 1#1 ↔ t.val + 5 < 2 * na.val) ⟨na, by omega⟩ t
theorem cond3 {k j : ℕ} (hk : k < 16) (hj : j < 2) : ¬ k0_cond3 (W k) (W j) = 1#1 :=
  (by decide +kernel : ∀ (k : Fin 16) (j : Fin 2), ¬ k0_cond3 (W k) (W j) = 1#1) ⟨k, hk⟩ ⟨j, hj⟩
theorem cond4 {na k : ℕ} (h1 : 1 ≤ na) (hn : na ≤ 16) (hk : k < 16) : k0_cond4 (W na) (W k) = 1#1 ↔ k + 1 = na :=
  (by decide +kernel : ∀ (na : Fin 17) (k : Fin 16), 1 ≤ na.val → (k0_cond4 (W na) (W k) = 1#1 ↔ k.val + 1 = na.val))
    ⟨na, by omega⟩ ⟨k, hk⟩ h1
theorem chk6 {na j : ℕ} (hn : na ≤ 16) (hj : j < 64) (t : Fin (k0_t4_loop (W na)).trips) : k0_chk6 (W na) t (W j) :=
  fun _ => (by decide +kernel : ∀ (j : Fin 64), 3072 ∣ (k0_mult3 (W j)).toNat) ⟨j, hj⟩
theorem chk7 {na k : ℕ} (hn : na ≤ 16) (hk : k < 16) (t : Fin (k0_t4_loop (W na)).trips) : k0_chk7 (W na) t (W k) :=
  fun _ => (by decide +kernel : ∀ (k : Fin 16), ∀ a, (k0_off9 (W k)) a + S1.size a ≤ S16.size a) ⟨k, hk⟩
theorem chk8 {na j e : ℕ} (hn : na ≤ 16) (hj : j < 2) (he : e < 16) (t : Fin (k0_t4_loop (W na)).trips) : k0_chk8 (W na) t (W j) (W e) :=
  ⟨fun _ => (by decide +kernel : ∀ (j : Fin 2) (e : Fin 16), ∀ a, (k0_off12 (W j) (W e)) a + S1x2048x3072.size a ≤ S16x2048x6144.size a) ⟨j, hj⟩ ⟨e, he⟩,
   fun _ => (by decide +kernel : ∀ (j : Fin 2) (e : Fin 16), ∀ (hinb : ∀ a, (k0_off12 (W j) (W e)) a + S1x2048x3072.size a ≤ S16x2048x6144.size a),
     (Rect.unit (s := S16x2048x6144) (k0_off12 (W j) (W e)) S1x2048x3072.size hinb).WholeWords (EltTy.packing .fp8e4m3)) ⟨j, hj⟩ ⟨e, he⟩⟩
theorem chk9 {na k j : ℕ} (hn : na ≤ 16) (hk : k < 16) (hj : j < 2) : k0_chk9 (W na) (W k) (W j) :=
  (by decide +kernel : ∀ na : Fin 17, ∀ k : Fin 16, ∀ j : Fin 2, k0_chk9 (W na) (W k) (W j)) ⟨na, by omega⟩ ⟨k, hk⟩ ⟨j, hj⟩
theorem chk10 {k : ℕ} (hk : k < 16) : k0_chk10 (W k) :=
  (by decide +kernel : ∀ k : Fin 16, k0_chk10 (W k)) ⟨k, hk⟩
theorem chk11 {j e : ℕ} (hj : j < 2) (he : e < 16) : k0_chk11 (W j) (W e) :=
  (by decide +kernel : ∀ (j : Fin 2) (e : Fin 16), k0_chk11 (W j) (W e)) ⟨j, hj⟩ ⟨e, he⟩
theorem chk12 {j e : ℕ} (hj : j < 2) (he : e < 16) : k0_chk12 (W j) (W e) :=
  (by decide +kernel : ∀ (j : Fin 2) (e : Fin 16), k0_chk12 (W j) (W e)) ⟨j, hj⟩ ⟨e, he⟩
theorem off9 {k : ℕ} (h : k < 16) : k0_off9 (W k) = ![k] :=
  (by decide +kernel : ∀ n : Fin 16, k0_off9 (W n) = ![n.val]) ⟨k, h⟩
theorem off16 {k : ℕ} (h : k < 16) : k0_off16 (W k) = ![k] :=
  (by decide +kernel : ∀ n : Fin 16, k0_off16 (W n) = ![n.val]) ⟨k, h⟩
theorem off20 {k : ℕ} (h : k < 16) : k0_off20 (W k) = ![k] :=
  (by decide +kernel : ∀ n : Fin 16, k0_off20 (W n) = ![n.val]) ⟨k, h⟩
theorem off12 {j e : ℕ} (hj : j < 2) (he : e < 16) : k0_off12 (W j) (W e) = ![e, 0, 3072 * j] :=
  (by decide +kernel : ∀ (j : Fin 2) (e : Fin 16), k0_off12 (W j) (W e) = ![e.val, 0, 3072 * j.val]) ⟨j, hj⟩ ⟨e, he⟩
theorem off19 {j e : ℕ} (hj : j < 2) (he : e < 16) : k0_off19 (W j) (W e) = ![e, 0, 3072 * j] :=
  (by decide +kernel : ∀ (j : Fin 2) (e : Fin 16), k0_off19 (W j) (W e) = ![e.val, 0, 3072 * j.val]) ⟨j, hj⟩ ⟨e, he⟩
theorem off21 {j e : ℕ} (hj : j < 2) (he : e < 16) : k0_off21 (W j) (W e) = ![e, 0, 3072 * j] :=
  (by decide +kernel : ∀ (j : Fin 2) (e : Fin 16), k0_off21 (W j) (W e) = ![e.val, 0, 3072 * j.val]) ⟨j, hj⟩ ⟨e, he⟩
theorem off30 {j : ℕ} (hj : j < 2) : k0_off30 (W j) = ![j] :=
  (by decide +kernel : ∀ j : Fin 2, k0_off30 (W j) = ![j.val]) ⟨j, hj⟩
theorem off31 {j : ℕ} (hj : j < 2) : k0_off31 (W j) = ![0, 3072 * j] :=
  (by decide +kernel : ∀ j : Fin 2, k0_off31 (W j) = ![0, 3072 * j.val]) ⟨j, hj⟩
theorem off32 {j : ℕ} (hj : j < 2) : k0_off32 (W j) = ![j, 0, 0] :=
  (by decide +kernel : ∀ j : Fin 2, k0_off32 (W j) = ![j.val, 0, 0]) ⟨j, hj⟩

/-! ## The blocks of rows of one group -/

/-- A row's position divided by 32, as the kernel's signed division computes it. -/
theorem div32 {lo : ℕ} (h : lo < 513) : Scalar.divsi (W lo) 32#32 = W (lo / 32) :=
  (by decide +kernel : ∀ lo : Fin 513, Scalar.divsi (W lo) 32#32 = W (lo.val / 32)) ⟨lo, h⟩

/-- The first row of group rows `[lo, …)`, rounded down to a multiple of 32. -/
theorem first_word {lo : ℕ} (h : lo < 513) : Scalar.muli (Scalar.divsi (W lo) 32#32) 32#32 = W (32 * (lo / 32)) := by
  rw [div32 h]
  exact (by decide +kernel : ∀ q : Fin 17, Scalar.muli (W q) 32#32 = W (32 * q.val)) ⟨lo / 32, by omega⟩

theorem loop5_norm {lo : ℕ} (h : lo < 513) (x : BitVec 32) : k0_t5_loop (W lo) x = k0_t5_loop (W (32 * (lo / 32))) x := by
  simp +zetaDelta only [k0_t5_loop]
  rw [div32 h, div32 (by omega : 32 * (lo / 32) < 513), Nat.mul_div_cancel_left _ (by omega : 0 < 32)]
theorem loop6_norm {lo : ℕ} (h : lo < 513) (x : BitVec 32) : k0_t6_loop (W lo) x = k0_t6_loop (W (32 * (lo / 32))) x := by
  simp +zetaDelta only [k0_t6_loop]
  rw [div32 h, div32 (by omega : 32 * (lo / 32) < 513), Nat.mul_div_cancel_left _ (by omega : 0 < 32)]

/-- The number of blocks of 128 rows that cover rows `[lo, hi)` from `lo` rounded down to a multiple of 32. -/
def blocks (lo hi : ℕ) : ℕ := (hi - 32 * (lo / 32) + 127) / 128

theorem trips5 {lo hi : ℕ} (h : lo < hi) (hi' : hi ≤ 512) : (k0_t5_loop (W lo) (W hi)).trips = blocks lo hi := by
  rw [loop5_norm (by omega)]
  have := (by decide +kernel : ∀ (q : Fin 16) (hi : Fin 513), 32 * q.val < hi.val →
    (k0_t5_loop (W (32 * q)) (W hi)).trips = (hi - 32 * q.val + 127) / 128) ⟨lo / 32, by omega⟩ ⟨hi, by omega⟩ (by dsimp only; omega)
  exact this
theorem ok5 {lo hi : ℕ} (h : lo < hi) (hi' : hi ≤ 512) : (k0_t5_loop (W lo) (W hi)).OK := by
  rw [loop5_norm (by omega)]
  exact (by decide +kernel : ∀ (q : Fin 16) (hi : Fin 513), 32 * q.val < hi.val →
    (k0_t5_loop (W (32 * q)) (W hi)).OK) ⟨lo / 32, by omega⟩ ⟨hi, by omega⟩ (by dsimp only; omega)
theorem trips6 {lo hi : ℕ} (h : lo < hi) (hi' : hi ≤ 512) : (k0_t6_loop (W lo) (W hi)).trips = 0 := by
  rw [loop6_norm (by omega)]
  exact (by decide +kernel : ∀ (q : Fin 16) (hi : Fin 513), 32 * q.val < hi.val →
    (k0_t6_loop (W (32 * q)) (W hi)).trips = 0) ⟨lo / 32, by omega⟩ ⟨hi, by omega⟩ (by dsimp only; omega)
theorem ok6 {lo hi : ℕ} (h : lo < hi) (hi' : hi ≤ 512) : (k0_t6_loop (W lo) (W hi)).OK := by
  rw [loop6_norm (by omega)]
  exact (by decide +kernel : ∀ (q : Fin 16) (hi : Fin 513), 32 * q.val < hi.val →
    (k0_t6_loop (W (32 * q)) (W hi)).OK) ⟨lo / 32, by omega⟩ ⟨hi, by omega⟩ (by dsimp only; omega)

theorem blocks_le {lo hi : ℕ} (h : lo < hi) (hi' : hi ≤ 512) : blocks lo hi ≤ 5 := by unfold blocks; omega

/-- The first row of block `b` of a group from row `lo`: 128 rows on from the block before, but no further than row 384. -/
def blockRow (lo b : ℕ) : ℕ := min (32 * (lo / 32) + 128 * b) 384

theorem blockRow_word {lo b : ℕ} (h : lo < 513) (hb : b < 5) :
    Scalar.minsi (Scalar.addi (W (32 * (lo / 32))) (Scalar.muli (Scalar.addi 0#32 (Scalar.muli (W b) 1#32)) 128#32)) 384#32 = W (blockRow lo b) :=
  (by decide +kernel : ∀ (q : Fin 17) (b : Fin 5), Scalar.minsi (Scalar.addi (W (32 * q)) (Scalar.muli (Scalar.addi 0#32 (Scalar.muli (W b) 1#32)) 128#32)) 384#32
    = W (min (32 * q + 128 * b) 384)) ⟨lo / 32, by omega⟩ ⟨b, hb⟩

section
variable {lo hi : ℕ} (h : lo < hi) (hi' : hi ≤ 512) (b : Fin (k0_t5_loop (W lo) (W hi)).trips)
include h hi'

theorem lt5 : b.val < 5 := lt_of_lt_of_le b.isLt ((trips5 h hi').le.trans (blocks_le h hi'))

theorem row5 : Scalar.minsi (Scalar.addi (Scalar.muli (Scalar.divsi (W lo) 32#32) 32#32)
      (Scalar.muli (Scalar.addi 0#32 (Scalar.muli (Scf.iv (0#32) (1#32) b.val) 1#32)) 128#32)) 384#32 = W (blockRow lo b) := by
  rw [first_word (by omega), iv_eq, blockRow_word (by omega) (lt5 h hi' b)]

theorem off22 : k0_off22 (W lo) (W hi) b = ![blockRow lo b, 0] := by
  have hr := row5 h hi' b
  have hb : blockRow lo b < 4294967296 := lt_of_le_of_lt (min_le_right _ _) (by omega)
  show ![BitVec.toNat _, 0] = _
  exact congrArg (fun n => ![n, 0]) ((congrArg BitVec.toNat hr).trans (W_toNat hb))
theorem off24 : k0_off24 (W lo) (W hi) b = ![blockRow lo b, 0] := off22 h hi' b
theorem off25 {j : ℕ} (hj : j < 2) : k0_off25 (W j) (W lo) (W hi) b = ![j, blockRow lo b, 0] := by
  have hr := row5 h hi' b
  have hb : blockRow lo b < 4294967296 := lt_of_le_of_lt (min_le_right _ _) (by omega)
  have hj' : (Scalar.remsi (W j) 2#32).toNat = j :=
    (by decide +kernel : ∀ j : Fin 2, (Scalar.remsi (W j) 2#32).toNat = j.val) ⟨j, hj⟩
  show ![BitVec.toNat _, BitVec.toNat _, 0] = _
  have e := (congrArg BitVec.toNat hr).trans (W_toNat hb)
  exact (congrArg (fun n => ![n, _, 0]) hj').trans (congrArg (fun n => ![j, n, 0]) e)
end

theorem chk13 {na j lo hi : ℕ} (hn : na ≤ 16) (hj : j < 2) (h : lo < hi) (hi' : hi ≤ 512) (t : Fin (k0_t4_loop (W na)).trips) :
    k0_chk13 (W na) t (W j) (W lo) (W hi) := by
  have hb : ∀ b : Fin (k0_t5_loop (W lo) (W hi)).trips, blockRow lo b ≤ 384 := fun b => min_le_right _ _
  have e6 : ∀ b : Fin (k0_t6_loop (W lo) (W hi)).trips, False := fun b => absurd (b.isLt.trans_eq (trips6 h hi')) (Nat.not_lt_zero _)
  refine ⟨ok5 h hi', fun b => ?_, fun b => ?_, fun b => ?_, fun b => ?_, fun b => ?_, fun b hinb => ?_, ok6 h hi',
    fun b => (e6 b).elim, fun b => (e6 b).elim, fun b => (e6 b).elim, fun b => (e6 b).elim, fun b => (e6 b).elim, fun b => (e6 b).elim⟩
  · have hr := row5 h hi' b
    have hb' : blockRow lo b < 4294967296 := lt_of_le_of_lt (min_le_right _ _) (by omega)
    show 32 ∣ BitVec.toNat _
    have e := (congrArg BitVec.toNat hr).trans (W_toNat hb')
    refine (Dvd.dvd.trans ?_ (dvd_of_eq e.symm))
    unfold blockRow
    rcases min_choice (32 * (lo / 32) + 128 * b.val) 384 with h' | h' <;> rw [h'] <;> omega
  · rw [off22 h hi' b]; have := hb b; intro a; fin_cases a <;> simp [S128x2048, S512x2048] <;> omega
  · rw [off23 hn]; have := Nat.mod_lt t.val (by omega : 0 < 6); intro a; fin_cases a <;> simp [S1x2048x3072, S6x2048x3072] <;> omega
  · rw [off24 h hi' b]; have := hb b; intro a; fin_cases a <;> simp [S128x1, S512x128] <;> omega
  · rw [off25 h hi' b hj]; have := hb b; intro a; fin_cases a <;> simp [S1x128x3072, S2x512x3072] <;> omega
  · revert hinb
    rw [off25 h hi' b hj]
    unfold blockRow
    intro hinb
    revert hinb
    have : ∀ (j : Fin 2) (q : Fin 17) (b : Fin 5) (hinb : ∀ a, (![j.val, min (32 * q.val + 128 * b.val) 384, 0] : Fin 3 → ℕ) a + S1x128x3072.size a ≤ S2x512x3072.size a),
      (Rect.unit (s := S2x512x3072) ![j.val, min (32 * q.val + 128 * b.val) 384, 0] S1x128x3072.size hinb).PackedRows (EltTy.packing .bf16) := by
      decide +kernel
    exact this ⟨j, hj⟩ ⟨lo / 32, by omega⟩ ⟨b.val, lt5 h hi' b⟩

end Cert.Kernel.Hand
-- ==== Proof.Scan.lean ====
/-
  Hand-written. The kernel's first loop: the scan of the group sizes, which tables the groups that have rows and the rows
  each of them spans.
-/
module

public import proofs.«01_k».proof.Proof.Memory
public import proofs.«01_k».proof.Proof.Words
public import proofs.«01_k».proof.Proof.Groups

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-- The contents of a table of sixteen words. -/
abbrev Words16 : Type := S16.Idx → BitVec 32

/-- The tables after the first `t` groups are scanned: at the position of each group `i < t` that has rows, the group, the
    row it starts at and the row it ends before. -/
def Tabled (g : ℕ → ℕ) (t : ℕ) (fe fl fh : Words16) : Prop :=
  ∀ (i k : Fin 16), i.val < t → 0 < g i → k.val = cnt g i →
    fe (ix1 k) = W i ∧ fl (ix1 k) = W (pre g i) ∧ fh (ix1 k) = W (pre g (i + 1))

/-- Scanning group `t` fills the position it has in the tables. -/
theorem Tabled.step {g : ℕ → ℕ} {t : ℕ} {fe fl fh fe' fl' fh' : Words16} (h : Tabled g t fe fl fh) (n : Fin 16) (hn : n.val = cnt g t)
    (he : fe' (ix1 n) = W t) (hl : fl' (ix1 n) = W (pre g t)) (hh : fh' (ix1 n) = W (pre g (t + 1)))
    (he' : ∀ k, k ≠ n → fe' (ix1 k) = fe (ix1 k)) (hl' : ∀ k, k ≠ n → fl' (ix1 k) = fl (ix1 k))
    (hh' : ∀ k, k ≠ n → fh' (ix1 k) = fh (ix1 k)) : Tabled g (t + 1) fe' fl' fh' := by
  intro i k hi hg hk
  by_cases hit : i.val = t
  · obtain rfl : k = n := Fin.ext (by rw [hk, hn, hit])
    rw [hit]; exact ⟨he, hl, hh⟩
  · have hlt : i.val < t := by omega
    have h1 : cnt g (i.val + 1) ≤ cnt g t := cnt_mono hlt
    have h2 : cnt g (i.val + 1) = cnt g i.val + 1 := by simp only [cnt]; rw [if_pos hg]
    have hne : k ≠ n := fun e => by rw [e, hn] at hk; omega
    rw [he' k hne, hl' k hne, hh' k hne]
    exact h i k hlt hg hk

theorem off1 (k : Fin k0_t1_loop.trips) : k0_off1 k = ![k.val] :=
  (by decide +kernel : ∀ k : Fin k0_t1_loop.trips, k0_off1 k = ![k.val]) k

theorem idx1_zero (x : S1.Idx) : (x 0 : ℕ) = 0 := by have : (x 0 : ℕ) < 1 := (x 0).isLt; omega

/-- The word a table is read at through the rectangle of one word at `k`. -/
theorem table_read (f : Words16) {off : Fin 1 → ℕ} (inb : ∀ a, off a + S1.size a ≤ S16.size a) (k : Fin 16) (h : off = ![k.val]) (x : S1.Idx) :
    f ((Rect.unit (s := S16) off S1.size inb).emb x) = f (ix1 k) := by
  subst h
  refine congrArg f (funext fun a => Fin.ext ?_)
  rw [unit_emb_val]
  fin_cases a
  exact congrArg (k.val + ·) (idx1_zero x)

variable (c : Dev nD)

/-- One trip of the scan, over the kernel's buffers. -/
abbrev t1B : Fin k0_t1_loop.trips → BitVec 32 × BitVec 32 → Prog (TpuEff nD τ sig (Elt F) Λ₀ .tc) (BitVec 32 × BitVec 32) :=
  k0_t1_body gsH (Memref.isWhole_whole _) xH (Memref.isWhole_whole _) wH (Memref.isWhole_whole _) sH (Memref.isWhole_whole _)
    yH (Memref.isWhole_whole _) gsM (Memref.isWhole_whole _) exM (Memref.isWhole_whole _) loM (Memref.isWhole_whole _)
    hiM (Memref.isWhole_whole _) xM (Memref.isWhole_whole _) cdM (Memref.isWhole_whole _) scM (Memref.isWhole_whole _)
    wsM (Memref.isWhole_whole _) rgM (Memref.isWhole_whole _) yM (Memref.isWhole_whole _)
    cc0_scratch10 cc0_scratch11 cc0_scratch12 cc0_scratch13 cc0_scratch14

/-- What holds before trip `t` of the scan: the sizes are in scalar memory, the tables hold the first `t` groups, and the
    loop carries how many of those have rows and the rows they have. -/
def I1 (g : ℕ → ℕ) (gw : Words16) (t : ℕ) (acc : BitVec 32 × BitVec 32) : sProp 𝕄 :=
  iprop((gsM.view.loc (c : Thread nD τ) ↦{fullShare} (gw : Buf (Elt F) _))
    ∗ ∃ (fe fl fh : Words16), ⌜acc = (W (cnt g t), W (pre g t)) ∧ Tabled g t fe fl fh⌝
      ∗ (exM.view.loc (c : Thread nD τ) ↦{fullShare} (fe : Buf (Elt F) _))
      ∗ (loM.view.loc (c : Thread nD τ) ↦{fullShare} (fl : Buf (Elt F) _))
      ∗ (hiM.view.loc (c : Thread nD τ) ↦{fullShare} (fh : Buf (Elt F) _)))

theorem t1_step (𝒱₀ : Variants) {g : ℕ → ℕ} {gw : Words16} (hgw : ∀ i : Fin 16, gw (ix1 i) = W (g i)) (hg : ∀ i, i < 16 → g i ≤ 512)
    (k : Fin k0_t1_loop.trips) (acc : BitVec 32 × BitVec 32) :
    I1 (F := F) c g gw k acc ⊢ wp frame (wpE (defs₀ (F := F)) 𝒱₀ (c : Thread nD τ) none) Set.univ (t1B (F := F) k acc) (I1 (F := F) c g gw (k.val + 1)) := by
  have hk : k.val < 16 := k.isLt.trans_eq trips1
  have hn : cnt g k.val < 16 := lt_of_le_of_lt (cnt_le _) hk
  unfold I1
  iintro ⟨Hg, %fe, %fl, %fh, %hh, He, Hl, Hh⟩
  obtain ⟨rfl, hT⟩ := hh
  unfold t1B k0_t1_body
  simp only [Prog.lift, Prog.bind_op, Prog.bind_ret, Prog.pure_eq_ret, smemLoad, smemLoadElt]
  iapply (wp_assume 𝒱₀ (c : Thread nD τ) none Set.univ (chk1 hn))
  iapply (wp_load 𝒱₀ (c : Thread nD τ) none Set.univ (m := gsM) (Finset.subset_univ _)) $$ Hg; iintro Hg
  iapply (wp_load 𝒱₀ (c : Thread nD τ) none Set.univ (m := exM) (Finset.subset_univ _)) $$ He; iintro He
  iapply (wp_store 𝒱₀ (c : Thread nD τ) none Set.univ (m := exM) (Mk := Finset.univ) (Finset.subset_univ _)) $$ [He]
  · iexact He
  iintro He
  iapply (wp_load 𝒱₀ (c : Thread nD τ) none Set.univ (m := loM) (Finset.subset_univ _)) $$ Hl; iintro Hl
  iapply (wp_store 𝒱₀ (c : Thread nD τ) none Set.univ (m := loM) (Mk := Finset.univ) (Finset.subset_univ _)) $$ [Hl]
  · iexact Hl
  iintro Hl
  iapply (wp_load 𝒱₀ (c : Thread nD τ) none Set.univ (m := hiM) (Finset.subset_univ _)) $$ Hh; iintro Hh
  iapply (wp_store 𝒱₀ (c : Thread nD τ) none Set.univ (m := hiM) (Mk := Finset.univ) (Finset.subset_univ _)) $$ [Hh]
  · iexact Hh
  iintro Hh
  rw [wp_ret]; imodintro
  isplitl [Hg]; · iexact Hg
  iexists _, _, _
  isplitr
  swap
  · isplitl [He]; · iexact He
    isplitl [Hl]; · iexact Hl
    iexact Hh
  ipureintro
  have hr : gsM.view.readAt (Elt F) (Rect.unit (s := S16) (k0_off1 k) S1.size (k0_off1_inb k)).toLoadRect gw (Shape.Idx.first (numel1_S1.symm ▸ Nat.one_pos)) = W (g k.val) :=
    (table_read gw _ ⟨k.val, hk⟩ (off1 k) _).trans (hgw _)
  have hadd : W (pre g k.val + g k.val) = W (pre g (k.val + 1)) := rfl
  have ho : ∀ a, k0_off2 (W (cnt g k.val)) a = cnt g k.val := by rw [off2 hn]; intro a; fin_cases a; rfl
  have x0 : S1.Idx := ix1 (0 : Fin 1)
  have hin : ∀ a : Fin 1, ((ix1 ⟨cnt g k.val, hn⟩ : S16.Idx) a : ℕ) = k0_off2 (W (cnt g k.val)) a + (x0 a : ℕ) := by
    intro a; rw [ho]; fin_cases a; exact (congrArg (cnt g k.val + ·) (idx1_zero x0)).symm
  have hout : ∀ q : Fin 16, q ≠ ⟨cnt g k.val, hn⟩ →
      ((ix1 q : S16.Idx) 0 : ℕ) < k0_off2 (W (cnt g k.val)) 0 ∨ k0_off2 (W (cnt g k.val)) 0 + S1.size 0 ≤ ((ix1 q : S16.Idx) 0 : ℕ) := by
    intro q hq
    rw [ho]
    have : q.val ≠ cnt g k.val := fun e => hq (Fin.ext e)
    show q.val < _ ∨ _ + 1 ≤ q.val
    omega
  refine ⟨?_, hT.step ⟨cnt g k.val, hn⟩ rfl ?_ ?_ ?_ ?_ ?_ ?_⟩
  · rw [hr, nonempty_word (hg _ hk), W_add, W_add]; rfl
  · exact (write_unit_in cc0_scratch1 _ _ _ _ x0 hin).trans (iv_eq _)
  · exact write_unit_in cc0_scratch2 _ _ _ _ x0 hin
  · refine (write_unit_in cc0_scratch3 _ _ _ _ x0 hin).trans ?_
    rw [hr, W_add, hadd]
  · exact fun q hq => write_unit_out cc0_scratch1 _ _ _ _ 0 (hout q hq)
  · exact fun q hq => write_unit_out cc0_scratch2 _ _ _ _ 0 (hout q hq)
  · exact fun q hq => write_unit_out cc0_scratch3 _ _ _ _ 0 (hout q hq)

end Cert.Kernel.Hand
-- ==== Proof.Ahead.lean ====
/-
  Hand-written. The kernel's second loop: the copies of the first five steps' weight tiles, started ahead.
-/
module

public import proofs.«01_k».proof.Proof.Ring
public import proofs.«01_k».proof.Proof.Scan

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-- The tables once all groups are scanned, at the `k`-th group that has rows. -/
theorem Tabled.at {g : ℕ → ℕ} {fe fl fh : Words16} (h : Tabled g 16 fe fl fh) {k : ℕ} (hk : k < active g) (h16 : k < 16) :
    fe (ix1 ⟨k, h16⟩) = W (grp g k) ∧ fl (ix1 ⟨k, h16⟩) = W (lo g k) ∧ fh (ix1 ⟨k, h16⟩) = W (hi g k) :=
  h ⟨grp g k, grp_lt g k⟩ ⟨k, h16⟩ (grp_lt g k) (grp_spec hk).2.1 (grp_spec hk).2.2.symm

theorem off4 (k : Fin k0_t2_loop.trips) : k0_off4 k = ![k.val] :=
  (by decide +kernel : ∀ k : Fin k0_t2_loop.trips, k0_off4 k = ![k.val]) k
theorem off5 (k : Fin k0_t2_loop.trips) : k0_off5 k = ![k.val, 0, 0] :=
  (by decide +kernel : ∀ k : Fin k0_t2_loop.trips, k0_off5 k = ![k.val, 0, 0]) k

variable (c : Dev nD)

/-- One trip of the loop that starts copies ahead, over the kernel's buffers. -/
abbrev t2B (v : BitVec 32) : Fin k0_t2_loop.trips → BitVec 32 × BitVec 32 → Prog (TpuEff nD τ sig (Elt F) Λ₀ .tc) (BitVec 32 × BitVec 32) :=
  k0_t2_body gsH (Memref.isWhole_whole _) xH (Memref.isWhole_whole _) wH (Memref.isWhole_whole _) sH (Memref.isWhole_whole _)
    yH (Memref.isWhole_whole _) gsM (Memref.isWhole_whole _) exM (Memref.isWhole_whole _) loM (Memref.isWhole_whole _)
    hiM (Memref.isWhole_whole _) xM (Memref.isWhole_whole _) cdM (Memref.isWhole_whole _) scM (Memref.isWhole_whole _)
    wsM (Memref.isWhole_whole _) rgM (Memref.isWhole_whole _) yM (Memref.isWhole_whole _)
    cc0_scratch10 cc0_scratch11 cc0_scratch12 cc0_scratch13 cc0_scratch14 v

/-- What holds before trip `t`: the copies of the steps before `t` are in flight, and the loop carries step `t`'s group and
    column tile. -/
def I2 (g : ℕ → ℕ) (wv : Weights F) (fe : Words16) (t : ℕ) (acc : BitVec 32 × BitVec 32) : sProp 𝕄 :=
  iprop(⌜acc = (W (t % active g), W (t / active g))⌝
    ∗ (exM.view.loc (c : Thread nD τ) ↦{fullShare} (fe : Buf (Elt F) _))
    ∗ Ring c g wv 0 (min t (2 * active g)))

theorem t2_step (𝒱₀ : Variants) {g : ℕ → ℕ} (hs : pre g 16 = 512) (wv : Weights F) {fe fl fh : Words16} (hT : Tabled g 16 fe fl fh)
    (k : Fin k0_t2_loop.trips) (acc : BitVec 32 × BitVec 32) :
    I2 (F := F) c g wv fe k acc ⊢ wp frame (wpE (defs₀ (F := F)) 𝒱₀ (c : Thread nD τ) none) Set.univ (t2B (F := F) (W (active g)) k acc)
      (I2 (F := F) c g wv fe (k.val + 1)) := by
  have hk : k.val < 5 := k.isLt.trans_eq trips2
  have hna := active_le g
  have hpos := active_pos hs
  have hmod : k.val % active g < active g := Nat.mod_lt _ hpos
  have hdiv : k.val / active g ≤ k.val := Nat.div_le_self _ _
  unfold I2
  iintro ⟨%hacc, He, HR⟩
  subst hacc
  unfold t2B k0_t2_body
  simp only [Prog.lift, Prog.bind_op, Prog.bind_ret, Prog.pure_eq_ret, smemLoad, smemLoadElt]
  iapply (wp_assume 𝒱₀ (c : Thread nD τ) none Set.univ (chk3 hna (by omega : k.val % active g < 16) k))
  iapply (wp_assume 𝒱₀ (c : Thread nD τ) none Set.univ (chk2 hna (by omega : k.val / active g < 6) k))
  rw [next_group hna hmod, next_tile hna hmod (by omega : k.val / active g < 64), step_mod hpos, step_div hpos]
  by_cases hc : k0_cond1 (W (active g)) k = 1#1
  · have hlt := (cond1 hna k).1 hc
    have h6 : k.val < 0 + 6 := by omega
    have h7 : k.val < 6 := by omega
    have h8 : k.val = k.val % 6 := by omega
    have hj : k.val / active g < 2 := step_tile hpos hlt
    rw [dif_pos hc]
    simp only [Prog.lift, Prog.bind_op, Prog.bind_ret, Prog.pure_eq_ret, smemLoad, smemLoadElt]
    iapply (wp_load 𝒱₀ (c : Thread nD τ) none Set.univ (m := exM) (Finset.subset_univ _)) $$ He; iintro He
    have hv : ∀ inb x, exM.view.readAt (Elt F) (Rect.unit (s := S16) (k0_off3 (W (k.val % active g))) S1.size inb).toLoadRect fe x = W (grp g (k.val % active g)) :=
      fun inb x => (table_read fe inb ⟨k.val % active g, by omega⟩ (off3 (by omega)) x).trans (hT.at hmod _).1
    rw [hv]
    iapply (wp_assume 𝒱₀ (c : Thread nD τ) none Set.univ (chk4 hna hj (grp_lt g _) k))
    rw [show min k.val (2 * active g) = k.val by omega, show min (k.val + 1) (2 * active g) = k.val + 1 by omega]
    ihave HR' := (ring_start c g wv (Nat.zero_le k.val) h6 ⟨k.val, h7⟩ h8) $$ HR
    icases HR' with ⟨HF, HR⟩
    iapply (wp_start c (𝒱₀ := 𝒱₀) g wv ⟨k.val, h7⟩ k.val (off4 k) (off5 k)
      ((off6 hj (grp_lt g _)).trans (by rw [jOf_val hj]; rfl))) $$ HF
    iintro HF
    rw [wp_ret]; imodintro
    isplitr; · ipureintro; rfl
    isplitl [He]; · iexact He
    iapply HR $$ HF
  · have hlt : ¬ k.val < 2 * active g := fun h => hc ((cond1 hna k).2 h)
    rw [dif_neg hc]
    simp only [Prog.lift, Prog.bind_op, Prog.bind_ret, Prog.pure_eq_ret]
    rw [wp_ret]; imodintro
    rw [show min (k.val + 1) (2 * active g) = min k.val (2 * active g) by omega]
    isplitr; · ipureintro; rfl
    isplitl [He]; · iexact He
    iexact HR

end Cert.Kernel.Hand
-- ==== Proof.Quant.lean ====
/-
  Hand-written. The kernel's third loop: the quantiser, which leaves the codes and the scales of 64 rows a trip.
-/
module

public import proofs.«01_k».proof.Proof.Memory
public import proofs.«01_k».proof.Proof.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-- Sixty-four rows of the activations, from row `64 * t`. -/
def rowsOf (xv : S512x2048.Idx → Elt F .bf16) (t : Fin 8) : Vec F S64x2048 .bf16 :=
  fun x => xv (ix2 ⟨64 * t.val + (x 0).val, by have : (x 0).val < 64 := (x 0).isLt; omega⟩ (x 1))

/-- The codes of sixty-four rows. -/
def codesOfRows (v : Vec F S64x2048 .bf16) : FVec F S64x2048 .fp8e4m3 := k0_pay6 (k0_pay1 v) (k0_pay2 v) (k0_pay3 v) (k0_pay4 v)
/-- The scales of sixty-four rows, each row's repeated across the columns. -/
def scalesOfRows (v : Vec F S64x2048 .bf16) : FVec F S64x128 .f32 := k0_pay7 (k0_pay2 v) (k0_pay3 v) (k0_pay4 v)

/-- The block of sixty-four rows a row lies in, and its place there. -/
abbrev blk (i : Fin 512) : Fin 8 := ⟨i.val / 64, by omega⟩
abbrev plc (i : Fin 512) : Fin 64 := ⟨i.val % 64, by omega⟩

/-- The codes of all rows. -/
def codes (xv : S512x2048.Idx → Elt F .bf16) : S512x2048.Idx → Elt F .fp8e4m3 :=
  fun x => codesOfRows (rowsOf xv (blk (x 0))) (ix2 (plc (x 0)) (x 1))
/-- The scales of all rows. -/
def scales (xv : S512x2048.Idx → Elt F .bf16) : S512x128.Idx → Elt F .f32 :=
  fun x => scalesOfRows (rowsOf xv (blk (x 0))) (ix2 (plc (x 0)) (x 1))

theorem trips3 : k0_t3_loop.trips = 8 := by decide +kernel
theorem off7 (k : Fin k0_t3_loop.trips) : k0_off7 k = ![64 * k.val, 0] :=
  (by decide +kernel : ∀ k : Fin k0_t3_loop.trips, k0_off7 k = ![64 * k.val, 0]) k
theorem off8 (k : Fin k0_t3_loop.trips) : k0_off8 k = ![64 * k.val, 0] :=
  (by decide +kernel : ∀ k : Fin k0_t3_loop.trips, k0_off8 k = ![64 * k.val, 0]) k

/-- What is read at the sixty-four rows from row `64 * t`. -/
theorem read_rows (xv : S512x2048.Idx → Elt F .bf16) (t : Fin 8) {off : Fin 2 → ℕ} (h : off = ![64 * t.val, 0])
    (inb : ∀ a, off a + S64x2048.size a ≤ S512x2048.size a) :
    (xM.access (Rect.unit (s := S512x2048) off S64x2048.size inb)).read (Elt F) xv = rowsOf xv t := by
  subst h
  funext x
  refine congrArg xv (funext fun a => Fin.ext ?_)
  refine (unit_emb_val _ x a).trans ?_
  fin_cases a
  · rfl
  · exact Nat.zero_add _

variable (c : Dev nD)

/-- One trip of the quantiser, over the kernel's buffers. -/
abbrev t3B : Fin k0_t3_loop.trips → Unit → Prog (TpuEff nD τ sig (Elt F) Λ₀ .tc) Unit :=
  k0_t3_body gsH (Memref.isWhole_whole _) xH (Memref.isWhole_whole _) wH (Memref.isWhole_whole _) sH (Memref.isWhole_whole _)
    yH (Memref.isWhole_whole _) gsM (Memref.isWhole_whole _) exM (Memref.isWhole_whole _) loM (Memref.isWhole_whole _)
    hiM (Memref.isWhole_whole _) xM (Memref.isWhole_whole _) cdM (Memref.isWhole_whole _) scM (Memref.isWhole_whole _)
    wsM (Memref.isWhole_whole _) rgM (Memref.isWhole_whole _) yM (Memref.isWhole_whole _)
    cc0_scratch10 cc0_scratch11 cc0_scratch12 cc0_scratch13 cc0_scratch14

/-- What holds before trip `t` of the quantiser: the codes and the scales of the first `64 * t` rows are in place. -/
def I3 (xv : S512x2048.Idx → Elt F .bf16) (t : ℕ) (_ : Unit) : sProp 𝕄 :=
  iprop((xM.view.loc (c : Thread nD τ) ↦{fullShare} (xv : Buf (Elt F) _))
    ∗ ∃ (fc : S512x2048.Idx → Elt F .fp8e4m3) (fs : S512x128.Idx → Elt F .f32),
      ⌜(∀ x, (x 0).val < 64 * t → fc x = codes xv x) ∧ (∀ x, (x 0).val < 64 * t → fs x = scales xv x)⌝
      ∗ (cdM.view.loc (c : Thread nD τ) ↦{fullShare} (fc : Buf (Elt F) _))
      ∗ (scM.view.loc (c : Thread nD τ) ↦{fullShare} (fs : Buf (Elt F) _)))

theorem t3_step (𝒱₀ : Variants) (xv : S512x2048.Idx → Elt F .bf16) (k : Fin k0_t3_loop.trips) (acc : Unit) :
    I3 (F := F) c xv k acc ⊢ wp frame (wpE (defs₀ (F := F)) 𝒱₀ (c : Thread nD τ) none) Set.univ (t3B (F := F) k acc) (I3 (F := F) c xv (k.val + 1)) := by
  have hk : k.val < 8 := k.isLt.trans_eq trips3
  unfold I3
  iintro ⟨Hx, %fc, %fs, %hh, Hc, Hs⟩
  obtain ⟨h1, h2⟩ := hh
  unfold t3B k0_t3_body
  simp only [k0_part1_eq_skeleton]
  unfold k0_part1_skel
  simp only [Prog.lift, Prog.bind_op, Prog.bind_ret, Prog.pure_eq_ret]
  iapply (wp_load 𝒱₀ (c : Thread nD τ) none Set.univ (m := xM) (Finset.subset_univ _)) $$ Hx; iintro Hx
  rw [show xM.view.readAt (Elt F) (Rect.unit (s := S512x2048) (k0_off7 k) S64x2048.size (k0_off7_inb k)).toLoadRect xv = rowsOf xv ⟨k.val, hk⟩
    from read_rows (F := F) xv ⟨k.val, hk⟩ (off7 k) (k0_off7_inb k)]
  iapply (wp_load 𝒱₀ (c : Thread nD τ) none Set.univ (m := cdM) (Finset.subset_univ _)) $$ Hc; iintro Hc
  iapply (wp_store 𝒱₀ (c : Thread nD τ) none Set.univ (m := cdM) (Mk := Finset.univ) (Finset.subset_univ _)) $$ [Hc]
  · iexact Hc
  iintro Hc
  iapply (wp_load 𝒱₀ (c : Thread nD τ) none Set.univ (m := scM) (Finset.subset_univ _)) $$ Hs; iintro Hs
  iapply (wp_store 𝒱₀ (c : Thread nD τ) none Set.univ (m := scM) (Mk := Finset.univ) (Finset.subset_univ _)) $$ [Hs]
  · iexact Hs
  iintro Hs
  rw [wp_ret]; imodintro
  isplitl [Hx]; · iexact Hx
  iexists _, _
  isplitr
  swap
  · isplitl [Hc]; · iexact Hc
    iexact Hs
  ipureintro
  constructor
  · intro x hx
    obtain ⟨a, b, rfl⟩ : ∃ (a : Fin 512) (b : Fin 2048), x = ix2 a b := ⟨x 0, x 1, eq_ix2 x⟩
    have hx : a.val < 64 * (k.val + 1) := hx
    by_cases hlt : a.val < 64 * k.val
    · refine (write_unit_out cc0_scratch5 _ _ _ _ 0 ?_).trans (h1 _ hlt)
      rw [off7]; exact Or.inl hlt
    · have e1 : blk a = ⟨k.val, hk⟩ := Fin.ext (show a.val / 64 = k.val by omega)
      have e2 : a.val = 64 * k.val + (plc a).val := by show _ = _ + a.val % 64; omega
      refine (write_unit_in cc0_scratch5 _ _ _ _ (ix2 (plc a) b : S64x2048.Idx) ?_).trans ?_
      · intro d; fin_cases d
        · exact e2.trans (congrArg (· + (plc a).val) (congrFun (off7 k) 0).symm)
        · exact (Nat.zero_add b.val).symm.trans (congrArg (· + b.val) (congrFun (off7 k) 1).symm)
      · have e3 : codes xv (ix2 a b) = codesOfRows (rowsOf xv ⟨k.val, hk⟩) (ix2 (plc a) b) := by rw [← e1]; rfl
        exact e3.symm
  · intro x hx
    obtain ⟨a, b, rfl⟩ : ∃ (a : Fin 512) (b : Fin 128), x = ix2 a b := ⟨x 0, x 1, eq_ix2 x⟩
    have hx : a.val < 64 * (k.val + 1) := hx
    by_cases hlt : a.val < 64 * k.val
    · refine (write_unit_out cc0_scratch6 _ _ _ _ 0 ?_).trans (h2 _ hlt)
      rw [off8]; exact Or.inl hlt
    · have e1 : blk a = ⟨k.val, hk⟩ := Fin.ext (show a.val / 64 = k.val by omega)
      have e2 : a.val = 64 * k.val + (plc a).val := by show _ = _ + a.val % 64; omega
      refine (write_unit_in cc0_scratch6 _ _ _ _ (ix2 (plc a) b : S64x128.Idx) ?_).trans ?_
      · intro d; fin_cases d
        · exact e2.trans (congrArg (· + (plc a).val) (congrFun (off8 k) 0).symm)
        · exact (Nat.zero_add b.val).symm.trans (congrArg (· + b.val) (congrFun (off8 k) 1).symm)
      · have e3 : scales xv (ix2 a b) = scalesOfRows (rowsOf xv ⟨k.val, hk⟩) (ix2 (plc a) b) := by rw [← e1]; rfl
        exact e3.symm

end Cert.Kernel.Hand
-- ==== Proof.Blocks.lean ====
/-
  Hand-written. One group's rows in one column tile: the loop over its blocks of 128 rows.
-/
module

public import proofs.«01_k».proof.Proof.Ahead
public import proofs.«01_k».proof.Proof.Quant
public import Idealize.ShloMosaic.Lib.WordCmp

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx Idealize.ShloMosaic.WordCmp

variable {F : FTy → Type} [FloatOps F]

local notation "𝕄" => MT nD τ sig Unit (Elt F) ℕ (Pipeline.UD sig nD τ) ℕ

/-- The activations' and the column scales' contents. -/
abbrev Acts (F : FTy → Type) : Type := S512x2048.Idx → Elt F .bf16
abbrev ColScales (F : FTy → Type) : Type := S16x1x6144.Idx → Elt F .f32

/-- The codes of 128 rows from row `r`. -/
def codeRows (xv : Acts F) (r : Fin 385) : Vec F S128x2048 .fp8e4m3 :=
  fun x => codes xv (ix2 ⟨r.val + (x 0).val, by have : (x 0).val < 128 := (x 0).isLt; omega⟩ (x 1))
/-- The scales of 128 rows from row `r`, one to a row. -/
def scaleRows (xv : Acts F) (r : Fin 385) : Vec F S128x1 .f32 :=
  fun x => scales xv (ix2 ⟨r.val + (x 0).val, by have : (x 0).val < 128 := (x 0).isLt; omega⟩ (0 : Fin 128))
/-- Column tile `j` of group `e`'s weights. -/
def tileOf (wv : Weights F) (e : Fin 16) (j : Fin 2) : Vec F S1x2048x3072 .fp8e4m3 :=
  fun x => wv (ix3 e (x 1) ⟨3072 * j.val + (x 2).val, by have : (x 2).val < 3072 := (x 2).isLt; omega⟩)
/-- Column tile `j` of group `e`'s column scales. -/
def colsOf (sv : ColScales F) (e : Fin 16) (j : Fin 2) : Vec F S1x1x3072 .f32 :=
  fun x => sv (ix3 e (0 : Fin 1) ⟨3072 * j.val + (x 2).val, by have : (x 2).val < 3072 := (x 2).isLt; omega⟩)

/-- The block product of 128 rows of codes with a weight tile, times the rows' scales and the columns' scales, rounded. -/
def blockOf (cr : Vec F S128x2048 .fp8e4m3) (wt : Vec F S1x2048x3072 .fp8e4m3) (sr : Vec F S128x1 .f32) (cs : Vec F S1x1x3072 .f32) :
    FVec F S128x3072 .bf16 :=
  truncf .bf16 (mulf (mulf (matmul dot_S128x2048_S2048x3072_S128x3072_1_0_0_1_n_n none cr
      (shapeCast S2048x3072 wt shapeCasts_S1x2048x3072_S2048x3072) (constant S128x3072 .f32 0x00000000#32))
    (broadcastTo S128x3072 sr broadcasts_S128x1_S128x3072)) (broadcastTo S128x3072 (k0_pay8 cs) broadcasts_S1x3072_S128x3072)) bitsLt_bf16_f32

/-- The results of 128 rows from row `r` with group `e`'s weights, in column tile `j`. -/
def block (xv : Acts F) (wv : Weights F) (sv : ColScales F) (r : Fin 385) (e : Fin 16) (j : Fin 2) : FVec F S128x3072 .bf16 :=
  blockOf (codeRows xv r) (tileOf wv e j) (scaleRows xv r) (colsOf sv e j)

/-- The rows of a block that lie in `[lo, hi)`, as the kernel's comparisons select them. -/
theorem row_mask {lo hi r a : ℕ} (hl : lo < 513) (hh : hi < 513) (hr : r + a < 513) :
    IntOp.andi (IntOp.cmpi .sge (IntOp.addi (W r) (W a)) (W lo)) (IntOp.cmpi .slt (IntOp.addi (W r) (W a)) (W hi))
      = if lo ≤ r + a ∧ r + a < hi then 1#1 else 0#1 := by
  rw [show IntOp.addi (W r) (W a) = W (r + a) from W_add r a]
  have h1 : IntOp.cmpi .sge (W (r + a)) (W lo) = if lo ≤ r + a then 1#1 else 0#1 := by
    rw [cmpi_sge_ofNat (by show _ < 2147483648; omega) (by show _ < 2147483648; omega)]
    by_cases c : lo ≤ r + a <;> simp [c]
  have h2 : IntOp.cmpi .slt (W (r + a)) (W hi) = if r + a < hi then 1#1 else 0#1 := by
    rw [cmpi_slt_ofNat (by show _ < 2147483648; omega) (by show _ < 2147483648; omega)]
    by_cases c : r + a < hi <;> simp [c]
  rw [h1, h2]
  by_cases c1 : lo ≤ r + a <;> by_cases c2 : r + a < hi <;> simp [c1, c2] <;> decide

/-- The rows of a block that belong to the group, as the kernel's vector of comparisons. -/
def rowMask (r lo hi : BitVec 32) : IVec S128x3072 1 :=
  andi (cmpi .sge (addi (broadcast S128x3072 r) (iota .tc S128x3072 32 [0] iota_S128x3072_d0_w32)) (broadcast S128x3072 lo))
    (cmpi .slt (addi (broadcast S128x3072 r) (iota .tc S128x3072 32 [0] iota_S128x3072_d0_w32)) (broadcast S128x3072 hi))

theorem rowMask_apply {lo hi r : ℕ} (hl : lo < 513) (hh : hi < 513) (hr : r < 385) (a : Fin 128) (n : Fin 3072) :
    rowMask (W r) (W lo) (W hi) (ix2 a n) = if lo ≤ r + a.val ∧ r + a.val < hi then 1#1 else 0#1 := by
  have e : iota .tc S128x3072 32 [0] iota_S128x3072_d0_w32 (ix2 a n) = W a.val := by
    show BitVec.ofNat 32 (0 * 128 + a.val) = _; rw [Nat.zero_mul, Nat.zero_add]
  have hm := row_mask (lo := lo) (hi := hi) (r := r) (a := a.val) hl hh (by omega)
  rw [← e] at hm
  exact hm

theorem pay9_eq (lo hi : BitVec 32) (b : Fin (k0_t5_loop lo hi).trips) (v : BitVec 32) (cs : Vec F S1x1x3072 .f32)
    (cr : Vec F S128x2048 .fp8e4m3) (wt : Vec F S1x2048x3072 .fp8e4m3) (sr : Vec F S128x1 .f32) (old : Vec F S1x128x3072 .bf16) :
    k0_pay9 (F := F) lo hi v cs b cr wt sr old
      = shapeCast S1x128x3072 (select (rowMask (Scalar.minsi (Scalar.addi v (Scalar.muli (Scalar.addi 0#32 (Scalar.muli (Scf.iv 0#32 1#32 b.val) 1#32)) 128#32)) 384#32) lo hi)
          (blockOf cr wt sr cs) (shapeCast S128x3072 old shapeCasts_S1x128x3072_S128x3072)) shapeCasts_S128x3072_S1x128x3072 := rfl

/-- What a block's store writes: the block's results in the group's rows, and what was there in the others. -/
theorem pay9_apply {lo hi : ℕ} (h : lo < hi) (hi' : hi ≤ 512) (b : Fin (k0_t5_loop (W lo) (W hi)).trips) (cs : Vec F S1x1x3072 .f32)
    (cr : Vec F S128x2048 .fp8e4m3) (wt : Vec F S1x2048x3072 .fp8e4m3) (sr : Vec F S128x1 .f32) (old : Vec F S1x128x3072 .bf16)
    (a : Fin 128) (n : Fin 3072) :
    k0_pay9 (F := F) (W lo) (W hi) (Scalar.muli (Scalar.divsi (W lo) 32#32) 32#32) cs b cr wt sr old (ix3 (0 : Fin 1) a n)
      = if lo ≤ blockRow lo b + a.val ∧ blockRow lo b + a.val < hi then blockOf cr wt sr cs (ix2 a n) else old (ix3 (0 : Fin 1) a n) := by
  have hb : blockRow lo b ≤ 384 := min_le_right _ _
  rw [pay9_eq, row5 h hi' b, shapeCast_ab_1ab_apply, select_apply, shapeCast_1ab_ab_apply,
    rowMask_apply (by omega) (by omega) (by omega)]
  by_cases c : lo ≤ blockRow lo b + a.val ∧ blockRow lo b + a.val < hi
  · rw [if_pos c, if_pos c]; rfl
  · rw [if_neg c, if_neg c]; rfl

/-! ## What the loads of a block read -/

theorem read_codes (xv : Acts F) (r : Fin 385) {off : Fin 2 → ℕ} (h : off = ![r.val, 0]) (inb : ∀ a, off a + S128x2048.size a ≤ S512x2048.size a) :
    cdM.view.readAt (Elt F) (Rect.unit (s := S512x2048) off S128x2048.size inb).toLoadRect (codes xv) = codeRows xv r := by
  subst h
  funext x
  refine congrArg (codes xv) (funext fun a => Fin.ext ?_)
  refine (unit_emb_val _ x a).trans ?_
  fin_cases a
  · rfl
  · exact Nat.zero_add _

theorem read_scales (xv : Acts F) (r : Fin 385) {off : Fin 2 → ℕ} (h : off = ![r.val, 0]) (inb : ∀ a, off a + S128x1.size a ≤ S512x128.size a) :
    scM.view.readAt (Elt F) (Rect.unit (s := S512x128) off S128x1.size inb).toLoadRect (scales xv) = scaleRows xv r := by
  subst h
  funext x
  refine congrArg (scales xv) (funext fun a => Fin.ext ?_)
  refine (unit_emb_val _ x a).trans ?_
  have h1 : (x 1).val < 1 := (x 1).isLt
  fin_cases a
  · rfl
  · show 0 + (x 1).val = 0; omega

theorem read_tile {g : ℕ → ℕ} {wv : Weights F} {u : ℕ} {i : Fin 6} {f : S6x2048x3072.Idx → Elt F .fp8e4m3} (hL : Landed g wv u i f)
    {off : Fin 3 → ℕ} (h : off = ![i.val, 0, 0]) (inb : ∀ a, off a + S1x2048x3072.size a ≤ S6x2048x3072.size a) :
    rgM.view.readAt (Elt F) (Rect.unit (s := S6x2048x3072) off S1x2048x3072.size inb).toLoadRect f = tileOf wv (eOf g u) (jOf g u) := by
  subst h
  funext x
  refine Eq.trans (congrArg f (funext fun a => Fin.ext ?_)) (hL (x 1) (x 2))
  refine (unit_emb_val _ x a).trans ?_
  have h0 : (x 0).val < 1 := (x 0).isLt
  fin_cases a
  · show i.val + (x 0).val = i.val; omega
  · exact Nat.zero_add _
  · exact Nat.zero_add _

theorem read_cols (sv : ColScales F) (e : Fin 16) (j : Fin 2) {off : Fin 3 → ℕ} (h : off = ![e.val, 0, 3072 * j.val])
    (inb : ∀ a, off a + S1x1x3072.size a ≤ S16x1x6144.size a) :
    wsM.view.readAt (Elt F) (Rect.unit (s := S16x1x6144) off S1x1x3072.size inb).toLoadRect sv = colsOf sv e j := by
  subst h
  funext x
  refine congrArg sv (funext fun a => Fin.ext ?_)
  refine (unit_emb_val _ x a).trans ?_
  have h0 : (x 0).val < 1 := (x 0).isLt
  have h1 : (x 1).val < 1 := (x 1).isLt
  fin_cases a
  · show e.val + (x 0).val = e.val; omega
  · show 0 + (x 1).val = 0; omega
  · rfl

theorem read_old (fy : S2x512x3072.Idx → Elt F .bf16) (r : Fin 385) (j : Fin 2) {off : Fin 3 → ℕ} (h : off = ![j.val, r.val, 0])
    (inb : ∀ a, off a + S1x128x3072.size a ≤ S2x512x3072.size a) (a : Fin 128) (n : Fin 3072) :
    yM.view.readAt (Elt F) (Rect.unit (s := S2x512x3072) off S1x128x3072.size inb).toLoadRect fy (ix3 (0 : Fin 1) a n) = fy (ix3 j ⟨r.val + a.val, by omega⟩ n) := by
  subst h
  refine congrArg fy (funext fun d => Fin.ext ?_)
  refine (unit_emb_val _ _ d).trans ?_
  fin_cases d
  · rfl
  · rfl
  · exact Nat.zero_add _

/-! ## The loop -/

/-- A property of results: of a row, a column and the element there. -/
abbrev Prop3 (F : FTy → Type) : Type := ℕ → ℕ → Elt F .bf16 → Prop

/-- Every result of the kernel's blocks has the property. -/
def Sound (Good : Prop3 F) (g : ℕ → ℕ) (xv : Acts F) (wv : Weights F) (sv : ColScales F) : Prop :=
  ∀ (k : ℕ), k < active g → ∀ (j : Fin 2) (r : Fin 385) (a : Fin 128) (n : Fin 3072), lo g k ≤ r.val + a.val → r.val + a.val < hi g k →
    Good (r.val + a.val) (3072 * j.val + n.val) (block xv wv sv r ⟨grp g k, grp_lt g k⟩ j (ix2 a n))

/-- The rows in `R` of result tile `j` have the property. -/
def RowsGood (Good : Prop3 F) (j : Fin 2) (R : ℕ → Prop) (fy : S2x512x3072.Idx → Elt F .bf16) : Prop :=
  ∀ (r : Fin 512) (n : Fin 3072), R r.val → Good r.val (3072 * j.val + n.val) (fy (ix3 j r n))

/-- A block's store, as contents of the result tiles. -/
theorem block_stored {Good : Prop3 F} {lo hi : ℕ} (h : lo < hi) (hi' : hi ≤ 512) (b : Fin (k0_t5_loop (W lo) (W hi)).trips) (cs : Vec F S1x1x3072 .f32)
    (cr : Vec F S128x2048 .fp8e4m3) (wt : Vec F S1x2048x3072 .fp8e4m3) (sr : Vec F S128x1 .f32) (j : Fin 2) (fy : S2x512x3072.Idx → Elt F .bf16)
    {off : Fin 3 → ℕ} (ho : off = ![j.val, blockRow lo b, 0]) (inb : ∀ a, off a + S1x128x3072.size a ≤ S2x512x3072.size a)
    (hG : ∀ (a : Fin 128) (n : Fin 3072), lo ≤ blockRow lo b + a.val → blockRow lo b + a.val < hi →
      Good (blockRow lo b + a.val) (3072 * j.val + n.val) (blockOf cr wt sr cs (ix2 a n)))
    (hF : RowsGood Good j (fun r => r < hi ∧ (r < lo ∨ r < 32 * (lo / 32) + 128 * b.val)) fy) :
    RowsGood Good j (fun r => r < hi ∧ (r < lo ∨ r < 32 * (lo / 32) + 128 * (b.val + 1)))
      ((yM.access (Rect.unit (s := S2x512x3072) off S1x128x3072.size inb)).write (Elt F) fy
        (k0_pay9 (F := F) (W lo) (W hi) (Scalar.muli (Scalar.divsi (W lo) 32#32) 32#32) cs b cr wt sr
          (yM.view.readAt (Elt F) (Rect.unit (s := S2x512x3072) off S1x128x3072.size inb).toLoadRect fy)) Finset.univ) := by
  have hb : blockRow lo b ≤ 384 := min_le_right _ _
  subst ho
  intro r n hr
  by_cases hin : blockRow lo b ≤ r.val ∧ r.val < blockRow lo b + 128
  · have ha : r.val - blockRow lo b < 128 := by omega
    have hra : blockRow lo b + (r.val - blockRow lo b) = r.val := by omega
    rw [write_unit_in cc0_scratch9 inb fy _ (ix3 j r n) (ix3 (0 : Fin 1) (⟨r.val - blockRow lo b, ha⟩ : Fin 128) n : S1x128x3072.Idx) (by
      intro d; fin_cases d
      · rfl
      · exact hra.symm
      · exact (Nat.zero_add _).symm)]
    rw [pay9_apply h hi' b, read_old fy ⟨blockRow lo b, by omega⟩ j rfl]
    dsimp only
    by_cases c : lo ≤ blockRow lo b + (r.val - blockRow lo b) ∧ blockRow lo b + (r.val - blockRow lo b) < hi
    · rw [if_pos c]
      have := hG ⟨r.val - blockRow lo b, ha⟩ n c.1 c.2
      dsimp only at this
      rw [hra] at this
      exact this
    · rw [if_neg c]
      have e : (⟨blockRow lo b + (r.val - blockRow lo b), by omega⟩ : Fin 512) = r := Fin.ext hra
      rw [e]
      exact hF r n ⟨hr.1, Or.inl (by omega)⟩
  · rw [write_unit_out cc0_scratch9 inb fy _ (ix3 j r n) 1 (by
      show r.val < blockRow lo b ∨ blockRow lo b + 128 ≤ r.val
      omega)]
    have hlt := r.isLt
    refine hF r n ⟨hr.1, ?_⟩
    rcases hr.2 with h1 | h1
    · exact Or.inl h1
    · right
      unfold blockRow at hin
      omega

variable (c : Dev nD)

/-- One trip of the loop over a group's blocks, over the kernel's buffers. -/
abbrev t5B {na : ℕ} (t : Fin (k0_t4_loop (W na)).trips) (jw lw hw : BitVec 32) (h13 : k0_chk13 (W na) t jw lw hw) (v51 : BitVec 32) (cs : Vec F S1x1x3072 .f32) :
    Fin (k0_t5_loop lw hw).trips → Unit → Prog (TpuEff nD τ sig (Elt F) Λ₀ .tc) Unit :=
  k0_t5_body gsH (Memref.isWhole_whole _) xH (Memref.isWhole_whole _) wH (Memref.isWhole_whole _) sH (Memref.isWhole_whole _)
    yH (Memref.isWhole_whole _) gsM (Memref.isWhole_whole _) exM (Memref.isWhole_whole _) loM (Memref.isWhole_whole _)
    hiM (Memref.isWhole_whole _) xM (Memref.isWhole_whole _) cdM (Memref.isWhole_whole _) scM (Memref.isWhole_whole _)
    wsM (Memref.isWhole_whole _) rgM (Memref.isWhole_whole _) yM (Memref.isWhole_whole _)
    cc0_scratch10 cc0_scratch11 cc0_scratch12 cc0_scratch13 cc0_scratch14 (W na) t jw lw hw h13 v51 cs

end Cert.Kernel.Hand
-- ==== Proof.Rows.lean ====
/-
The loop over a group's blocks: each trip multiplies a block of quantised rows by the landed weight tile and stores the block's
results into the result tile.
-/
module

public import proofs.«01_k».proof.Proof.Blocks

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

theorem slot_load (i : Fin 6) {off : Fin 3 → ℕ} (h : off = ![i.val, 0, 0]) (inb : ∀ a, off a + S1x2048x3072.size a ≤ S6x2048x3072.size a) :
    rgM.view.setOn (Rect.unit (s := S6x2048x3072) off S1x2048x3072.size inb).toLoadRect.set ⊆ (slotM i).view.set := by
  subst h
  intro y hy
  obtain ⟨z, hz, rfl⟩ := Finset.mem_map.mp hy
  refine (mem_slot i _).2 ?_
  have hz := Rect.mem_set_unit.mp hz 0
  have h1 : i.val ≤ (z 0).val := hz.1
  have h2 : (z 0).val < i.val + 1 := hz.2
  show (z 0).val = i.val; omega

theorem half_load (j : Fin 2) {r : ℕ} {off : Fin 3 → ℕ} (h : off = ![j.val, r, 0]) (inb : ∀ a, off a + S1x128x3072.size a ≤ S2x512x3072.size a) :
    yM.view.setOn (Rect.unit (s := S2x512x3072) off S1x128x3072.size inb).toLoadRect.set ⊆ (halfM j).view.set := by
  subst h
  intro y hy
  obtain ⟨z, hz, rfl⟩ := Finset.mem_map.mp hy
  refine (mem_half j _).2 ?_
  have hz := Rect.mem_set_unit.mp hz 0
  have h1 : j.val ≤ (z 0).val := hz.1
  have h2 : (z 0).val < j.val + 1 := hz.2
  show (z 0).val = j.val; omega

theorem half_store (j : Fin 2) {r : ℕ} {off : Fin 3 → ℕ} (h : off = ![j.val, r, 0]) (inb : ∀ a, off a + S1x128x3072.size a ≤ S2x512x3072.size a) :
    (yM.access (Rect.unit (s := S2x512x3072) off S1x128x3072.size inb)).setOn Finset.univ ⊆ (halfM j).view.set := by
  subst h
  intro y hy
  obtain ⟨x, -, rfl⟩ := Finset.mem_map.mp hy
  refine (mem_half j _).2 ?_
  have h0 : (x 0).val < 1 := (x 0).isLt
  refine (unit_emb_val _ x 0).trans ?_
  show j.val + (x 0).val = j.val; omega

variable (c : Dev nD)

/-- Before block `b` of a group's rows `lo, …, hi - 1` in result tile `j`: the rows below `hi` that lie before the group or in an earlier
block have the property. -/
def I5 (Good : Prop3 F) (g : ℕ → ℕ) (xv : Acts F) (wv : Weights F) (u : ℕ) (i : Fin 6) (j : Fin 2) (lo hi : ℕ) (b : ℕ) (_ : Unit) : sProp 𝕄 :=
  iprop((cdM.view.loc (c : Thread nD τ) ↦{fullShare} (codes xv : Buf (Elt F) _))
    ∗ (scM.view.loc (c : Thread nD τ) ↦{fullShare} (scales xv : Buf (Elt F) _))
    ∗ (∃ f : S6x2048x3072.Idx → Elt F .fp8e4m3, ⌜Landed g wv u i f⌝ ∗ (rgM.view.loc (c : Thread nD τ) ↦[(slotM i).view.set]{fullShare} (f : Buf (Elt F) _)))
    ∗ (∃ fy : S2x512x3072.Idx → Elt F .bf16, ⌜RowsGood Good j (fun r => r < hi ∧ (r < lo ∨ r < 32 * (lo / 32) + 128 * b)) fy⌝
        ∗ (yM.view.loc (c : Thread nD τ) ↦[(halfM j).view.set]{fullShare} (fy : Buf (Elt F) _))))

/-- A trip of the loop over blocks. -/
theorem t5_step (𝒱₀ : Variants) {Good : Prop3 F} {g : ℕ → ℕ} (hs : pre g 16 = 512) {xv : Acts F} {wv : Weights F} {sv : ColScales F}
    (hG : Sound Good g xv wv sv) (t : Fin (k0_t4_loop (W (active g))).trips) (i : Fin 6) (hi' : i.val = t.val % 6) {k : ℕ} (hk : k < active g)
    (he : eOf g t.val = ⟨grp g k, grp_lt g k⟩) (h13 : k0_chk13 (W (active g)) t (W (jOf g t.val).val) (W (lo g k)) (W (hi g k)))
    (b : Fin (k0_t5_loop (W (lo g k)) (W (hi g k))).trips) (acc : Unit) :
    I5 (F := F) c Good g xv wv t.val i (jOf g t.val) (lo g k) (hi g k) b acc
      ⊢ wp frame (wpE (defs₀ (F := F)) 𝒱₀ (c : Thread nD τ) none) Set.univ
        (t5B t (W (jOf g t.val).val) (W (lo g k)) (W (hi g k)) h13 (Scalar.muli (Scalar.divsi (W (lo g k)) 32#32) 32#32)
          (colsOf sv (eOf g t.val) (jOf g t.val)) b acc)
        (I5 (F := F) c Good g xv wv t.val i (jOf g t.val) (lo g k) (hi g k) (b.val + 1)) := by
  have hlt := lo_lt_hi hk
  have hle := hi_le hs hk
  have hj := (jOf g t.val).isLt
  have hb : blockRow (lo g k) b ≤ 384 := min_le_right _ _
  have hr : blockRow (lo g k) b < 385 := by omega
  have o22 := off22 hlt hle b
  have o23 : k0_off23 (W (active g)) t = ![i.val, 0, 0] := (off23 (active_le g) t).trans (by rw [hi'])
  have o24 := off24 hlt hle b
  have o25 := off25 hlt hle b hj
  unfold I5
  iintro ⟨Hc, Hs, ⟨%f, %hL, Hr⟩, %fy, %hF, Hy⟩
  unfold t5B k0_t5_body
  simp only [Prog.lift, Prog.bind_op, Prog.bind_ret, Prog.pure_eq_ret]
  iapply (wp_load 𝒱₀ (c : Thread nD τ) none Set.univ (m := cdM) (Finset.subset_univ _)) $$ Hc; iintro Hc
  rw [read_codes xv ⟨_, hr⟩ o22]
  iapply (wp_load 𝒱₀ (c : Thread nD τ) none Set.univ (m := rgM) (slot_load i o23 _)) $$ Hr; iintro Hr
  rw [read_tile hL o23]
  iapply (wp_load 𝒱₀ (c : Thread nD τ) none Set.univ (m := scM) (Finset.subset_univ _)) $$ Hs; iintro Hs
  rw [read_scales xv ⟨_, hr⟩ o24]
  iapply (wp_load 𝒱₀ (c : Thread nD τ) none Set.univ (m := yM) (half_load (jOf g t.val) o25 _)) $$ Hy; iintro Hy
  iapply (wp_load 𝒱₀ (c : Thread nD τ) none Set.univ (m := yM) (half_load (jOf g t.val) o25 _)) $$ Hy; iintro Hy
  iapply (wp_store 𝒱₀ (c : Thread nD τ) none Set.univ (m := yM) (Mk := Finset.univ) (half_store (jOf g t.val) o25 _)) $$ [Hy]
  · iexact Hy
  iintro Hy
  rw [wp_ret]; imodintro
  isplitl [Hc]; · iexact Hc
  isplitl [Hs]; · iexact Hs
  isplitl [Hr]
  · iexists f
    isplitr; · ipureintro; exact hL
    iexact Hr
  iexists _
  isplitr
  swap
  · iexact Hy
  ipureintro
  refine block_stored hlt hle b _ _ _ _ (jOf g t.val) fy o25 _ (fun a n h1 h2 => ?_) hF
  have := hG k hk (jOf g t.val) ⟨_, hr⟩ a n h1 h2
  rw [← he] at this
  exact this

end Cert.Kernel.Hand
-- ==== Proof.Out.lean ====
/-
The two result tiles: each is filled group by group, then copied out to its columns of the result.
-/
module

public import proofs.«01_k».proof.Proof.Ring
public import proofs.«01_k».proof.Proof.Rows

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

local notation "𝕄" => MT nD τ sig Unit (Elt F) ℕ (Pipeline.UD sig nD τ) ℕ

variable (c : Dev nD)

/-- The result's columns of tile `h` have the property. -/
def OutGood (Good : Prop3 F) (h : Fin 2) (fo : S512x6144.Idx → Elt F .bf16) : Prop :=
  ∀ (r : Fin 512) (n : Fin 3072), Good r.val (3072 * h.val + n.val) (fo (ix2 r ⟨3072 * h.val + n.val, by omega⟩))

/-- A result tile not yet sent, its rows below `d` done. -/
def Open (Good : Prop3 F) (h : Fin 2) (d : ℕ) : sProp 𝕄 :=
  iprop(semVal ((c : Thread nD τ), SemLoc.dma (ySem h)) 0
    ∗ (∃ fy : S2x512x3072.Idx → Elt F .bf16, ⌜RowsGood Good h (· < d) fy⌝ ∗ (yM.view.loc (c : Thread nD τ) ↦[(halfM h).view.set]{fullShare} (fy : Buf (Elt F) _)))
    ∗ (∃ fo : S512x6144.Idx → Elt F .bf16, (yH.view.loc (c : Thread nD τ) ↦[(outH h).view.set]{fullShare} (fo : Buf (Elt F) _))))

/-- What the copy of a result tile delivers: its columns of the result, with the property, and the tile back. -/
def Delivered (Good : Prop3 F) (h : Fin 2) : sProp 𝕄 :=
  iprop((∃ fo : S512x6144.Idx → Elt F .bf16, ⌜OutGood Good h fo⌝ ∗ (yH.view.loc (c : Thread nD τ) ↦[(outH h).view.set]{fullShare} (fo : Buf (Elt F) _)))
    ∗ (∃ fy : S2x512x3072.Idx → Elt F .bf16, (yM.view.loc (c : Thread nD τ) ↦[(halfM h).view.set]{fullShare} (fy : Buf (Elt F) _))))

/-- A result tile whose copy is in flight. -/
def Sent (Good : Prop3 F) (h : Fin 2) : sProp 𝕄 :=
  Flight (countersEmb (U := Pipeline.UD sig nD τ)) (c : Thread nD τ) (SemLoc.dma (ySem h)) () (outH h).view.dmaCredit (Delivered c Good h)

/-- A result tile before step `t`. -/
def Half (Good : Prop3 F) (g : ℕ → ℕ) (t : ℕ) (h : Fin 2) : sProp 𝕄 :=
  if t / active g ≤ h.val then Open c Good h (if t / active g = h.val then lo g (t % active g) else 0) else Sent c Good h

/-- A family of two changed at one place only. -/
theorem family_swap2 {Φ Ψ : Fin 2 → sProp 𝕄} (i : Fin 2) (h : ∀ j, j ≠ i → Φ j = Ψ j) :
    bigSep Finset.univ Φ ⊢ iprop(Φ i ∗ (Ψ i -∗ bigSep Finset.univ Ψ)) := by
  rw [bigSep_univ_split (Φ := Φ) i, bigSep_univ_split (Φ := Ψ) i,
    bigSep_congr (s := Finset.univ.erase i) (Φ := Φ) (Ψ := Ψ) (fun j hj => h j (Finset.ne_of_mem_erase hj))]
  show iprop(Φ i ∗ bigSep (Finset.univ.erase i) Ψ) ⊢ iprop(Φ i ∗ (Ψ i -∗ (Ψ i ∗ bigSep (Finset.univ.erase i) Ψ)))
  iintro ⟨H, HR⟩
  isplitl [H]; · iexact H
  iintro H'
  isplitl [H']; · iexact H'
  iexact HR

/-- The tile a step works on, and what it becomes. -/
theorem half_step (Good : Prop3 F) {g : ℕ → ℕ} (hs : pre g 16 = 512) {t : ℕ} (ht : t < 2 * active g) :
    bigSep Finset.univ (Half c Good g t)
      ⊢ iprop(Open c Good (jOf g t) (lo g (t % active g))
        ∗ ((if t % active g + 1 = active g then Sent c Good (jOf g t) else Open c Good (jOf g t) (hi g (t % active g)))
          -∗ bigSep Finset.univ (Half c Good g (t + 1)))) := by
  have hpos := active_pos hs
  have hlt := step_tile hpos ht
  have hj := jOf_val hlt
  have hm := step_mod (u := t) hpos
  have hd := step_div (u := t) hpos
  have h := family_swap2 (F := F) (Φ := Half c Good g t) (Ψ := Half c Good g (t + 1)) (jOf g t) (fun h hne => by
    have hne' : h.val ≠ t / active g := fun e => hne (Fin.ext (e.trans hj.symm))
    unfold Half
    rw [← hm, ← hd]
    by_cases hl : t % active g + 1 = active g
    · rw [if_pos hl, if_pos hl]
      by_cases h1 : t / active g ≤ h.val
      · rw [if_pos h1, if_neg (fun e => hne' e.symm), if_pos (by omega), lo_zero hpos, ite_self]
      · rw [if_neg h1, if_neg (by omega)]
    · rw [if_neg hl, if_neg hl]
      by_cases h1 : t / active g ≤ h.val
      · rw [if_pos h1, if_pos h1, if_neg (fun e => hne' e.symm), if_neg (fun e => hne' e.symm)]
      · rw [if_neg h1, if_neg h1])
  have e1 : Half c Good g t (jOf g t) = Open c Good (jOf g t) (lo g (t % active g)) := by
    unfold Half; rw [if_pos hj.ge, if_pos hj.symm]
  have e2 : Half c Good g (t + 1) (jOf g t)
      = if t % active g + 1 = active g then Sent c Good (jOf g t) else Open c Good (jOf g t) (hi g (t % active g)) := by
    have hmod := Nat.mod_lt t hpos
    unfold Half
    rw [← hm, ← hd]
    by_cases hl : t % active g + 1 = active g
    · rw [if_pos hl, if_pos hl, if_neg (by omega), if_pos hl]
    · rw [if_neg hl, if_neg hl, if_neg hl, if_pos hj.ge, if_pos hj.symm, lo_succ (by omega)]
  rw [e1, e2] at h
  exact h

/-- The start of a finished result tile's copy. -/
theorem wp_send {𝒱₀ : Variants} {Good : Prop3 F} (h : Fin 2) {d : ℕ} (hd : d = 512) {o1 : Fin 1 → ℕ} {o2 : Fin 3 → ℕ} {o3 : Fin 2 → ℕ}
    (h1 : o1 = ![h.val]) (h2 : o2 = ![h.val, 0, 0]) (h3 : o3 = ![0, 3072 * h.val])
    {inb1 : ∀ a, o1 a + S1.size a ≤ S2.size a} {inb2 : ∀ a, o2 a + S1x512x3072.size a ≤ S2x512x3072.size a}
    {inb3 : ∀ a, o3 a + S512x3072.size a ≤ S512x6144.size a} {α : Type} {Q : α → sProp 𝕄} {hsrc hdst hsem}
    {k : PUnit → Prog (TpuEff nD τ sig (Elt F) Λ₀ .tc) α} :
    Open (F := F) c Good h d ⊢ iprop((Sent c Good h -∗ wp frame (wpE (defs₀ (F := F)) 𝒱₀ (c : Thread nD τ) none) Set.univ (k ⟨⟩) Q)
      -∗ wp frame (wpE (defs₀ (F := F)) 𝒱₀ (c : Thread nD τ) none) Set.univ
        (.op (.enqueueDma ((yM.slice (Rect.unit (s := S2x512x3072) o2 S1x512x3072.size inb2) (fun _ => rfl)).squeeze S512x3072 squeezes_S1x512x3072_S512x3072)
          (.here (yH.slice (Rect.unit (s := S512x6144) o3 S512x3072.size inb3) (fun _ => rfl)))
          (.dma ((cc0_scratch14.slice (Rect.unit (s := S2) o1 S1.size inb1)).squeeze S_ squeezes_S1_S_).sem) hsrc hdst hsem) k) Q) := by
  subst h1 h2 h3 hd
  unfold Open
  iintro ⟨Hs, ⟨%fy, %hF, Hy⟩, %fo, Ho⟩ Hk
  iapply (wp_dmaLocal (countersEmb (U := Pipeline.UD sig nD τ)) 𝒱₀ (c : Thread nD τ) none (src := halfM h) (dst := outH h) (Sd := (outH h).view.set)
    () (outH h).view.dmaCredit rfl (View.dmaCredit_pos _ (by decide)) (Finset.Subset.refl _)) $$ [Hy Ho Hs]
  · isplitl [Hy]; · iexact Hy
    isplitl [Ho]; · iexact Ho
    iexact Hs
  iintro HF
  iapply Hk
  unfold Sent
  iapply (Flight_mono (countersEmb (U := Pipeline.UD sig nD τ)) ?_) $$ HF
  unfold Delivered
  iintro ⟨Ho, Hy⟩
  isplitl [Ho]
  · iexists _
    isplitr
    swap
    · iexact Ho
    ipureintro
    intro r n
    exact (congrArg (Good r.val (3072 * h.val + n.val)) (out_landed h _ fy r n)).mpr (hF r n r.isLt)
  iexists fy; iexact Hy

/-- The wait for a result tile's copy. -/
theorem wp_collect {𝒱₀ : Variants} {Good : Prop3 F} (h : Fin 2) {o1 : Fin 1 → ℕ} {o2 : Fin 3 → ℕ} {o3 : Fin 2 → ℕ}
    (h1 : o1 = ![h.val]) (h3 : o3 = ![0, 3072 * h.val]) {W : Waits sig Unit}
    {inb1 : ∀ a, o1 a + S1.size a ≤ S2.size a} {inb2 : ∀ a, o2 a + S1x512x3072.size a ≤ S2x512x3072.size a}
    {inb3 : ∀ a, o3 a + S512x3072.size a ≤ S512x6144.size a} {α : Type} {Q : α → sProp 𝕄} {hsrc hdst}
    {k : PUnit → Prog (TpuEff nD τ sig (Elt F) Λ₀ .tc) α} :
    iprop(Sent (F := F) c Good h ∗ owes (c : Thread nD τ) 0 W)
      ⊢ iprop((iprop(Delivered c Good h ∗ semVal ((c : Thread nD τ), SemLoc.dma (ySem h)) 0 ∗ (∃ W', owes (c : Thread nD τ) 0 W'))
            -∗ wp frame (wpE (defs₀ (F := F)) 𝒱₀ (c : Thread nD τ) none) Set.univ (k ⟨⟩) Q)
      -∗ wp frame (wpE (defs₀ (F := F)) 𝒱₀ (c : Thread nD τ) none) Set.univ
        (.op (.waitDma2 ((cc0_scratch14.slice (Rect.unit (s := S2) o1 S1.size inb1)).squeeze S_ squeezes_S1_S_).sem
          ((yM.slice (Rect.unit (s := S2x512x3072) o2 S1x512x3072.size inb2) (fun _ => rfl)).squeeze S512x3072 squeezes_S1x512x3072_S512x3072)
          (yH.slice (Rect.unit (s := S512x6144) o3 S512x3072.size inb3) (fun _ => rfl)) hsrc hdst) k) Q) := by
  subst h1 h3
  unfold Sent
  iintro ⟨HF, HO⟩ Hk
  iapply (wp_waitLocal (countersEmb (U := Pipeline.UD sig nD τ)) 𝒱₀ (c : Thread nD τ) none (dstw := outH h) () rfl) $$ [HF HO]
  · isplitl [HF]; · iexact HF
    iexact HO
  iintro ⟨HD, Hs, HO⟩
  iapply Hk
  isplitl [HD]; · iexact HD
  isplitl [Hs]; · iexact Hs
  iexists _; iexact HO

end Cert.Kernel.Hand
-- ==== Proof.Setup.lean ====
/-
What the kernel's buffers and semaphores make up before the first step, and what they are taken back to after the last.
-/
module

public import proofs.«01_k».proof.Proof.Out

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

local notation "𝕄" => MT nD τ sig Unit (Elt F) ℕ (Pipeline.UD sig nD τ) ℕ

/-- The elements of ring slot `i`. -/
def slotS (i : Fin 6) : Finset S6x2048x3072.Idx := (slotM i).view.set

theorem slotS_disjoint : ∀ i ∈ (Finset.univ : Finset (Fin 6)), ∀ j ∈ (Finset.univ : Finset (Fin 6)), i ≠ j → Disjoint (slotS i) (slotS j) :=
  fun i _ j _ h => Finset.disjoint_left.mpr fun y hi hj => h (Fin.ext (((mem_slot i y).1 hi).symm.trans ((mem_slot j y).1 hj)))

theorem slotS_cover : (Finset.univ : Finset (Fin 6)).biUnion slotS = Finset.univ :=
  Finset.eq_univ_iff_forall.mpr fun y => Finset.mem_biUnion.mpr ⟨⟨(y 0).val, (y 0).isLt⟩, Finset.mem_univ _, (mem_slot _ y).2 rfl⟩

/-- The elements of result tile `i`. -/
def halfS (i : Fin 2) : Finset S2x512x3072.Idx := (halfM i).view.set

theorem halfS_disjoint : ∀ i ∈ (Finset.univ : Finset (Fin 2)), ∀ j ∈ (Finset.univ : Finset (Fin 2)), i ≠ j → Disjoint (halfS i) (halfS j) :=
  fun i _ j _ h => Finset.disjoint_left.mpr fun y hi hj => h (Fin.ext (((mem_half i y).1 hi).symm.trans ((mem_half j y).1 hj)))

theorem halfS_cover : (Finset.univ : Finset (Fin 2)).biUnion halfS = Finset.univ :=
  Finset.eq_univ_iff_forall.mpr fun y => Finset.mem_biUnion.mpr ⟨⟨(y 0).val, (y 0).isLt⟩, Finset.mem_univ _, (mem_half _ y).2 rfl⟩

/-- The elements of column tile `i` of the result. -/
def outS (i : Fin 2) : Finset S512x6144.Idx := (outH i).view.set

theorem outS_disjoint : ∀ i ∈ (Finset.univ : Finset (Fin 2)), ∀ j ∈ (Finset.univ : Finset (Fin 2)), i ≠ j → Disjoint (outS i) (outS j) :=
  fun i _ j _ h => Finset.disjoint_left.mpr fun y hi hj => h (Fin.ext (((mem_out i y).1 hi).symm.trans ((mem_out j y).1 hj)))

theorem outS_cover : (Finset.univ : Finset (Fin 2)).biUnion outS = Finset.univ :=
  Finset.eq_univ_iff_forall.mpr fun y =>
    have h : (y 1).val / 3072 < 2 := by have h : (y 1).val < 6144 := (y 1).isLt; omega
    Finset.mem_biUnion.mpr ⟨⟨(y 1).val / 3072, h⟩, Finset.mem_univ _, (mem_out ⟨(y 1).val / 3072, h⟩ y).2 rfl⟩

variable (c : Dev nD)

/-- The ring, whole or as its parts. -/
theorem slotS_split (f : S6x2048x3072.Idx → Elt F .fp8e4m3) :
    (rgM.view.loc (c : Thread nD τ) ↦{fullShare} (f : Buf (Elt F) _) : sProp 𝕄)
      = bigSep Finset.univ (fun i : Fin 6 => rgM.view.loc (c : Thread nD τ) ↦[slotS i]{fullShare} (f : Buf (Elt F) _)) := by
  have h := pointsTo_biUnion (Ix := Unit) (Name := ℕ) (U := Pipeline.UD sig nD τ) (Lvl := ℕ) (ℓ := rgM.view.loc (c : Thread nD τ)) (q := fullShare) (f := (f : Buf (Elt F) _)) Finset.univ slotS slotS_disjoint
  rw [slotS_cover] at h
  exact h

/-- Its parts, each at some contents, make it whole at contents that agree with each. -/
theorem slotS_join (f : Fin 6 → S6x2048x3072.Idx → Elt F .fp8e4m3) :
    bigSep Finset.univ (fun i : Fin 6 => rgM.view.loc (c : Thread nD τ) ↦[slotS i]{fullShare} (f i : Buf (Elt F) _))
      ⊢ (iprop(∃ k : S6x2048x3072.Idx → Elt F .fp8e4m3, ⌜∀ i, ∀ y ∈ slotS i, k y = f i y⌝ ∗ (rgM.view.loc (c : Thread nD τ) ↦{fullShare} (k : Buf (Elt F) _))) : sProp 𝕄) := by
  have h := pointsTo_biUnion_join (Ix := Unit) (Name := ℕ) (U := Pipeline.UD sig nD τ) (Lvl := ℕ) (ℓ := rgM.view.loc (c : Thread nD τ)) (q := fullShare) Finset.univ slotS f (f 0) slotS_disjoint
  rw [slotS_cover] at h
  iintro H
  ihave H' := h $$ H
  icases H' with ⟨%k, %hk, H⟩
  iexists k
  isplitr; · ipureintro; exact fun i y hy => hk i (Finset.mem_univ _) y hy
  iexact H

/-- The result tiles, whole or as its parts. -/
theorem halfS_split (f : S2x512x3072.Idx → Elt F .bf16) :
    (yM.view.loc (c : Thread nD τ) ↦{fullShare} (f : Buf (Elt F) _) : sProp 𝕄)
      = bigSep Finset.univ (fun i : Fin 2 => yM.view.loc (c : Thread nD τ) ↦[halfS i]{fullShare} (f : Buf (Elt F) _)) := by
  have h := pointsTo_biUnion (Ix := Unit) (Name := ℕ) (U := Pipeline.UD sig nD τ) (Lvl := ℕ) (ℓ := yM.view.loc (c : Thread nD τ)) (q := fullShare) (f := (f : Buf (Elt F) _)) Finset.univ halfS halfS_disjoint
  rw [halfS_cover] at h
  exact h

/-- Its parts, each at some contents, make it whole at contents that agree with each. -/
theorem halfS_join (f : Fin 2 → S2x512x3072.Idx → Elt F .bf16) :
    bigSep Finset.univ (fun i : Fin 2 => yM.view.loc (c : Thread nD τ) ↦[halfS i]{fullShare} (f i : Buf (Elt F) _))
      ⊢ (iprop(∃ k : S2x512x3072.Idx → Elt F .bf16, ⌜∀ i, ∀ y ∈ halfS i, k y = f i y⌝ ∗ (yM.view.loc (c : Thread nD τ) ↦{fullShare} (k : Buf (Elt F) _))) : sProp 𝕄) := by
  have h := pointsTo_biUnion_join (Ix := Unit) (Name := ℕ) (U := Pipeline.UD sig nD τ) (Lvl := ℕ) (ℓ := yM.view.loc (c : Thread nD τ)) (q := fullShare) Finset.univ halfS f (f 0) halfS_disjoint
  rw [halfS_cover] at h
  iintro H
  ihave H' := h $$ H
  icases H' with ⟨%k, %hk, H⟩
  iexists k
  isplitr; · ipureintro; exact fun i y hy => hk i (Finset.mem_univ _) y hy
  iexact H

/-- The result, whole or as its parts. -/
theorem outS_split (f : S512x6144.Idx → Elt F .bf16) :
    (yH.view.loc (c : Thread nD τ) ↦{fullShare} (f : Buf (Elt F) _) : sProp 𝕄)
      = bigSep Finset.univ (fun i : Fin 2 => yH.view.loc (c : Thread nD τ) ↦[outS i]{fullShare} (f : Buf (Elt F) _)) := by
  have h := pointsTo_biUnion (Ix := Unit) (Name := ℕ) (U := Pipeline.UD sig nD τ) (Lvl := ℕ) (ℓ := yH.view.loc (c : Thread nD τ)) (q := fullShare) (f := (f : Buf (Elt F) _)) Finset.univ outS outS_disjoint
  rw [outS_cover] at h
  exact h

/-- Its parts, each at some contents, make it whole at contents that agree with each. -/
theorem outS_join (f : Fin 2 → S512x6144.Idx → Elt F .bf16) :
    bigSep Finset.univ (fun i : Fin 2 => yH.view.loc (c : Thread nD τ) ↦[outS i]{fullShare} (f i : Buf (Elt F) _))
      ⊢ (iprop(∃ k : S512x6144.Idx → Elt F .bf16, ⌜∀ i, ∀ y ∈ outS i, k y = f i y⌝ ∗ (yH.view.loc (c : Thread nD τ) ↦{fullShare} (k : Buf (Elt F) _))) : sProp 𝕄) := by
  have h := pointsTo_biUnion_join (Ix := Unit) (Name := ℕ) (U := Pipeline.UD sig nD τ) (Lvl := ℕ) (ℓ := yH.view.loc (c : Thread nD τ)) (q := fullShare) Finset.univ outS f (f 0) outS_disjoint
  rw [outS_cover] at h
  iintro H
  ihave H' := h $$ H
  icases H' with ⟨%k, %hk, H⟩
  iexists k
  isplitr; · ipureintro; exact fun i y hy => hk i (Finset.mem_univ _) y hy
  iexact H

/-- A family of three parts is three families. -/
theorem family_three {n : ℕ} (Φ Ψ Χ : Fin n → sProp 𝕄) :
    bigSep Finset.univ (fun i => iprop(Φ i ∗ Ψ i ∗ Χ i)) = iprop(bigSep Finset.univ Φ ∗ bigSep Finset.univ Ψ ∗ bigSep Finset.univ Χ) :=
  (bigSep_sep Finset.univ Φ (fun i => iprop(Ψ i ∗ Χ i))).trans (congrArg (fun X => iprop(bigSep Finset.univ Φ ∗ X)) (bigSep_sep Finset.univ Ψ Χ))

/-- A family entails another one member at a time. -/
theorem family_mono {n : ℕ} {Φ Ψ : Fin n → sProp 𝕄} (h : ∀ i, Φ i ⊢ Ψ i) : bigSep Finset.univ Φ ⊢ iprop(bigSep Finset.univ Ψ) :=
  bigSep_mono fun i _ => h i

/-- A family of two is its two members. -/
theorem family_two (Φ : Fin 2 → sProp 𝕄) : bigSep Finset.univ Φ = iprop(Φ 0 ∗ Φ 1) := bigSep_fin_two Φ

/-- The ring's semaphores at zero. -/
abbrev wSems : sProp 𝕄 := bigSep Finset.univ (fun i : Fin 6 => semVal ((c : Thread nD τ), SemLoc.dma (wSem i)) 0)

/-- The result tiles' semaphores at zero. -/
abbrev ySems : sProp 𝕄 := bigSep Finset.univ (fun h : Fin 2 => semVal ((c : Thread nD τ), SemLoc.dma (ySem h)) 0)

theorem ring_free (g : ℕ → ℕ) (wv : Weights F) (n : ℕ) : Ring (F := F) c g wv n n = bigSep Finset.univ (fun i => Free c wv i) := by
  unfold Ring
  refine bigSep_congr fun i _ => ?_
  unfold Slot
  rw [if_neg (by unfold stepAt; omega)]

/-- Before the first copy the ring is a family of free slots. -/
theorem ring_make (g : ℕ → ℕ) (wv : Weights F) (n : ℕ) (f : S6x2048x3072.Idx → Elt F .fp8e4m3) :
    iprop(wSems (F := F) c ∗ (rgM.view.loc (c : Thread nD τ) ↦{fullShare} (f : Buf (Elt F) _))
      ∗ (wH.view.loc (c : Thread nD τ) ↦{fullShare} (wv : Buf (Elt F) _)))
    ⊢ (iprop(Ring c g wv n n ∗ (wH.view.loc (c : Thread nD τ) ↦{shareDrop fullShare 6} (wv : Buf (Elt F) _))) : sProp 𝕄) := by
  rw [slotS_split, ring_free]
  iintro ⟨Hs, Hr, Hw⟩
  ihave Hw' := (pointsTo_toks_split fullShare 6) $$ Hw
  icases Hw' with ⟨Hd, Hw⟩
  isplitl [Hs Hr Hw]
  swap; · iexact Hd
  unfold Free
  rw [family_three]
  isplitl [Hs]; · iexact Hs
  isplitl [Hr]
  · iapply (family_mono (fun i => ?_)) $$ Hr
    iintro H
    iexists f
    iexact H
  iexact Hw

/-- After the last copy's wait the ring gives its buffer, semaphores and weights back. -/
theorem ring_back (g : ℕ → ℕ) (wv : Weights F) (n : ℕ) :
    iprop(Ring c g wv n n ∗ (wH.view.loc (c : Thread nD τ) ↦{shareDrop fullShare 6} (wv : Buf (Elt F) _)))
    ⊢ (iprop(wSems (F := F) c ∗ (∃ f : S6x2048x3072.Idx → Elt F .fp8e4m3, rgM.view.loc (c : Thread nD τ) ↦{fullShare} (f : Buf (Elt F) _))
      ∗ (wH.view.loc (c : Thread nD τ) ↦{fullShare} (wv : Buf (Elt F) _))) : sProp 𝕄) := by
  rw [ring_free]
  unfold Free
  rw [family_three]
  iintro ⟨⟨Hs, Hr, Hw⟩, Hd⟩
  isplitl [Hs]; · iexact Hs
  isplitl [Hr]
  · haveI : Nonempty (S6x2048x3072.Idx → Elt F .fp8e4m3) := ⟨fun _ => wv (ix3 (0 : Fin 16) (0 : Fin 2048) (0 : Fin 6144))⟩
    ihave Hr' := (bigSep_exists_pi (Y := fun _ : Fin 6 => S6x2048x3072.Idx → Elt F .fp8e4m3) Finset.univ _) $$ Hr
    icases Hr' with ⟨%fs, Hr⟩
    ihave Hr' := (slotS_join c fs) $$ [Hr]
    · iexact Hr
    icases Hr' with ⟨%k, -, H⟩
    iexists k
    iexact H
  · iapply (pointsTo_toks_join fullShare 6)
    isplitl [Hd]; · iexact Hd
    iexact Hw

/-- Before the first step both result tiles are open, nothing done. -/
theorem halves_make (Good : Prop3 F) {g : ℕ → ℕ} (hs : pre g 16 = 512) (fy : S2x512x3072.Idx → Elt F .bf16) (fo : S512x6144.Idx → Elt F .bf16) :
    iprop(ySems (F := F) c ∗ (yM.view.loc (c : Thread nD τ) ↦{fullShare} (fy : Buf (Elt F) _))
      ∗ (yH.view.loc (c : Thread nD τ) ↦{fullShare} (fo : Buf (Elt F) _)))
    ⊢ (bigSep Finset.univ (Half c Good g 0) : sProp 𝕄) := by
  have e : bigSep Finset.univ (Half c Good g 0) = bigSep Finset.univ (fun h => Open c Good h 0) := by
    refine bigSep_congr fun h _ => ?_
    unfold Half
    rw [Nat.zero_div, if_pos (Nat.zero_le _), Nat.zero_mod, lo_zero (active_pos hs), ite_self]
  rw [e, halfS_split, outS_split]
  unfold Open
  rw [family_three]
  iintro ⟨Hs, Hy, Ho⟩
  isplitl [Hs]; · iexact Hs
  isplitl [Hy]
  · iapply (family_mono (fun i => ?_)) $$ Hy
    iintro H
    iexists fy
    isplitr; · ipureintro; exact fun r n hr => absurd hr (Nat.not_lt_zero _)
    iexact H
  · iapply (family_mono (fun i => ?_)) $$ Ho
    iintro H
    iexists fo
    iexact H

/-- After the last step both result tiles are on their way. -/
theorem halves_sent (Good : Prop3 F) {g : ℕ → ℕ} (hs : pre g 16 = 512) :
    bigSep Finset.univ (Half c Good g (2 * active g)) = iprop(Sent c Good 0 ∗ Sent c Good 1) := by
  have hd : 2 * active g / active g = 2 := Nat.mul_div_cancel _ (active_pos hs)
  rw [family_two]
  unfold Half
  rw [hd, if_neg (by decide), if_neg (by decide)]

/-- Both result tiles delivered make the whole result, every element with the property. -/
theorem halves_back (Good : Prop3 F) :
    iprop(Delivered c Good 0 ∗ Delivered c Good 1)
    ⊢ (iprop((∃ fo : S512x6144.Idx → Elt F .bf16, ⌜∀ h, OutGood Good h fo⌝ ∗ (yH.view.loc (c : Thread nD τ) ↦{fullShare} (fo : Buf (Elt F) _)))
      ∗ (∃ fy : S2x512x3072.Idx → Elt F .bf16, yM.view.loc (c : Thread nD τ) ↦{fullShare} (fy : Buf (Elt F) _))) : sProp 𝕄) := by
  unfold Delivered
  iintro ⟨⟨⟨%f0, %h0, Ho0⟩, %y0, Hy0⟩, ⟨%f1, %h1, Ho1⟩, %y1, Hy1⟩
  isplitl [Ho0 Ho1]
  · ihave H := (outS_join c (fun h : Fin 2 => if h = 0 then f0 else f1)) $$ [Ho0 Ho1]
    · rw [family_two]
      isplitl [Ho0]; · iexact Ho0
      iexact Ho1
    icases H with ⟨%k, %hk, H⟩
    iexists k
    isplitr
    · ipureintro
      intro h r n
      have hm : (ix2 r ⟨3072 * h.val + n.val, by omega⟩ : S512x6144.Idx) ∈ outS h :=
        (mem_out h _).2 (by show (3072 * h.val + n.val) / 3072 = h.val; omega)
      rw [hk h _ hm]
      fin_cases h
      · exact h0 r n
      · exact h1 r n
    iexact H
  · ihave H := (halfS_join c (fun h : Fin 2 => if h = 0 then y0 else y1)) $$ [Hy0 Hy1]
    · rw [family_two]
      isplitl [Hy0]; · iexact Hy0
      iexact Hy1
    icases H with ⟨%k, -, H⟩
    iexists k
    iexact H

end Cert.Kernel.Hand
-- ==== Proof.Flow.lean ====
/-
Two rules for running a program: a counted loop by an invariant, and a part run only on a condition.
-/
module

public import proofs.«01_k».proof.Proof.Memory

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (c : Dev nD)

/-- A counted loop at the head of a program, by an invariant. -/
theorem wp_loop (𝒱₀ : Variants) {σ : Type} {w : ℕ} (L : Scf.Loop w) (ok : L.OK) (init : σ) (body : Fin L.trips → σ → Prog (TpuEff nD τ sig (Elt F) Λ₀ .tc) σ)
    (I : ℕ → σ → sProp 𝕄)
    (hbody : ∀ (k : Fin L.trips) (acc : σ), I k acc ⊢ wp frame (wpE (defs₀ (F := F)) 𝒱₀ (c : Thread nD τ) none) Set.univ (body k acc) (I (k.val + 1)))
    {β : Type} {kk : σ → Prog (TpuEff nD τ sig (Elt F) Λ₀ .tc) β} {Q : β → sProp 𝕄} :
    I 0 init ⊢ iprop((∀ acc, I L.trips acc -∗ wp frame (wpE (defs₀ (F := F)) 𝒱₀ (c : Thread nD τ) none) Set.univ (kk acc) Q)
      -∗ wp frame (wpE (defs₀ (F := F)) 𝒱₀ (c : Thread nD τ) none) Set.univ (Scf.Loop.for L ok init body >>= kk) Q) :=
  Scf.wp_for_bind frame (wpE (defs₀ (F := F)) 𝒱₀ (c : Thread nD τ) none) Set.univ _ _ _ ok init body I hbody

/-- A part run only on a condition, the rest in either case. -/
theorem wp_join (𝒱₀ : Variants) {β : Type} {C : Prop} [Decidable C] (P R : sProp 𝕄) {A : C → Prog (TpuEff nD τ sig (Elt F) Λ₀ .tc) β}
    {T : Prog (TpuEff nD τ sig (Elt F) Λ₀ .tc) β} {Q : β → sProp 𝕄}
    (hA : ∀ h, P ⊢ iprop((R -∗ wp frame (wpE (defs₀ (F := F)) 𝒱₀ (c : Thread nD τ) none) Set.univ T Q)
      -∗ wp frame (wpE (defs₀ (F := F)) 𝒱₀ (c : Thread nD τ) none) Set.univ (A h) Q))
    (hR : ¬ C → P ⊢ R) :
    P ⊢ iprop((R -∗ wp frame (wpE (defs₀ (F := F)) 𝒱₀ (c : Thread nD τ) none) Set.univ T Q)
      -∗ wp frame (wpE (defs₀ (F := F)) 𝒱₀ (c : Thread nD τ) none) Set.univ (dite C A fun _ => T) Q) := by
  by_cases h : C
  · rw [dif_pos h]; exact hA h
  · rw [dif_neg h]
    iintro HP HK
    iapply HK
    iapply (hR h) $$ HP

end Cert.Kernel.Hand
-- ==== Proof.Tiles.lean ====
/-
The loop over the steps: each step starts the copy of a later weight tile, awaits its own, works through its group's blocks and, at a
result tile's last group, sends the tile.
-/
module

public import proofs.«01_k».proof.Proof.Flow
public import proofs.«01_k».proof.Proof.Ahead
public import proofs.«01_k».proof.Proof.Out

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (c : Dev nD)

/-- A group's blocks reach past its last row. -/
theorem le_blocks (lo hi : ℕ) : hi ≤ 32 * (lo / 32) + 128 * blocks lo hi := by
  unfold blocks; omega

/-- One trip of the loop over steps, over the kernel's buffers. -/
abbrev t4B (v : BitVec 32) (h5 : k0_chk5 v) (v2 : BitVec 32) :
    Fin (k0_t4_loop v).trips → BitVec 32 × BitVec 32 × BitVec 32 × BitVec 32 →
      Prog (TpuEff nD τ sig (Elt F) Λ₀ .tc) (BitVec 32 × BitVec 32 × BitVec 32 × BitVec 32) :=
  k0_t4_body gsH (Memref.isWhole_whole _) xH (Memref.isWhole_whole _) wH (Memref.isWhole_whole _) sH (Memref.isWhole_whole _)
    yH (Memref.isWhole_whole _) gsM (Memref.isWhole_whole _) exM (Memref.isWhole_whole _) loM (Memref.isWhole_whole _)
    hiM (Memref.isWhole_whole _) xM (Memref.isWhole_whole _) cdM (Memref.isWhole_whole _) scM (Memref.isWhole_whole _)
    wsM (Memref.isWhole_whole _) rgM (Memref.isWhole_whole _) yM (Memref.isWhole_whole _)
    cc0_scratch10 cc0_scratch11 cc0_scratch12 cc0_scratch13 cc0_scratch14 v h5 v2

/-- What holds before step `t`: the loop carries step `t`'s group and column tile and those of step `t + 5`; the copies of steps
`t, …, t + 4` are in flight; the result tiles are done as far as the earlier steps reach. -/
def I4 (Good : Prop3 F) (g : ℕ → ℕ) (fe fl fh : Words16) (xv : Acts F) (wv : Weights F) (sv : ColScales F) (t : ℕ)
    (acc : BitVec 32 × BitVec 32 × BitVec 32 × BitVec 32) : sProp 𝕄 :=
  iprop(⌜acc = (W (t % active g), W (t / active g), W ((t + 5) % active g), W ((t + 5) / active g))⌝
    ∗ (exM.view.loc (c : Thread nD τ) ↦{fullShare} (fe : Buf (Elt F) _))
    ∗ (loM.view.loc (c : Thread nD τ) ↦{fullShare} (fl : Buf (Elt F) _))
    ∗ (hiM.view.loc (c : Thread nD τ) ↦{fullShare} (fh : Buf (Elt F) _))
    ∗ (cdM.view.loc (c : Thread nD τ) ↦{fullShare} (codes xv : Buf (Elt F) _))
    ∗ (scM.view.loc (c : Thread nD τ) ↦{fullShare} (scales xv : Buf (Elt F) _))
    ∗ (wsM.view.loc (c : Thread nD τ) ↦{fullShare} (sv : Buf (Elt F) _))
    ∗ Ring c g wv t (min (t + 5) (2 * active g))
    ∗ bigSep Finset.univ (Half c Good g t)
    ∗ (∃ Wt, owes (c : Thread nD τ) 0 Wt))

/-- A step. -/
theorem t4_step (𝒱₀ : Variants) {Good : Prop3 F} {g : ℕ → ℕ} (hs : pre g 16 = 512) {fe fl fh : Words16} (hT : Tabled g 16 fe fl fh) {xv : Acts F}
    {wv : Weights F} {sv : ColScales F} (hG : Sound Good g xv wv sv) (h5 : k0_chk5 (W (active g))) (v2 : BitVec 32)
    (t : Fin (k0_t4_loop (W (active g))).trips) (acc : BitVec 32 × BitVec 32 × BitVec 32 × BitVec 32) :
    I4 (F := F) c Good g fe fl fh xv wv sv t acc
      ⊢ wp frame (wpE (defs₀ (F := F)) 𝒱₀ (c : Thread nD τ) none) Set.univ (t4B (F := F) (W (active g)) h5 v2 t acc)
        (I4 (F := F) c Good g fe fl fh xv wv sv (t.val + 1)) := by
  have hna := active_le g
  have hpos := active_pos hs
  have ht : t.val < 2 * active g := t.isLt.trans_eq (trips4 hna)
  have hmod : t.val % active g < active g := Nat.mod_lt _ hpos
  have hmod5 : (t.val + 5) % active g < active g := Nat.mod_lt _ hpos
  have hdiv := step_tile hpos ht
  have hj := jOf_val hdiv
  have hj2 := (jOf g t.val).isLt
  have hdiv5 : (t.val + 5) / active g ≤ t.val + 5 := Nat.div_le_self _ _
  have hlt := lo_lt_hi hmod
  have hle := hi_le hs hmod
  have h13 := chk13 hna hj2 hlt hle t
  have hi6 : t.val % 6 < 6 := Nat.mod_lt _ (by decide)
  have hi5 : (t.val + 5) % 6 < 6 := Nat.mod_lt _ (by decide)
  have hte := (hT.at hmod (by omega)).1
  have htl := (hT.at hmod (by omega)).2.1
  have hth := (hT.at hmod (by omega)).2.2
  unfold I4
  iintro ⟨%hacc, He, Hl, Hh, Hc, Hs, Hw, HR, HH, %Wt, HO⟩
  rw [← hj] at hacc
  subst hacc
  unfold t4B k0_t4_body
  simp only [k0_part2_eq_skeleton]
  unfold k0_part2_skel
  simp only [Prog.lift, Prog.bind_assoc, Prog.bind_op, Prog.bind_ret, Prog.pure_eq_ret, smemLoad, smemLoadElt]
  iapply (wp_assume 𝒱₀ (c : Thread nD τ) none Set.univ (chk10 (by omega : t.val % active g < 16)))
  iapply (wp_assume 𝒱₀ (c : Thread nD τ) none Set.univ (chk9 hna (by omega : t.val % active g < 16) hj2))
  iapply (wp_assume 𝒱₀ (c : Thread nD τ) none Set.univ (chk7 hna (by omega : (t.val + 5) % active g < 16) t))
  iapply (wp_assume 𝒱₀ (c : Thread nD τ) none Set.univ (chk6 hna (by omega : (t.val + 5) / active g < 64) t))
  rw [wp_bind]
  iapply (wp_join c 𝒱₀ iprop(Ring c g wv t.val (min (t.val + 5) (2 * active g)) ∗ (exM.view.loc (c : Thread nD τ) ↦{fullShare} (fe : Buf (Elt F) _)))
    iprop(Ring c g wv t.val (min (t.val + 5 + 1) (2 * active g)) ∗ (exM.view.loc (c : Thread nD τ) ↦{fullShare} (fe : Buf (Elt F) _)))
    (fun hc => ?_) (fun hc => ?_)) $$ [HR He]
  rotate_left 2
  · isplitl [HR]; · iexact HR
    iexact He
  rotate_left
  · have h2 := (cond2 hna t).1 hc
    have hd5 := step_tile hpos h2
    iintro ⟨HR, He⟩ HK
    iapply (wp_load 𝒱₀ (c : Thread nD τ) none Set.univ (m := exM) (Finset.subset_univ _)) $$ He; iintro He
    have hv : ∀ inb x, exM.view.readAt (Elt F) (Rect.unit (s := S16) (k0_off9 (W ((t.val + 5) % active g))) S1.size inb).toLoadRect fe x
        = W (grp g ((t.val + 5) % active g)) :=
      fun inb x => (table_read fe inb ⟨(t.val + 5) % active g, by omega⟩ (off9 (by omega)) x).trans (hT.at hmod5 (by omega)).1
    rw [hv]
    iapply (wp_assume 𝒱₀ (c : Thread nD τ) none Set.univ (chk8 hna hd5 (grp_lt g _) t))
    rw [show min (t.val + 5) (2 * active g) = t.val + 5 by omega, show min (t.val + 5 + 1) (2 * active g) = t.val + 5 + 1 by omega]
    have h7 : t.val ≤ t.val + 5 := by omega
    have h8 : t.val + 5 < t.val + 6 := by omega
    ihave HR' := (ring_start c g wv h7 h8 ⟨(t.val + 5) % 6, hi5⟩ rfl) $$ HR
    icases HR' with ⟨HF, HR⟩
    iapply (wp_start c (𝒱₀ := 𝒱₀) g wv ⟨(t.val + 5) % 6, hi5⟩ (t.val + 5) (off10 hna t) (off11 hna t)
      ((off12 hd5 (grp_lt g _)).trans (by rw [jOf_val hd5]; rfl))) $$ HF
    iintro HF
    iapply HK
    isplitl [HF HR]
    · iapply HR $$ HF
    iexact He
  · have h2 : ¬ t.val + 5 < 2 * active g := fun h => hc ((cond2 hna t).2 h)
    rw [show min (t.val + 5 + 1) (2 * active g) = min (t.val + 5) (2 * active g) by omega]
  iintro ⟨HR, He⟩
  rw [dif_neg (cond3 (by omega) hj2)]
  rw [← wp_bind]
  simp only [Prog.bind_op, Prog.bind_ret, Prog.pure_eq_ret]
  iapply (wp_load 𝒱₀ (c : Thread nD τ) none Set.univ (m := exM) (Finset.subset_univ _)) $$ He; iintro He
  have hv : ∀ inb x, exM.view.readAt (Elt F) (Rect.unit (s := S16) (k0_off16 (W (t.val % active g))) S1.size inb).toLoadRect fe x = W (grp g (t.val % active g)) :=
    fun inb x => (table_read fe inb ⟨t.val % active g, by omega⟩ (off16 (by omega)) x).trans hte
  rw [hv]
  iapply (wp_assume 𝒱₀ (c : Thread nD τ) none Set.univ (chk11 hj2 (grp_lt g _)))
  have h7 : t.val < min (t.val + 5 + 1) (2 * active g) := by omega
  have h8 : min (t.val + 5 + 1) (2 * active g) ≤ t.val + 6 := by omega
  ihave HR' := (ring_oldest c g wv h7 h8 ⟨t.val % 6, hi6⟩ rfl) $$ HR
  icases HR' with ⟨HF, HR⟩
  iapply (wp_await c (𝒱₀ := 𝒱₀) g wv ⟨t.val % 6, hi6⟩ t.val (off17 hna t) (off18 hna t)) $$ [HF HO]
  · isplitl [HF]; · iexact HF
    iexact HO
  iintro ⟨Hr, Hsem, Hwt, HO⟩
  iapply (wp_load 𝒱₀ (c : Thread nD τ) none Set.univ (m := loM) (Finset.subset_univ _)) $$ Hl; iintro Hl
  have hvl : ∀ inb x, loM.view.readAt (Elt F) (Rect.unit (s := S16) (k0_off20 (W (t.val % active g))) S1.size inb).toLoadRect fl x = W (lo g (t.val % active g)) :=
    fun inb x => (table_read fl inb ⟨t.val % active g, by omega⟩ (off20 (by omega)) x).trans htl
  rw [hvl]
  iapply (wp_load 𝒱₀ (c : Thread nD τ) none Set.univ (m := hiM) (Finset.subset_univ _)) $$ Hh; iintro Hh
  have hvh : ∀ inb x, hiM.view.readAt (Elt F) (Rect.unit (s := S16) (k0_off20 (W (t.val % active g))) S1.size inb).toLoadRect fh x = W (hi g (t.val % active g)) :=
    fun inb x => (table_read fh inb ⟨t.val % active g, by omega⟩ (off20 (by omega)) x).trans hth
  rw [hvh]
  iapply (wp_assume 𝒱₀ (c : Thread nD τ) none Set.univ h13)
  iapply (wp_load 𝒱₀ (c : Thread nD τ) none Set.univ (m := exM) (Finset.subset_univ _)) $$ He; iintro He
  have hve : ∀ inb x, exM.view.readAt (Elt F) (Rect.unit (s := S16) (k0_off20 (W (t.val % active g))) S1.size inb).toLoadRect fe x = W (grp g (t.val % active g)) :=
    fun inb x => (table_read fe inb ⟨t.val % active g, by omega⟩ (off20 (by omega)) x).trans hte
  rw [hve]
  iapply (wp_assume 𝒱₀ (c : Thread nD τ) none Set.univ (chk12 hj2 (grp_lt g _)))
  iapply (wp_load 𝒱₀ (c : Thread nD τ) none Set.univ (m := wsM) (Finset.subset_univ _)) $$ Hw; iintro Hw
  have hcs : ∀ inb, wsM.view.readAt (Elt F) (Rect.unit (s := S16x1x6144) (k0_off21 (W (jOf g t.val).val) (W (grp g (t.val % active g)))) S1x1x3072.size inb).toLoadRect sv
      = colsOf sv (eOf g t.val) (jOf g t.val) := fun inb => read_cols sv (eOf g t.val) (jOf g t.val) (off21 hj2 (grp_lt g _)) inb
  rw [hcs]
  ihave HH' := (half_step c Good hs ht) $$ HH
  icases HH' with ⟨HOp, HH⟩
  unfold Open
  icases HOp with ⟨Hys, ⟨%fy, %hF, Hy⟩, Ho⟩
  iapply (wp_loop c 𝒱₀ _ _ _ _ (I5 (F := F) c Good g xv wv t.val ⟨t.val % 6, hi6⟩ (jOf g t.val) (lo g (t.val % active g)) (hi g (t.val % active g)))
    (fun b acc => t5_step c 𝒱₀ hs hG t ⟨t.val % 6, hi6⟩ rfl hmod rfl h13 b acc)) $$ [Hc Hs Hr Hy]
  · unfold I5
    isplitl [Hc]; · iexact Hc
    isplitl [Hs]; · iexact Hs
    isplitl [Hr]; · iexact Hr
    iexists fy
    isplitr
    · ipureintro
      intro r n hr
      refine hF r n ?_
      rcases hr.2 with h | h
      · exact h
      · show r.val < lo g (t.val % active g); omega
    iexact Hy
  iintro %a5 H5
  iapply (wp_loop c 𝒱₀ _ _ _ _ (fun _ _ => iprop(∃ Wt, owes (c : Thread nD τ) 0 Wt))
    (fun b _ => absurd (b.isLt.trans_eq (trips6 hlt hle)) (Nat.not_lt_zero _))) $$ HO
  iintro %a6 HO
  unfold I5
  icases H5 with ⟨Hc, Hs, ⟨%f5, %hL5, Hr⟩, %fy5, %hF5, Hy⟩
  have hD : RowsGood Good (jOf g t.val) (· < hi g (t.val % active g)) fy5 := fun r n hr => hF5 r n ⟨hr, by
    have hb := le_blocks (lo g (t.val % active g)) (hi g (t.val % active g))
    have hr : r.val < hi g (t.val % active g) := hr
    rw [trips5 hlt hle]
    right; omega⟩
  have hacc : ((Scalar.select (Scalar.cmpi .eq (Scalar.addi (W (t.val % active g)) 1#32) (W (active g))) 0#32 (Scalar.addi (W (t.val % active g)) 1#32),
        Scalar.select (Scalar.cmpi .eq (Scalar.addi (W (t.val % active g)) 1#32) (W (active g))) (Scalar.addi (W (jOf g t.val).val) 1#32) (W (jOf g t.val).val),
        Scalar.select (Scalar.cmpi .eq (Scalar.addi (W ((t.val + 5) % active g)) 1#32) (W (active g))) 0#32 (Scalar.addi (W ((t.val + 5) % active g)) 1#32),
        Scalar.select (Scalar.cmpi .eq (Scalar.addi (W ((t.val + 5) % active g)) 1#32) (W (active g))) (Scalar.addi (W ((t.val + 5) / active g)) 1#32)
          (W ((t.val + 5) / active g))) : BitVec 32 × BitVec 32 × BitVec 32 × BitVec 32)
      = (W ((t.val + 1) % active g), W ((t.val + 1) / active g), W ((t.val + 1 + 5) % active g), W ((t.val + 1 + 5) / active g)) := by
    rw [next_group hna hmod, next_tile hna hmod (by omega), next_group hna hmod5, next_tile hna hmod5 (by omega), hj, step_mod hpos, step_div hpos,
      step_mod hpos, step_div hpos, show t.val + 1 + 5 = t.val + 5 + 1 by omega]
  rw [show t.val + 1 + 5 = t.val + 5 + 1 by omega] at hacc ⊢
  by_cases hl : t.val % active g + 1 = active g
  · rw [dif_pos ((cond4 hpos hna (by omega)).2 hl), if_pos hl]
    iapply (wp_send c (𝒱₀ := 𝒱₀) (Good := Good) (jOf g t.val) (hi_last hs hl) (off30 hj2) (off32 hj2) (off31 hj2)) $$ [Hys Hy Ho]
    · unfold Open
      isplitl [Hys]; · iexact Hys
      isplitl [Hy]
      · iexists fy5
        isplitr; · ipureintro; exact hD
        iexact Hy
      iexact Ho
    iintro HS
    rw [wp_ret]; imodintro
    isplitr; · ipureintro; exact hacc
    isplitl [He]; · iexact He
    isplitl [Hl]; · iexact Hl
    isplitl [Hh]; · iexact Hh
    isplitl [Hc]; · iexact Hc
    isplitl [Hs]; · iexact Hs
    isplitl [Hw]; · iexact Hw
    isplitl [HR Hsem Hr Hwt]
    · iapply HR
      unfold Free
      isplitl [Hsem]; · iexact Hsem
      isplitl [Hr]
      · iexists f5; iexact Hr
      iexact Hwt
    isplitl [HH HS]
    · iapply HH $$ HS
    iexact HO
  · rw [dif_neg (fun h => hl ((cond4 hpos hna (by omega)).1 h)), if_neg hl]
    rw [wp_ret]; imodintro
    isplitr; · ipureintro; exact hacc
    isplitl [He]; · iexact He
    isplitl [Hl]; · iexact Hl
    isplitl [Hh]; · iexact Hh
    isplitl [Hc]; · iexact Hc
    isplitl [Hs]; · iexact Hs
    isplitl [Hw]; · iexact Hw
    isplitl [HR Hsem Hr Hwt]
    · iapply HR
      unfold Free
      isplitl [Hsem]; · iexact Hsem
      isplitl [Hr]
      · iexists f5; iexact Hr
      iexact Hwt
    isplitl [HH Hys Hy Ho]
    · iapply HH
      isplitl [Hys]; · iexact Hys
      isplitl [Hy]
      · iexists fy5
        isplitr; · ipureintro; exact hD
        iexact Hy
      iexact Ho
    iexact HO

end Cert.Kernel.Hand
-- ==== Proof.Body.lean ====
module

public import proofs.«01_k».proof.Proof.Setup
public import proofs.«01_k».proof.Proof.Tiles
public import proofs.«01_k».proof.Proof.Ahead
public import proofs.«01_k».proof.Proof.Quant
public import proofs.«01_k».proof.Proof.Scan
/-!
The whole body: the three whole-buffer copies, the table of groups, the ring and the quantiser, the steps over tiles and groups,
and the copies out. It leaves the arguments as they were, every semaphore at zero, and a result each of whose entries is good.
-/
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

local notation "𝕄" => MT nD τ sig Unit (Elt F) ℕ (Pipeline.UD sig nD τ) ℕ

variable (c : Dev nD)

/-- A scratch buffer, whatever it holds. -/
abbrev Some {sp : Space} {s : Shape} {e : EltTy} (m : Memref sig .tc sp s e) : sProp 𝕄 :=
  iprop(∃ f, m.view.loc (c : Thread nD τ) ↦{fullShare} f)

/-- The ten scratch buffers. -/
def Buffers : sProp 𝕄 :=
  iprop(Some (F := F) c gsM ∗ Some (F := F) c exM ∗ Some (F := F) c loM ∗ Some (F := F) c hiM ∗ Some (F := F) c xM
    ∗ Some (F := F) c cdM ∗ Some (F := F) c scM ∗ Some (F := F) c wsM ∗ Some (F := F) c rgM ∗ Some (F := F) c yM)

/-- Every semaphore at zero. -/
def Sems0 : sProp 𝕄 :=
  iprop(semVal ((c : Thread nD τ), SemLoc.dma cc0_scratch10.sem) 0 ∗ semVal ((c : Thread nD τ), SemLoc.dma cc0_scratch11.sem) 0
    ∗ semVal ((c : Thread nD τ), SemLoc.dma cc0_scratch12.sem) 0 ∗ wSems (F := F) c ∗ ySems (F := F) c)

/-- The four arguments. -/
def Args (gw : Words16) (xv : Acts F) (wv : Weights F) (sv : ColScales F) : sProp 𝕄 :=
  iprop((gsH.view.loc (c : Thread nD τ) ↦{fullShare} (gw : Buf (Elt F) _)) ∗ (xH.view.loc (c : Thread nD τ) ↦{fullShare} (xv : Buf (Elt F) _))
    ∗ (wH.view.loc (c : Thread nD τ) ↦{fullShare} (wv : Buf (Elt F) _)) ∗ (sH.view.loc (c : Thread nD τ) ↦{fullShare} (sv : Buf (Elt F) _)))

/-- Run on group sizes that share out the rows, the body leaves its arguments, every semaphore at zero, and a result each of whose entries is good. -/
theorem body_run (𝒱₀ : Variants) {Good : Prop3 F} {g : ℕ → ℕ} (hs : pre g 16 = 512) (hg : ∀ i, i < 16 → g i ≤ 512)
    {gw : Words16} (hgw : ∀ i : Fin 16, gw (ix1 i) = W (g i)) {xv : Acts F} {wv : Weights F} {sv : ColScales F}
    (hG : Sound Good g xv wv sv) (W₀ : Waits sig Unit) :
    iprop(Args c gw xv wv sv ∗ Some (F := F) c yH ∗ Buffers (F := F) c ∗ Sems0 (F := F) c ∗ owes (c : Thread nD τ) 0 W₀)
    ⊢ wp frame (wpE (defs₀ (F := F)) 𝒱₀ (c : Thread nD τ) none) Set.univ
      (cc0_grouped_fp8 gsH (Memref.isWhole_whole _) xH (Memref.isWhole_whole _) wH (Memref.isWhole_whole _) sH (Memref.isWhole_whole _)
    yH (Memref.isWhole_whole _) gsM (Memref.isWhole_whole _) exM (Memref.isWhole_whole _) loM (Memref.isWhole_whole _)
    hiM (Memref.isWhole_whole _) xM (Memref.isWhole_whole _) cdM (Memref.isWhole_whole _) scM (Memref.isWhole_whole _)
    wsM (Memref.isWhole_whole _) rgM (Memref.isWhole_whole _) yM (Memref.isWhole_whole _)
    cc0_scratch10 cc0_scratch11 cc0_scratch12 cc0_scratch13 cc0_scratch14)
      (fun _ => iprop(Args c gw xv wv sv
        ∗ (∃ fo : S512x6144.Idx → Elt F .bf16, ⌜∀ h, OutGood Good h fo⌝ ∗ (yH.view.loc (c : Thread nD τ) ↦{fullShare} (fo : Buf (Elt F) _)))
        ∗ Buffers (F := F) c ∗ Sems0 (F := F) c ∗ ∃ W', owes (c : Thread nD τ) 0 W')) := by
  have hna := active_le g
  have hpos := active_pos hs
  have h5 : k0_chk5 (W (active g)) := chk5 hpos hna
  rw [cc0_grouped_fp8_eq_skeleton]
  unfold cc0_grouped_fp8_skel
  simp only [k0_part4_eq_skeleton]
  unfold k0_part4_skel
  simp only [Prog.lift, Prog.bind_assoc, Prog.bind_op, Prog.bind_ret, Prog.pure_eq_ret]
  unfold Args Buffers Sems0
  iintro ⟨⟨Hg, Hx, Hw, Hs⟩, ⟨%fo, Hy⟩, ⟨⟨%b0, B0⟩, ⟨%b1, B1⟩, ⟨%b2, B2⟩, ⟨%b3, B3⟩, ⟨%b4, B4⟩, ⟨%b5, B5⟩, ⟨%b6, B6⟩, ⟨%b7, B7⟩, ⟨%b8, B8⟩, ⟨%b9, B9⟩⟩, ⟨S0, S1, S2, SW, SY⟩, HO⟩
  have eb0 : gsM.view.write (Elt F) b0 (ReadAs.same.apply (gsH.view.read (Elt F) gw)) Finset.univ = gw := View.write_whole_univ _ _ _
  have eb4 : xM.view.write (Elt F) b4 (ReadAs.same.apply (xH.view.read (Elt F) xv)) Finset.univ = xv := View.write_whole_univ _ _ _
  have eb7 : wsM.view.write (Elt F) b7 (ReadAs.same.apply (sH.view.read (Elt F) sv)) Finset.univ = sv := View.write_whole_univ _ _ _
  iapply (wp_dmaLocal (countersEmb (U := Pipeline.UD sig nD τ)) 𝒱₀ (c : Thread nD τ) none (src := gsH) (dst := gsM) (Sd := Finset.univ) ()
    gsM.view.dmaCredit rfl (View.dmaCredit_pos _ (by decide)) (Finset.subset_univ _)) $$ [Hg B0 S0]
  · isplitl [Hg]
    · rw [View.set_whole]; iexact Hg
    isplitl [B0]
    · iexact B0
    iexact S0
  iintro HF0
  iapply (wp_dmaLocal (countersEmb (U := Pipeline.UD sig nD τ)) 𝒱₀ (c : Thread nD τ) none (src := xH) (dst := xM) (Sd := Finset.univ) ()
    xM.view.dmaCredit rfl (View.dmaCredit_pos _ (by decide)) (Finset.subset_univ _)) $$ [Hx B4 S1]
  · isplitl [Hx]
    · rw [View.set_whole]; iexact Hx
    isplitl [B4]
    · iexact B4
    iexact S1
  iintro HF1
  iapply (wp_dmaLocal (countersEmb (U := Pipeline.UD sig nD τ)) 𝒱₀ (c : Thread nD τ) none (src := sH) (dst := wsM) (Sd := Finset.univ) ()
    wsM.view.dmaCredit rfl (View.dmaCredit_pos _ (by decide)) (Finset.subset_univ _)) $$ [Hs B7 S2]
  · isplitl [Hs]
    · rw [View.set_whole]; iexact Hs
    isplitl [B7]
    · iexact B7
    iexact S2
  iintro HF2
  iapply (wp_waitLocal (countersEmb (U := Pipeline.UD sig nD τ)) 𝒱₀ (c : Thread nD τ) none (dstw := gsM) () rfl) $$ [HF0 HO]
  · isplitl [HF0]; · iexact HF0
    iexact HO
  iintro ⟨⟨B0, Hg⟩, S0, HO⟩
  iapply (wp_loop c 𝒱₀ _ _ _ _ (I1 (F := F) c g gw) (fun k acc => t1_step c 𝒱₀ hgw hg k acc)) $$ [B0 B1 B2 B3]
  · unfold I1
    isplitl [B0]
    · rw [eb0]; iexact B0
    iexists b1, b2, b3
    isplitr; swap; · isplitl [B1]; · iexact B1
                     isplitl [B2]; · iexact B2
                     iexact B3
    ipureintro
    exact ⟨rfl, fun i k h => absurd h (Nat.not_lt_zero _)⟩
  iintro %acc H
  unfold I1
  icases H with ⟨B0, %fe, %fl, %fh, %hacc, B1, B2, B3⟩
  rw [trips1] at hacc
  obtain ⟨rfl, hT⟩ := hacc
  dsimp only
  iapply (wp_assume 𝒱₀ (c : Thread nD τ) none Set.univ h5)
  ihave HR := (ring_make c g wv 0 b8) $$ [SW B8 Hw]
  · isplitl [SW]; · iexact SW
    isplitl [B8]; · iexact B8
    iexact Hw
  icases HR with ⟨HR, Hw⟩
  iapply (wp_loop c 𝒱₀ _ _ _ _ (I2 (F := F) c g wv fe) (fun k acc => t2_step c 𝒱₀ hs wv hT k acc)) $$ [B1 HR]
  · unfold I2
    isplitr; swap; · isplitl [B1]; · iexact B1
                     iexact HR
    ipureintro
    simp
  iintro %acc H
  unfold I2
  icases H with ⟨%hacc, B1, HR⟩
  subst hacc
  dsimp only
  iapply (wp_waitLocal (countersEmb (U := Pipeline.UD sig nD τ)) 𝒱₀ (c : Thread nD τ) none (dstw := xM) () rfl) $$ [HF1 HO]
  · isplitl [HF1]; · iexact HF1
    iexact HO
  iintro ⟨⟨B4, Hx⟩, S1, HO⟩
  iapply (wp_loop c 𝒱₀ _ _ _ _ (I3 (F := F) c xv) (fun k acc => t3_step c 𝒱₀ xv k acc)) $$ [B4 B5 B6]
  · unfold I3
    isplitl [B4]
    · rw [eb4]; iexact B4
    iexists b5, b6
    isplitr; swap; · isplitl [B5]; · iexact B5
                     iexact B6
    ipureintro
    exact ⟨fun x h => absurd h (Nat.not_lt_zero _), fun x h => absurd h (Nat.not_lt_zero _)⟩
  iintro %acc H
  unfold I3
  icases H with ⟨B4, %fc, %fs, %hq, B5, B6⟩
  rw [trips3] at hq
  have hc : fc = codes xv := funext fun x => hq.1 x (x 0).isLt
  have hsc : fs = scales xv := funext fun x => hq.2 x (x 0).isLt
  subst hc hsc
  iapply (wp_waitLocal (countersEmb (U := Pipeline.UD sig nD τ)) 𝒱₀ (c : Thread nD τ) none (dstw := wsM) () rfl) $$ [HF2 HO]
  · isplitl [HF2]; · iexact HF2
    iexact HO
  iintro ⟨⟨B7, Hs⟩, S2, HO⟩
  ihave HH := (halves_make c Good hs b9 fo) $$ [SY B9 Hy]
  · isplitl [SY]; · iexact SY
    isplitl [B9]; · iexact B9
    iexact Hy
  iapply (wp_loop c 𝒱₀ _ _ _ _ (I4 (F := F) c Good g fe fl fh xv wv sv) (fun t acc => t4_step c 𝒱₀ hs hT hG h5 _ t acc)) $$ [B1 B2 B3 B5 B6 B7 HR HH HO]
  · unfold I4
    isplitr; swap
    · isplitl [B1]; · iexact B1
      isplitl [B2]; · iexact B2
      isplitl [B3]; · iexact B3
      isplitl [B5]; · iexact B5
      isplitl [B6]; · iexact B6
      isplitl [B7]
      · rw [eb7]; iexact B7
      isplitl [HR]
      · rw [trips2]; iexact HR
      isplitl [HH]; · iexact HH
      iexists _; iexact HO
    ipureintro
    rw [trips2, Nat.zero_mod, Nat.zero_div]
  iintro %acc H
  unfold I4
  rw [trips4 hna, halves_sent c Good hs, Nat.min_eq_right (Nat.le_add_right _ _)]
  icases H with ⟨%hacc, B1, B2, B3, B5, B6, B7, HR, ⟨H0, H1⟩, %W4, HO⟩
  subst hacc
  dsimp only
  iapply (wp_loop c 𝒱₀ _ _ _ _ (fun _ _ => iprop(∃ Wt, owes (c : Thread nD τ) 0 Wt))
    (fun b _ => absurd (b.isLt.trans_eq (trips7 hna)) (Nat.not_lt_zero _))) $$ [HO]
  · iexists _; iexact HO
  iintro %acc ⟨%W7, HO⟩
  iapply (wp_collect c (𝒱₀ := 𝒱₀) (Good := Good) 0 rfl rfl) $$ [H0 HO]
  · isplitl [H0]; · iexact H0
    iexact HO
  iintro ⟨H0, Y0, %W8, HO⟩
  iapply (wp_collect c (𝒱₀ := 𝒱₀) (Good := Good) 1 rfl rfl) $$ [H1 HO]
  · isplitl [H1]; · iexact H1
    iexact HO
  iintro ⟨H1, Y1, %W9, HO⟩
  rw [wp_ret]; imodintro
  ihave Hd := (halves_back c Good) $$ [H0 H1]
  · isplitl [H0]; · iexact H0
    iexact H1
  icases Hd with ⟨Hy, %b9', B9⟩
  ihave Hr := (ring_back c g wv (2 * active g)) $$ [HR Hw]
  · isplitl [HR]; · iexact HR
    iexact Hw
  icases Hr with ⟨SW, ⟨%b8', B8⟩, Hw⟩
  isplitl [Hg Hx Hw Hs]
  · isplitl [Hg]; · rw [View.set_whole]; iexact Hg
    isplitl [Hx]; · rw [View.set_whole]; iexact Hx
    isplitl [Hw]; · iexact Hw
    rw [View.set_whole]; iexact Hs
  isplitl [Hy]; · iexact Hy
  isplitl [B0 B1 B2 B3 B4 B5 B6 B7 B8 B9]
  · isplitl [B0]; · iexists _; iexact B0
    isplitl [B1]; · iexists _; iexact B1
    isplitl [B2]; · iexists _; iexact B2
    isplitl [B3]; · iexists _; iexact B3
    isplitl [B4]; · iexists _; iexact B4
    isplitl [B5]; · iexists _; iexact B5
    isplitl [B6]; · iexists _; iexact B6
    isplitl [B7]; · iexists _; iexact B7
    isplitl [B8]; · iexists _; iexact B8
    iexists _; iexact B9
  isplitl [S0 S1 S2 SW Y0 Y1]
  · isplitl [S0]; · iexact S0
    isplitl [S1]; · iexact S1
    isplitl [S2]; · iexact S2
    isplitl [SW]; · iexact SW
    unfold ySems
    rw [family_two]
    isplitl [Y0]; · iexact Y0
    iexact Y1
  iexists _; iexact HO

end Cert.Kernel.Hand
-- ==== Proof.Launch.lean ====
module

public import proofs.«01_k».proof.Proof.Body
public import proofs.«01_k».proof.Proof.Gen.Kernel.Launch
public import proofs.«01_k».proof.Proof.Gen.Kernel.Points
public import Idealize.ShloMosaic.Lib.Pipeline.FrameBody
public import Idealize.ShloMosaic.Lib.Pipeline.FrameValue
/-!
From the body's run to the program's: started on a memory whose group sizes share out the rows, the program ends, its arguments
unchanged and every semaphore at zero (`frame_run`).
-/
@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- `g` are the sixteen sizes that `gw` holds, and they share out the 512 rows. -/
structure Shares (g : ℕ → ℕ) (gw : Words16) : Prop where
  word : ∀ i : Fin 16, gw (ix1 i) = W (g i)
  le : ∀ i, i < 16 → g i ≤ 512
  sum : pre g 16 = 512

/-! ## The parts of the invariant -/

/-- The buffers read. -/
def H0 : Finset (Ref sig .tc) := {main_arg0, main_arg1, main_arg2, main_arg3}
theorem H0_sub : H0 ⊆ Pipeline.restRefs sig (cfg0.spec) := by decide
/-- The buffer written: the result. -/
def R0 : Finset (Ref sig .tc) := {main_v0}
theorem R0_sub : R0 ⊆ Pipeline.restRefs sig (cfg0.spec) \ H0 := by decide

/-- The kernel's semaphores. -/
abbrev osem0 : Fin 11 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10] : Fin 11 → SemLoc sig) j
theorem ownSemFacts0 : Pipeline.OwnSemFacts (cfg0.spec) osem0 := by decide

theorem star_assoc (P Q R : sProp 𝕄) : iprop((P ∗ Q) ∗ R) = iprop(P ∗ Q ∗ R) :=
  Idealize.SL.BI.Entails.antisymm Idealize.SL.BI.sep_assoc Idealize.SL.BI.sep_assoc'

theorem ownSems00_eq (c : Dev nD) :
    (Pipeline.ownSems0 (Ix := Unit) (Name := ℕ) (U := Pipeline.UD sig nD τ) (Lvl := ℕ) (Val := Elt F) (τ := τ) osem0 c : sProp 𝕄) = Sems0 c := by
  rw [Pipeline.ownSems0_eq_of_list c osem0 [0, 1, 2, 3, 4, 5, 6, 7, 8, 9, 10] (by decide) (by decide)]
  unfold Sems0 wSems ySems
  rw [family_two, bigSep_univ_eq_bigSepL [0, 1, 2, 3, 4, 5] (by decide) (by decide)]
  have e : ∀ A B C D E G R : sProp 𝕄, iprop((A ∗ B ∗ C ∗ D ∗ E ∗ G) ∗ R) = iprop(A ∗ B ∗ C ∗ D ∗ E ∗ G ∗ R) := fun A B C D E G R => by
    rw [star_assoc, star_assoc, star_assoc, star_assoc, star_assoc]
  exact (congrArg (fun T : sProp 𝕄 => iprop(semVal ((c : Thread nD τ), SemLoc.dma cc0_scratch10.sem) 0 ∗ semVal ((c : Thread nD τ), SemLoc.dma cc0_scratch11.sem) 0
    ∗ semVal ((c : Thread nD τ), SemLoc.dma cc0_scratch12.sem) 0 ∗ T)) (e _ _ _ _ _ _ _)).symm

/-- The arguments as they were at the start. -/
abbrev ArgsAt (c : Dev nD) : sProp 𝕄 := Args c (V m c main_arg1) (V m c main_arg0) (V m c main_arg2) (V m c main_arg3)

theorem hbm_of (c : Dev nD) : (bigSep H0 (fun b => ((c : Thread nD τ).loc b) ↦{fullShare} V m c b) : sProp 𝕄) ⊢ ArgsAt m c := by
  rw [BI.bigSep_eq_bigSepL_of_eq [main_arg0, main_arg1, main_arg2, main_arg3] (by decide) (by decide)]
  show iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)) ⊢ _
  unfold ArgsAt Args
  iintro ⟨A, B, C, D⟩
  isplitl [B]; · iexact B
  isplitl [A]; · iexact A
  isplitl [C]; · iexact C
  iexact D

theorem hbm_to (c : Dev nD) : ArgsAt m c ⊢ (bigSep H0 (fun b => ((c : Thread nD τ).loc b) ↦{fullShare} V m c b) : sProp 𝕄) := by
  rw [BI.bigSep_eq_bigSepL_of_eq [main_arg0, main_arg1, main_arg2, main_arg3] (by decide) (by decide)]
  show _ ⊢ iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3))
  unfold ArgsAt Args
  iintro ⟨B, A, C, D⟩
  isplitl [A]; · iexact A
  isplitl [B]; · iexact B
  isplitl [C]; · iexact C
  iexact D

theorem scoped_of (c : Dev nD) :
    (Pipeline.scopedRest (Ix := Unit) (Name := ℕ) (U := Pipeline.UD sig nD τ) (Lvl := ℕ) (Val := Elt F) (cfg0.spec) c : sProp 𝕄) ⊢ Buffers c := by
  rw [scopedRest0_eq]
  unfold Buffers
  iintro ⟨B4, B5, B6, B7, B8, B9, B0, B1, B2, B3⟩
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  iexact B9

theorem scoped_to (c : Dev nD) :
    Buffers c ⊢ (Pipeline.scopedRest (Ix := Unit) (Name := ℕ) (U := Pipeline.UD sig nD τ) (Lvl := ℕ) (Val := Elt F) (cfg0.spec) c : sProp 𝕄) := by
  rw [scopedRest0_eq]
  unfold Buffers
  iintro ⟨B0, B1, B2, B3, B4, B5, B6, B7, B8, B9⟩
  isplitl [B4]; · iexact B4
  isplitl [B5]; · iexact B5
  isplitl [B6]; · iexact B6
  isplitl [B7]; · iexact B7
  isplitl [B8]; · iexact B8
  isplitl [B9]; · iexact B9
  isplitl [B0]; · iexact B0
  isplitl [B1]; · iexact B1
  isplitl [B2]; · iexact B2
  iexact B3

/-- The result, each of its entries good. -/
abbrev Result (Good : Prop3 F) (c : Dev nD) : sProp 𝕄 :=
  iprop(∃ fo : S512x6144.Idx → Elt F .bf16, ⌜∀ h, OutGood Good h fo⌝ ∗ (yH.view.loc (c : Thread nD τ) ↦{fullShare} (fo : Buf (Elt F) _)))

/-- `body_run` over the invariant: the parts it reads it gives back, and the result is good. -/
theorem body_kept {Good : Prop3 F} (c : Dev nD) {g : ℕ → ℕ} (hg : Shares g (V m c main_arg1))
    (hG : Sound Good g (V m c main_arg0) (V m c main_arg2) (V m c main_arg3)) (t : Fin cfg0.N) (W₀ : Waits sig Unit) :
    iprop(Pipeline.ΦD osem0 (cfg0.spec) H0 (V m) c ∗ (∃ f, ((c : Thread nD τ).loc main_v0) ↦{fullShare} f) ∗ owes (c : Thread nD τ) 0 W₀)
    ⊢ wp frame (wpE (defs₀ (F := F)) Variants.none (c : Thread nD τ) none) Set.univ (bodyAt0 t)
      (fun _ => iprop(Pipeline.ΦD osem0 (cfg0.spec) H0 (V m) c ∗ Result Good c ∗ ∃ W', owes (c : Thread nD τ) 0 W')) := by
  rw [Pipeline.ΦD_eq, ownSems00_eq]
  iintro ⟨⟨HB, Hp, HS, HA⟩, HY, HO⟩
  ihave HB' := (scoped_of c) $$ HB
  ihave HA' := (hbm_of m c) $$ HA
  iapply (wp_wand_r Idealize.ShloMosaic.frame (wpE (defs₀ (F := F)) Variants.none (c : Thread nD τ) none) Set.univ)
  isplitl [HB' HA' HS HY HO]
  · iapply (body_run c Variants.none hg.sum hg.le hg.word hG W₀)
    isplitl [HA']; · iexact HA'
    isplitl [HY]; · iexact HY
    isplitl [HB']; · iexact HB'
    isplitl [HS]; · iexact HS
    iexact HO
  iintro %u ⟨HA, HY, HB, HS, HO⟩
  ihave HB' := (scoped_to c) $$ HB
  ihave HA' := (hbm_to m c) $$ HA
  isplitl [HB' Hp HS HA']
  · isplitl [HB']; · iexact HB'
    isplitl [Hp]; · iexact Hp
    isplitl [HS]; · iexact HS
    iexact HA'
  isplitl [HY]; · iexact HY
  iexact HO

theorem defs₀_row (t : Fin cfg0.N) : defs₀ (F := F) .tc cfg0.body (cfg0.bodyArgs t (cfg0.slots t)) = bodyAt0 t := by
  unfold defs₀; rw [Defs.onTc_tc]

/-! ## The frame -/

/-- The frame's data: the invariant at every point, the result at some contents. -/
def dats (_ : Fin 1) (c : Dev nD) : Dat τ (Elt F) Unit ℕ (Pipeline.UD sig nD τ) ℕ cfg0 c where
  A w := V m c (Pipeline.arrRef (cfg0.spec) w)
  after w t := (w : Fin 0).elim0
  Φ _ := Pipeline.ΦDR osem0 (cfg0.spec) H0 R0 (V m) c
  q _ := fullShare
  owed _ := 0

theorem A_eq (c : Dev nD) (w : Fin cfg0.W) : (dats m 0 c).A w = V m c (Pipeline.arrRef (cfg0.spec) w) := (w : Fin 0).elim0

theorem owned_eq (c : Dev nD) : (Pipeline.owned R0 c : sProp 𝕄) = iprop(∃ f, ((c : Thread nD τ).loc main_v0) ↦{fullShare} f) := by
  unfold Pipeline.owned; rw [BI.bigSep_eq_bigSepL_of_eq [main_v0] (by decide) (by decide)]; rfl

theorem sound_frame (c : Dev nD) (hm : ∃ g, Shares g (V m c main_arg1)) (t : Fin cfg0.N) :
    iprop((dats m 0 c).Φ t.castSucc ∗ (dats m 0 c).owesAt () t.castSucc ∗ emp)
    ⊢ wp frame (wpE (defs₀ (F := F)) Variants.none (c : Thread nD τ) none) Set.univ (bodyAt0 t)
      (fun _ => iprop((dats m 0 c).Φ t.succ ∗ (dats m 0 c).owesAt () t.succ ∗ emp)) := by
  obtain ⟨g, hg⟩ := hm
  have hPhi : ∀ s, (dats m 0 c).Φ s = iprop(Pipeline.ΦD osem0 (cfg0.spec) H0 (V m) c ∗ Pipeline.owned R0 c) := fun _ => rfl
  rw [hPhi, hPhi, owned_eq]
  unfold Dat.owesAt Pipeline.owesWithin
  rw [show (dats m 0 c).owed t.castSucc = 0 from rfl, show (dats m 0 c).owed t.succ = 0 from rfl]
  iintro ⟨⟨HP, HY⟩, ⟨%W₀, -, HO⟩, -⟩
  iapply (wp_wand_r Idealize.ShloMosaic.frame (wpE (defs₀ (F := F)) Variants.none (c : Thread nD τ) none) Set.univ)
  isplitl [HP HY HO]
  · iapply (body_kept (Good := fun _ _ _ => True) m c hg (fun _ _ _ _ _ _ _ _ => trivial) t W₀)
    isplitl [HP]; · iexact HP
    isplitl [HY]; · iexact HY
    iexact HO
  iintro %u ⟨HP, ⟨%fo, -, HY⟩, %W', HO⟩
  isplitl [HP HY]
  · isplitl [HP]; · iexact HP
    iexists _; iexact HY
  isplitl [HO]
  · iexists W'; isplitr; · ipureintro; exact fun _ _ => Or.inl trivial
    iexact HO
  iempintro

theorem frame_obligation (c : Dev nD) (hm : ∃ g, Shares g (V m c main_arg1)) :
    BodyObligation (dats (F := F) m 0 c) (defs₀ (F := F)) Variants.none () Set.univ := fun t => by
  rw [show (Finset.univ : Finset (Fin cfg0.W)) = ∅ from rfl, BI.bigSep_empty, BI.bigSep_empty, defs₀_row]
  exact triple_restated (sound_frame m c hm t) rfl .rfl fun _ => .rfl

set_option backward.isDefEq.respectTransparency.types false in
theorem run_frame (hm : ∀ c, ∃ g, Shares g (V m c main_arg1)) :
    θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (frame_obligation m c (hm c)).loose) (hshare := fun c => (dats m 0 c).share_full fun _ => rfl)
    (howed := fun _ _ => rfl) (V := V m) (hmain := hmain m Variants.none) (hA := A_eq m)
    (hin := fun _ => .rfl) (hout := fun _ => .rfl)

/-- The four arguments are what they were at the start. -/
abbrev ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem args_kept {dats' : (p : Fin 1) → (c : Dev nD) → Dat τ (Elt F) Unit ℕ (Pipeline.UD sig nD τ) ℕ (cfgs p) c}
    {r : PUnit × MemSt nD τ sig (Elt F)} (h : Pipeline.FramePostR cfgs dats' 0 R0 (V m) r) (c : Dev nD) : ArgsKept m r c :=
  ⟨((h c).2 main_arg0 (Finset.mem_sdiff.mpr ⟨Pipeline.mem_restRefs_of main_arg0 (by decide) (by decide), by decide⟩)),
    ((h c).2 main_arg1 (Finset.mem_sdiff.mpr ⟨Pipeline.mem_restRefs_of main_arg1 (by decide) (by decide), by decide⟩)),
    ((h c).2 main_arg2 (Finset.mem_sdiff.mpr ⟨Pipeline.mem_restRefs_of main_arg2 (by decide) (by decide), by decide⟩)),
    ((h c).2 main_arg3 (Finset.mem_sdiff.mpr ⟨Pipeline.mem_restRefs_of main_arg3 (by decide) (by decide), by decide⟩))⟩

/-- The program ends, its arguments unchanged and every semaphore at zero. -/
theorem frame_run (hm : ∀ c, ∃ g, Shares g (V m c main_arg1)) :
    θ_run defs (onTc (τ := τ) (main (F := F))) ⟨m, fun _ => 0, ρ⟩ (fun r => (∀ c : Dev nD, ArgsKept m r c) ∧ r.2.sem = fun _ => 0) :=
  (θ_run defs _ _).mono (fun _ h => ⟨fun c => args_kept m h.1 c, h.2⟩) (run_frame m ρ hm)

end Cert.Kernel.Hand
-- ==== Proof.Sizes.lean ====
/-
What the precondition on the group sizes says: the sixteen words are the words of sixteen numbers, at most 512 each, of sum 512.
-/
module

public import proofs.«01_k».proof.Proof.Launch
public import proofs.«01_k».proof.Proof.Gen.Pre_rows_of_groups
public import Idealize.ShloMosaic.Lib.ReduceAll
public import Idealize.ShloMosaic.Lib.WordCmp

@[expose] public section

noncomputable section

namespace Cert.Kernel.Hand

open Cert.Kernel Cert.Kernel.Gen
open Idealize.ShloMosaic
open Idealize.ShloMosaic.ValueIdx Idealize.ShloMosaic.WordCmp

variable {F : FTy → Type} [FloatOps F]

abbrev Idx0 : Shape.Idx (⟨0, ![]⟩ : Shape) := fun a => a.elim0

instance : Subsingleton (Shape.Idx (⟨0, ![]⟩ : Shape)) := ⟨fun a b => funext fun i => i.elim0⟩

theorem andi_one {a b : BitVec 1} (h : IntOp.andi a b = 1#1) : a = 1#1 ∧ b = 1#1 := by
  revert a b; decide

/-- The sum of sixteen words, added one after another. -/
theorem reduce_words (x : Words16) (h : S16.ReducesTo [0] (⟨0, ![]⟩ : Shape)) (hu : 0 < (⟨0, ![]⟩ : Shape).numel) :
    Host.reduce IntOp.addi x (constantI (⟨0, ![]⟩ : Shape) 32 0#32) h hu Idx0 = (List.finRange 16).foldl (fun r i => r + x (ix1 i)) 0#32 := by
  rw [Host.reduce_eq_foldl]
  have e : ((List.finRange S16.numel).map S16.rowMajor.symm).filter (fun i => h.drop i = Idx0) = (List.finRange 16).map (fun i : Fin 16 => (ix1 i : S16.Idx)) := by
    rw [List.filter_eq_self.mpr fun i _ => decide_eq_true (Subsingleton.elim _ _)]
    decide +kernel
  rw [e, List.foldl_map]
  rfl

/-- The sizes, read off the words. -/
def sizes (gw : Words16) (i : ℕ) : ℕ := if h : i < 16 then (gw (ix1 ⟨i, h⟩)).toNat else 0

theorem sizes_val (gw : Words16) (i : Fin 16) : sizes gw i = (gw (ix1 i)).toNat := dif_pos i.isLt

theorem W_sizes (gw : Words16) (i : Fin 16) : W (sizes gw i) = gw (ix1 i) := by
  rw [sizes_val]; simp

theorem sum_words (gw : Words16) : (List.finRange 16).foldl (fun r i => r + gw (ix1 i)) 0#32 = W (pre (sizes gw) 16) := by
  have e : ∀ a b : ℕ, W (a + b) = W a + W b := fun a b => BitVec.ofNat_add a b
  have hl : List.finRange 16 = [0, 1, 2, 3, 4, 5, 6, 7, 8, 9, 10, 11, 12, 13, 14, 15] := by decide
  rw [hl]
  simp only [pre, e, List.foldl_cons, List.foldl_nil]
  simp only [← W_sizes]
  rfl

theorem small_of {x : BitVec 32} (h0 : IntOp.cmpi .sge x 0#32 = 1#1) (h1 : IntOp.cmpi .sle x 512#32 = 1#1) : x.toNat ≤ 512 := by
  rw [cmpi_sge_zero, ofBool_decide_eq_one_iff] at h0
  rw [cmpi_sle_of_lt h0 (by decide), ofBool_decide_eq_one_iff] at h1
  exact h1

theorem pre_le_512 {g : ℕ → ℕ} (hg : ∀ i, i < 16 → g i ≤ 512) : ∀ n, n ≤ 16 → pre g n ≤ 512 * n
  | 0, _ => Nat.le_refl 0
  | n + 1, h => by
    have := pre_le_512 hg n (by omega)
    have := hg n (by omega)
    show pre g n + g n ≤ _
    omega

/-- The precondition `rows_of_groups`, read as numbers. -/
theorem shares_of {x : S512x2048.Idx → F .bf16} {gw : Words16} {w : S16x2048x6144.Idx → F .fp8e4m3} {s : S16x1x6144.Idx → F .f32}
    (h : Cert.Pre_rows_of_groups.fn (F := F) x gw w s = fun _ => 1#1) : Shares (sizes gw) gw := by
  have h := congrFun h Idx0
  unfold Cert.Pre_rows_of_groups.fn at h
  obtain ⟨h01, h2⟩ := andi_one h
  obtain ⟨h0, h1⟩ := andi_one h01
  have hs : ∀ i : Fin 16, (gw (ix1 i)).toNat ≤ 512 := fun i =>
    small_of (Host.reduce_andi_all _ _ _ _ _ h0 (ix1 i)) (Host.reduce_andi_all _ _ _ _ _ h1 (ix1 i))
  have hle : ∀ i, i < 16 → sizes gw i ≤ 512 := fun i hi => by rw [sizes, dif_pos hi]; exact hs ⟨i, hi⟩
  refine ⟨fun i => (W_sizes gw i).symm, hle, ?_⟩
  have h2' : IntOp.cmpi .eq (W (pre (sizes gw) 16)) 512#32 = 1#1 := by
    rw [← sum_words, ← reduce_words gw Cert.Pre_rows_of_groups.Gen.reducesTo_S16_S_d0 Cert.Pre_rows_of_groups.Gen.h_S_]; exact h2
  have hp := pre_le_512 hle 16 (Nat.le_refl _)
  rw [show (512#32 : BitVec 32) = BitVec.ofNat 32 512 from rfl, show W (pre (sizes gw) 16) = BitVec.ofNat 32 (pre (sizes gw) 16) from rfl,
    cmpi_eq_eq, ofBool_decide_eq_one_iff, ofNat_eq_ofNat_iff (by omega) (by omega)] at h2'
  exact h2'

end Cert.Kernel.Hand
-- ==== Proof.Exact.lean ====
/-
The quantiser at exact arithmetic. A row is divided by a power of two `2 ^ e` and later multiplied by it again; between the two the
clip at ±448 does nothing, because `2 ^ e` is above the row's largest magnitude over 448. So a sum of products of quantised values
with anything, times the scale, is the sum of the products of the values themselves.
-/
module

public import Idealize.ShloMosaic.PureOps.Ideal.Laws
public import Mathlib.Tactic.Linarith
public import Mathlib.Data.EReal.Operations

@[expose] public section

noncomputable section

namespace Cert.Kernel.Hand

open Idealize.ShloMosaic

/-! ## Powers of two -/

/-- The extended real `2 ^ e`. -/
def two (e : ℤ) : EReal := (((2 : ℝ) ^ e : ℝ) : EReal)

/-- `2 ^ e` is positive. -/
theorem two_pos (e : ℤ) : 0 < two e := by
  unfold two; exact_mod_cast zpow_pos (by norm_num : (0 : ℝ) < 2) e

/-- `2 ^ e` is not infinite. -/
theorem two_ne_top (e : ℤ) : two e ≠ ⊤ := EReal.coe_ne_top _

/-- `2 ^ (-e) * 2 ^ e = 1`. -/
theorem two_neg_mul (e : ℤ) : two (-e) * two e = 1 := by
  unfold two
  rw [← EReal.coe_mul, ← zpow_add₀ (by norm_num : (2 : ℝ) ≠ 0), neg_add_cancel, zpow_zero, EReal.coe_one]

/-- Powers of two grow with the exponent. -/
theorem two_mono {a b : ℤ} (h : a ≤ b) : two a ≤ two b := by
  unfold two
  exact_mod_cast zpow_le_zpow_right₀ (by norm_num : (1 : ℝ) ≤ 2) h

/-- The word `n · 2 ^ 23`, with `n` between 1 and 254, is the number `2 ^ (n - 127)`. -/
theorem word_two (n : ℕ) (h1 : 1 ≤ n) (h2 : n ≤ 254) :
    Ideal.ofBits .f32 (BitVec.ofNat 32 (n * 2 ^ 23)) = two ((n : ℤ) - 127) := by
  have hx : ((BitVec.ofNat 32 (n * 2 ^ 23)).extractLsb' 23 8).toNat = n := by
    rw [BitVec.extractLsb'_toNat, BitVec.toNat_ofNat, Nat.shiftRight_eq_div_pow]; omega
  have hf : ((BitVec.ofNat 32 (n * 2 ^ 23)).extractLsb' 0 23).toNat = 0 := by
    rw [BitVec.extractLsb'_toNat, BitVec.toNat_ofNat, Nat.shiftRight_eq_div_pow]; omega
  have hs : (BitVec.ofNat 32 (n * 2 ^ 23)).extractLsb' 31 1 = 0#1 := by
    apply BitVec.eq_of_toNat_eq
    rw [BitVec.extractLsb'_toNat, BitVec.toNat_ofNat, Nat.shiftRight_eq_div_pow]
    simp; omega
  unfold Ideal.ofBits Ideal.ieee two
  simp only [hx, hf, hs]
  rw [if_neg (by omega), if_neg (by omega)]
  congr 1
  norm_num
  rw [show (8388608 : ℝ) = (2 : ℝ) ^ (23 : ℤ) by norm_num, ← zpow_add₀ (by norm_num : (2 : ℝ) ≠ 0)]
  congr 1
  ring

/-! ## A positive factor goes through a sum -/

/-- A finite positive factor goes through a sum of extended reals. -/
theorem sum_mul_two {ι : Type} (s : Finset ι) (f : ι → EReal) (e : ℤ) : (∑ k ∈ s, f k) * two e = ∑ k ∈ s, f k * two e := by
  classical
  induction s using Finset.induction_on with
  | empty => simp
  | insert a s ha ih =>
    rw [Finset.sum_insert ha, Finset.sum_insert ha, mul_comm,
      EReal.left_distrib_of_nonneg_of_ne_top (two_pos e).le (two_ne_top e), mul_comm (two e) (∑ k ∈ s, f k), ih, mul_comm (two e)]

/-- The quantised row `q` and its scale `s` say the row `x` exactly: `s` is a power of two and `q` is `x` over it. -/
def Exactly {ι : Type} (x q : ι → EReal) (s : EReal) : Prop := ∃ e : ℤ, s = two e ∧ ∀ k, q k = x k * two (-e)

/-- Quantised values that say the row exactly give, after the scale, the row's own sum of products. -/
theorem Exactly.sum {ι : Type} [Fintype ι] {x q : ι → EReal} {s : EReal} (h : Exactly x q s) (w : ι → EReal) :
    (∑ k, q k * w k) * s = ∑ k, x k * w k := by
  obtain ⟨e, rfl, hq⟩ := h
  rw [sum_mul_two]
  refine Finset.sum_congr rfl fun k _ => ?_
  rw [hq k, mul_assoc, mul_comm (w k), ← mul_assoc, mul_assoc (x k), two_neg_mul, mul_one]

/-! ## The clip does nothing -/

/-- The factor `0x3B124925`: 9586981 over `2 ^ 32`, just above `1 / 448`. -/
theorem factor_eq : Ideal.ofBits .f32 0x3B124925#32 = ((9586981 / 4294967296 : ℝ) : EReal) := by
  simp [Ideal.ofBits, Ideal.ieee]; norm_num
  exact_mod_cast (by norm_num)

/-- The word `0x43E00000` is 448. -/
theorem top_eq : Ideal.ofBits .f32 0x43E00000#32 = ((448 : ℝ) : EReal) := by
  simp [Ideal.ofBits, Ideal.ieee]; norm_num
  exact_mod_cast (by norm_num)

/-- The word `0xC3E00000` is -448. -/
theorem bot_eq : Ideal.ofBits .f32 0xC3E00000#32 = ((-448 : ℝ) : EReal) := by
  simp [Ideal.ofBits, Ideal.ieee]; norm_num
  exact_mod_cast (by norm_num)

/-- The word `0xFF800000` is -∞. -/
theorem ninf_eq : Ideal.ofBits .f32 0xFF800000#32 = ⊥ := by
  simp [Ideal.ofBits, Ideal.ieee]

/-- The word `0x7F800000` is ∞. -/
theorem inf_eq : Ideal.ofBits .f32 0x7F800000#32 = ⊤ := by
  simp [Ideal.ofBits, Ideal.ieee]

/-- The word `0x7F7F0000` is the largest finite bf16 number, `255 · 2 ^ 120`. -/
theorem largest_eq : Ideal.ofBits .f32 0x7F7F0000#32 = ((255 * 2 ^ 120 : ℝ) : EReal) := by
  simp [Ideal.ofBits, Ideal.ieee]; norm_num
  exact_mod_cast (by norm_num)

/-- A value whose magnitude is at most `A`, with `A` times the factor below `2 ^ e`, is not changed by the clip after it is divided by
    `2 ^ e`. -/
theorem clip_id {x A : EReal} {e : ℤ} (hx : max x (-x) ≤ A) (hA : A * Ideal.ofBits .f32 0x3B124925#32 < two e) :
    min (Ideal.ofBits .f32 0x43E00000#32) (max (Ideal.ofBits .f32 0xC3E00000#32) (x * two (-e))) = x * two (-e) := by
  rw [factor_eq] at hA
  rw [top_eq, bot_eq]
  have h1 : x ≤ A := le_trans (le_max_left _ _) hx
  have h2 : -x ≤ A := le_trans (le_max_right _ _) hx
  have hAt : A ≠ ⊤ := by
    rintro rfl
    rw [EReal.top_mul_coe_of_pos (by norm_num)] at hA
    exact absurd hA (by simp)
  have hxt : x ≠ ⊤ := fun h => hAt (top_le_iff.mp (h ▸ h1))
  have hxb : x ≠ ⊥ := fun h => by rw [h, EReal.neg_bot] at h2; exact hAt (top_le_iff.mp h2)
  have hAb : A ≠ ⊥ := fun h => hxb (le_bot_iff.mp (h ▸ h1))
  lift x to ℝ using ⟨hxt, hxb⟩
  lift A to ℝ using ⟨hAt, hAb⟩
  unfold two at *
  rw [← EReal.coe_mul] at *
  norm_cast at h1 h2 hA
  have hp : (0 : ℝ) < 2 ^ (-e) := zpow_pos (by norm_num) _
  have hpe : (2 : ℝ) ^ e * 2 ^ (-e) = 1 := by
    rw [← zpow_add₀ (by norm_num : (2 : ℝ) ≠ 0), add_neg_cancel, zpow_zero]
  have hb : A ≤ 448 * 2 ^ e := by
    have h0 : (0 : ℝ) < 2 ^ e := zpow_pos (by norm_num) _
    linarith
  have hu : x * 2 ^ (-e) ≤ 448 := by
    calc x * 2 ^ (-e) ≤ (448 * 2 ^ e) * 2 ^ (-e) := by apply mul_le_mul_of_nonneg_right _ hp.le; linarith
      _ = 448 := by rw [mul_assoc, hpe, mul_one]
  have hl : -448 ≤ x * 2 ^ (-e) := by
    calc (-448 : ℝ) = (-(448 * 2 ^ e)) * 2 ^ (-e) := by rw [neg_mul, mul_assoc, hpe, mul_one]
      _ ≤ x * 2 ^ (-e) := by apply mul_le_mul_of_nonneg_right _ hp.le; linarith
  rw [max_eq_right (by exact_mod_cast hl), min_eq_right (by exact_mod_cast hu)]

/-- A row whose largest magnitude is a finite bf16 number has that magnitude, times the factor, below `2 ^ 120`. -/
theorem factor_lt {A : EReal} (h : A ≤ Ideal.ofBits .f32 0x7F7F0000#32) : A * Ideal.ofBits .f32 0x3B124925#32 < two 120 := by
  rw [largest_eq] at h
  rw [factor_eq]
  have hp : (0 : EReal) ≤ ((9586981 / 4294967296 : ℝ) : EReal) := by exact_mod_cast (by norm_num : (0 : ℝ) ≤ 9586981 / 4294967296)
  refine lt_of_le_of_lt (mul_le_mul_of_nonneg_right h hp) ?_
  unfold two
  rw [← EReal.coe_mul]
  exact_mod_cast (by norm_num : (255 * 2 ^ 120 * (9586981 / 4294967296) : ℝ) < 2 ^ (120 : ℤ))

/-! ## The largest magnitude of a row -/

/-- The largest of a row's magnitudes, taken as a running maximum from -∞. -/
def amax {n : ℕ} (x : Fin n → EReal) : EReal := (Finset.univ : Finset (Fin n)).fold max ⊥ fun k => max (x k) (-x k)

/-- Each magnitude is at most the largest. -/
theorem le_amax {n : ℕ} (x : Fin n → EReal) (k : Fin n) : max (x k) (-x k) ≤ amax x :=
  (Finset.le_fold_max _).mpr (.inr ⟨k, Finset.mem_univ k, le_rfl⟩)

/-- A bound on every magnitude bounds the largest. -/
theorem amax_le {n : ℕ} {x : Fin n → EReal} {b : EReal} (h : ∀ k, max (x k) (-x k) ≤ b) : amax x ≤ b :=
  (Finset.fold_max_le _).mpr ⟨bot_le, fun k _ => h k⟩

/-- Dividing a row by `2 ^ e` and clipping says the row exactly, when the largest magnitude times the factor is below `2 ^ e`. -/
theorem exactly_of_lt {n : ℕ} {x q : Fin n → EReal} {s : EReal} {e : ℤ} (hs : s = two e)
    (hA : amax x * Ideal.ofBits .f32 0x3B124925#32 < two e)
    (hq : ∀ k, q k = min (Ideal.ofBits .f32 0x43E00000#32) (max (Ideal.ofBits .f32 0xC3E00000#32) (x k * two (-e)))) :
    Exactly x q s :=
  ⟨e, hs, fun k => (hq k).trans (clip_id (le_amax x k) hA)⟩

/-! ## The search for the exponent, one bit at a time -/

/-- One step of the search: the bit is kept when the number the word then denotes is at most `v`. -/
def keep (v : EReal) (b w : BitVec 32) : BitVec 32 := if Ideal.ofBits .f32 (w + b) ≤ v then w + b else w

/-- The number a word with exponent field `n` and nothing else denotes. -/
def thr (n : ℕ) : EReal := Ideal.ofBits .f32 (BitVec.ofNat 32 (n * 2 ^ 23))

/-- What the search knows with `2 ^ k` candidates left from `n` on. -/
def Left (v : EReal) (n k : ℕ) : Prop := n + 2 ^ k ≤ 256 ∧ (n = 0 ∨ thr n ≤ v) ∧ (n + 2 ^ k = 256 ∨ v < thr (n + 2 ^ k))

/-- A step halves the candidates. -/
theorem keep_left {v : EReal} {n : ℕ} (k : ℕ) (h : Left v n (k + 1)) :
    ∃ n', keep v (BitVec.ofNat 32 (2 ^ k * 2 ^ 23)) (BitVec.ofNat 32 (n * 2 ^ 23)) = BitVec.ofNat 32 (n' * 2 ^ 23) ∧ Left v n' k := by
  obtain ⟨h1, h2, h3⟩ := h
  have hw : BitVec.ofNat 32 (n * 2 ^ 23) + BitVec.ofNat 32 (2 ^ k * 2 ^ 23) = BitVec.ofNat 32 ((n + 2 ^ k) * 2 ^ 23) := by
    rw [Nat.add_mul, BitVec.ofNat_add]
  have hk : n + 2 ^ (k + 1) = n + 2 ^ k + 2 ^ k := by rw [pow_succ]; omega
  have hk0 : 0 < 2 ^ k := by positivity
  rw [hk] at h1 h3
  unfold keep
  rw [hw]
  by_cases h : thr (n + 2 ^ k) ≤ v
  · exact ⟨n + 2 ^ k, if_pos h, h1, .inr h, h3⟩
  · exact ⟨n, if_neg h, by omega, h2, .inr (not_le.mp h)⟩

/-- The word the search ends with. -/
def found (v : EReal) : BitVec 32 :=
  keep v 8388608#32 (keep v 16777216#32 (keep v 33554432#32 (keep v 67108864#32 (keep v 134217728#32 (keep v 268435456#32
    (keep v 536870912#32 (keep v 1073741824#32 0#32)))))))

/-- The search ends with an exponent field alone, and `v` is below the next one. -/
theorem found_eq {v : EReal} (hv : v < two 120) : ∃ n, n ≤ 246 ∧ found v = BitVec.ofNat 32 (n * 2 ^ 23) ∧ v < two ((n : ℤ) - 126) := by
  obtain ⟨n7, e7, l7⟩ := keep_left (v := v) (n := 0) 7 ⟨by norm_num, .inl rfl, .inl (by norm_num)⟩
  obtain ⟨n6, e6, l6⟩ := keep_left 6 l7
  obtain ⟨n5, e5, l5⟩ := keep_left 5 l6
  obtain ⟨n4, e4, l4⟩ := keep_left 4 l5
  obtain ⟨n3, e3, l3⟩ := keep_left 3 l4
  obtain ⟨n2, e2, l2⟩ := keep_left 2 l3
  obtain ⟨n1, e1, l1⟩ := keep_left 1 l2
  obtain ⟨n, e0, l0⟩ := keep_left 0 l1
  have hf : found v = BitVec.ofNat 32 (n * 2 ^ 23) := by
    rw [← e0, ← e1, ← e2, ← e3, ← e4, ← e5, ← e6, ← e7]; rfl
  obtain ⟨a, b, c⟩ := l0
  have hn : n ≤ 246 := by
    by_contra hc
    rcases b with b | b
    · omega
    · have : two 120 ≤ thr n := by
        by_cases h : n = 255
        · subst h
          have : thr 255 = ⊤ := inf_eq
          rw [this]; exact le_top
        · unfold thr; rw [word_two n (by omega) (by omega)]; exact two_mono (by omega)
      exact absurd (lt_of_lt_of_le hv (this.trans b)) (lt_irrefl _)
  refine ⟨n, hn, hf, ?_⟩
  rcases c with c | c
  · omega
  · unfold thr at c
    rw [word_two _ (by omega) (by omega)] at c
    refine lt_of_lt_of_le c (two_mono ?_)
    push_cast; omega

end Cert.Kernel.Hand

end
-- ==== Proof.Quantised.lean ====
/-
The kernel's quantiser at exact arithmetic: the codes and the scale it makes of a row of finite activations say the row exactly.
-/
module

public import proofs.«01_k».proof.Proof.Exact
public import proofs.«01_k».proof.Proof.Blocks
public import Idealize.ShloMosaic.Lib.ValueLayoutCasts
public import Idealize.ShloMosaic.Lib.ValueLayout

@[expose] public section

noncomputable section

namespace Cert.Kernel.Hand

open Cert.Kernel Cert.Kernel.Gen
open Idealize.ShloMosaic Idealize.ShloMosaic.ValueIdx

/-! ## Reading the operations at an index -/

/-- The running maximum of a row's magnitudes, as the reduction over the columns takes it. -/
theorem row_amax {n K : ℕ} (x : FVec Ideal ⟨2, ![n, K]⟩ .f32) (h : Shape.Reduces ⟨2, ![n, K]⟩ [1] ⟨1, ![n]⟩) (hφ : FKind.Formats .f32)
    (hacc : (0xFF800000#32 : BitVec 32) = FKind.maximumf.neutral .f32 hφ) (i : Fin n) :
    multiReduction .maximumf [1] ⟨1, ![n]⟩ (absf x) 0xFF800000#32 h hφ hacc (ix1 i) = amax fun k => x (ix2 i k) := by
  refine (Ideal.multiReduction_maximumf_single (absf x) _ h hφ hacc (ix1 i)).trans ?_
  rw [show FloatOps.ofBits (F := Ideal) .f32 0xFF800000#32 = ⊥ from ninf_eq]
  unfold amax
  have hl : ∀ k : Fin K, h.lift (ix1 i) k = ix2 i k := fun k => by
    funext a
    match a with
    | ⟨0, _⟩ => exact Fin.ext rfl
    | ⟨1, _⟩ => exact Fin.ext rfl
  refine congrArg (fun f => Finset.fold max ⊥ f (Finset.univ : Finset (Fin K))) ?_
  funext k
  exact congrArg (fun j => max (x j) (-x j)) (hl k)

/-- A column broadcast over a matrix reads the row's entry. -/
theorem bcast_col {α : Type} {a b : ℕ} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ => exact (if_neg ha).symm
  | ⟨1, _⟩ => rfl

/-- The word of the power of two the codes are made with: the bias less the exponent, in the exponent field. -/
def invWord (w : BitVec 32) : BitVec 32 := IntOp.shli .vector (IntOp.subi 127#32 w) 23#32
/-- The word of the scale: the bias and the exponent, in the exponent field. -/
def scaleWord (w : BitVec 32) : BitVec 32 := IntOp.shli .vector (IntOp.addi 127#32 w) 23#32
/-- The exponent the search's word stands for: its exponent field less 126, and 0 for the field 0. -/
def expWord (w : BitVec 32) : BitVec 32 :=
  Scalar.select (IntOp.cmpi .eq (IntOp.shrui .vector w 23#32) 0#32) 0#32 (IntOp.subi (IntOp.shrui .vector w 23#32) 126#32)

/-- The two words of an exponent field: two opposite powers of two. -/
theorem words_of {n : ℕ} (h : n ≤ 246) :
    ∃ a b, 1 ≤ a ∧ a ≤ 254 ∧ 1 ≤ b ∧ b ≤ 254 ∧ a + b = 254 ∧ n + 1 ≤ a
      ∧ scaleWord (expWord (BitVec.ofNat 32 (n * 2 ^ 23))) = BitVec.ofNat 32 (a * 2 ^ 23)
      ∧ invWord (expWord (BitVec.ofNat 32 (n * 2 ^ 23))) = BitVec.ofNat 32 (b * 2 ^ 23) := by
  have key : ∀ n : Fin 247,
      scaleWord (expWord (BitVec.ofNat 32 (n.val * 2 ^ 23))) = BitVec.ofNat 32 ((if n.val = 0 then 127 else n.val + 1) * 2 ^ 23)
      ∧ invWord (expWord (BitVec.ofNat 32 (n.val * 2 ^ 23))) = BitVec.ofNat 32 ((if n.val = 0 then 127 else 253 - n.val) * 2 ^ 23) := by
    decide +kernel
  obtain ⟨k1, k2⟩ := key ⟨n, by omega⟩
  refine ⟨_, _, ?_, ?_, ?_, ?_, ?_, ?_, k1, k2⟩ <;> dsimp only <;> split <;> omega

/-- The search and the two words it gives, for a value below `2 ^ 120`: a scale `2 ^ e` above the value, and its inverse. -/
theorem scale_of {v : EReal} (hv : v < two 120) :
    ∃ e : ℤ, Ideal.ofBits .f32 (scaleWord (expWord (found v))) = two e ∧ Ideal.ofBits .f32 (invWord (expWord (found v))) = two (-e)
      ∧ v < two e := by
  obtain ⟨n, hn, hf, hl⟩ := found_eq hv
  obtain ⟨a, b, a1, a2, b1, b2, hab, hna, hs, hi⟩ := words_of hn
  refine ⟨(a : ℤ) - 127, ?_, ?_, lt_of_lt_of_le hl (two_mono (by omega))⟩
  · rw [hf, hs, word_two a a1 a2]
  · rw [hf, hi, word_two b b1 b2]; congr 1; omega

/-! ## The kernel's codes and scales -/

/-- The quotient the search is made on: the row's largest magnitude times the factor. -/
theorem pay2_apply (v : Vec Ideal S64x2048 .bf16) (i : Fin 64) :
    k0_pay2 v (ix2 i (0 : Fin 1)) = amax (fun k => v (ix2 i k)) * Ideal.ofBits .f32 0x3B124925#32 := by
  show shapeCast S64x1 _ shapeCasts_S64_S64x1 (ix2 i (0 : Fin 1)) * _ = _
  rw [shapeCast_a_a1_apply]
  exact congrArg (· * Ideal.ofBits .f32 0x3B124925#32) (row_amax (k0_pay1 v) reduces_S64x2048_S64 (.inl rfl) rfl i)

/-- The search of the kernel, bit by bit, is the search for the row's quotient. -/
theorem pay5_apply (v : Vec Ideal S64x2048 .bf16) (i : S64x1.Idx) :
    k0_pay5 (k0_pay2 v) (k0_pay3 v) (k0_pay4 v) i = expWord (found (k0_pay2 v i)) := by
  have step : ∀ (q : FVec Ideal S64x1 .f32) (b : BitVec 32) (w : IVec S64x1 32),
      select (cmpf .oge q (bitcastToFloat .f32 (addi w (broadcast S64x1 b)))) (addi w (broadcast S64x1 b)) w i = keep (q i) b (w i) := by
    intro q b w
    show (if BitVec.ofBool (decide (Ideal.ofBits .f32 (w i + b) ≤ q i)) = 1#1 then w i + b else w i) = _
    unfold keep
    by_cases h : Ideal.ofBits .f32 (w i + b) ≤ q i
    · simp [h]
    · simp [h]
  unfold k0_pay5 k0_pay4 k0_pay3
  show expWord _ = _
  congr 1
  unfold found
  simp only [step]
  rfl

/-- The kernel's codes and scale of a row of finite activations say it exactly. -/
theorem exactly_rows (v : Vec Ideal S64x2048 .bf16) (i : Fin 64)
    (h : ∀ k : Fin 2048, max (v (ix2 i k) : EReal) (-(v (ix2 i k) : EReal)) ≤ Ideal.ofBits .f32 0x7F7F0000#32) (l : Fin 128) :
    Exactly (fun k : Fin 2048 => (v (ix2 i k) : EReal)) (fun k => codesOfRows v (ix2 i k)) (scalesOfRows v (ix2 i l)) := by
  have hlt : amax (fun k : Fin 2048 => (v (ix2 i k) : EReal)) * Ideal.ofBits .f32 0x3B124925#32 < two 120 := factor_lt (amax_le h)
  obtain ⟨e, hs, hi, hv⟩ := scale_of hlt
  refine exactly_of_lt (e := e) ?_ hv fun k => ?_
  · rw [← hs]
    unfold scalesOfRows k0_pay7
    simp only [shapeCast_self]
    rw [bcast_col (by decide)]
    show Ideal.ofBits .f32 (scaleWord (k0_pay5 (k0_pay2 v) (k0_pay3 v) (k0_pay4 v) (ix2 i (0 : Fin 1)))) = _
    rw [pay5_apply, pay2_apply]
  · rw [← hi]
    unfold codesOfRows k0_pay6
    simp only [shapeCast_self]
    show min (Ideal.ofBits .f32 0x43E00000#32) (max (Ideal.ofBits .f32 0xC3E00000#32) (v (ix2 i k) * broadcastTo S64x2048 _ broadcasts_S64x1_S64x2048 (ix2 i k))) = _
    rw [bcast_col (by decide)]
    show min _ (max _ (v (ix2 i k) * Ideal.ofBits .f32 (invWord (k0_pay5 (k0_pay2 v) (k0_pay3 v) (k0_pay4 v) (ix2 i (0 : Fin 1)))))) = _
    rw [pay5_apply, pay2_apply]

end Cert.Kernel.Hand

end
-- ==== Proof.Value.lean ====
/-
The program's run with its result named: where every result of every block is the one an array `R` holds at its row and column, the
program ends with the result equal to `R`.
-/
module

public import proofs.«01_k».proof.Proof.Launch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The value a result must have: the one of `R` at its row and column. -/
def Holds (R : S512x6144.Idx → Elt F .bf16) : Prop3 F := fun r c v => ∀ (hr : r < 512) (hc : c < 6144), v = R (ix2 ⟨r, hr⟩ ⟨c, hc⟩)

/-- A result whose every entry is `R`'s is `R`. -/
theorem eq_of_holds {R fo : S512x6144.Idx → Elt F .bf16} (h : ∀ i, OutGood (Holds R) i fo) : fo = R := by
  funext x
  obtain ⟨t, n, rfl⟩ : ∃ (t : Fin 512) (n : Fin 6144), x = ix2 t n := ⟨x 0, x 1, eq_ix2 x⟩
  have hn : 3072 * (n.val / 3072) + n.val % 3072 = n.val := Nat.div_add_mod _ _
  have e : (⟨3072 * (n.val / 3072) + n.val % 3072, by omega⟩ : Fin 6144) = n := Fin.ext hn
  have := h ⟨n.val / 3072, by omega⟩ t ⟨n.val % 3072, by omega⟩ t.isLt (by have := n.isLt; dsimp only; omega)
  dsimp only at this
  rwa [e] at this

variable (R : (c : Dev nD) → S512x6144.Idx → Elt F .bf16)

/-- The buffers after the run: as at the start, the result at `R`. -/
def G (c : Dev nD) : (b : Ref sig .tc) → Buf (Elt F) ((c : Thread nD τ).loc b) := Function.update (V m c) main_v0 (R c)

theorem G_result (c : Dev nD) : G m R c main_v0 = R c := Function.update_self _ _ _

/-- The run's data: at the first point the result as at the start, after it the result at `R`. -/
def datsV (_ : Fin 1) (c : Dev nD) : Dat τ (Elt F) Unit ℕ (Pipeline.UD sig nD τ) ℕ cfg0 c where
  A w := V m c (Pipeline.arrRef (cfg0.spec) w)
  after w t := (w : Fin 0).elim0
  Φ t := if t.val = 0 then Pipeline.ΦDRG osem0 (cfg0.spec) H0 R0 (V m) (V m) c else Pipeline.ΦDRG osem0 (cfg0.spec) H0 R0 (V m) (G m R) c
  q _ := fullShare
  owed _ := 0

theorem sound_value (c : Dev nD)
    (hm : ∃ g, Shares g (V m c main_arg1) ∧ Sound (Holds (R c)) g (V m c main_arg0) (V m c main_arg2) (V m c main_arg3)) (t : Fin cfg0.N) :
    iprop((datsV m R 0 c).Φ t.castSucc ∗ (datsV m R 0 c).owesAt () t.castSucc ∗ emp)
    ⊢ wp frame (wpE (defs₀ (F := F)) Variants.none (c : Thread nD τ) none) Set.univ (bodyAt0 t)
      (fun _ => iprop((datsV m R 0 c).Φ t.succ ∗ (datsV m R 0 c).owesAt () t.succ ∗ emp)) := by
  obtain ⟨g, hg, hG⟩ := hm
  have h0 : t.val = 0 := by have : t.val < 1 := t.isLt; omega
  have hPhi : (datsV m R 0 c).Φ t.castSucc = iprop(Pipeline.ΦD osem0 (cfg0.spec) H0 (V m) c ∗ Pipeline.routed R0 c (V m c)) := if_pos h0
  have hPhi' : (datsV m R 0 c).Φ t.succ = iprop(Pipeline.ΦD osem0 (cfg0.spec) H0 (V m) c ∗ Pipeline.routed R0 c (G m R c)) :=
    if_neg (t := Pipeline.ΦDRG osem0 (cfg0.spec) H0 R0 (V m) (V m) c) (show ¬ t.succ.val = 0 from by rw [Fin.val_succ]; omega)
  rw [hPhi, hPhi', show R0 = {main_v0} from rfl, Pipeline.routed_singleton, Pipeline.routed_singleton, G_result]
  unfold Dat.owesAt Pipeline.owesWithin
  rw [show (datsV m R 0 c).owed t.castSucc = 0 from rfl, show (datsV m R 0 c).owed t.succ = 0 from rfl]
  iintro ⟨⟨HP, HY⟩, ⟨%W₀, -, HO⟩, -⟩
  iapply (wp_wand_r Idealize.ShloMosaic.frame (wpE (defs₀ (F := F)) Variants.none (c : Thread nD τ) none) Set.univ)
  isplitl [HP HY HO]
  · iapply (body_kept (Good := Holds (R c)) m c hg hG t W₀)
    isplitl [HP]; · iexact HP
    isplitl [HY]; · iexists _; iexact HY
    iexact HO
  iintro %u ⟨HP, ⟨%fo, %hfo, HY⟩, %W', HO⟩
  obtain rfl : fo = R c := eq_of_holds hfo
  isplitl [HP HY]
  · isplitl [HP]; · iexact HP
    iexact HY
  isplitl [HO]
  · iexists W'; isplitr; · ipureintro; exact fun _ _ => Or.inl trivial
    iexact HO
  iempintro

theorem value_obligation (c : Dev nD)
    (hm : ∃ g, Shares g (V m c main_arg1) ∧ Sound (Holds (R c)) g (V m c main_arg0) (V m c main_arg2) (V m c main_arg3)) :
    BodyObligation (datsV (F := F) m R 0 c) (defs₀ (F := F)) Variants.none () Set.univ := fun t => by
  rw [show (Finset.univ : Finset (Fin cfg0.W)) = ∅ from rfl, BI.bigSep_empty, BI.bigSep_empty, defs₀_row]
  exact triple_restated (sound_value m R c hm t) rfl .rfl fun _ => .rfl

set_option backward.isDefEq.respectTransparency.types false in
theorem run_value
    (hm : ∀ c, ∃ g, Shares g (V m c main_arg1) ∧ Sound (Holds (R c)) g (V m c main_arg0) (V m c main_arg2) (V m c main_arg3)) :
    θ_run defs (onTc (τ := τ) (main (F := F))) (s₀ m ρ) (Pipeline.FramePostRG cfgs (datsV m R) 0 R0 (V m) (G m R)) :=
  Pipeline.θ_run_frame_dmaRG cfgs (datsV m R) (0 : Fin 1) launch0 osem0 defs₀ Variants.none ownSemFacts0 H0 R0 H0_sub R0_sub m ρ main
    (hbody := fun c => (value_obligation m R c (hm c)).loose) (hshare := fun c => (datsV m R 0 c).share_full fun _ => rfl)
    (howed := fun _ _ => rfl) (V := V m) (hmain := hmain m Variants.none) (hA := fun _ w => (w : Fin 0).elim0)
    (G := G m R) (hin := fun _ => .rfl) (hout := fun _ => .rfl)

/-- The program ends with its result equal to `R`, its arguments unchanged. -/
theorem value_run
    (hm : ∀ c, ∃ g, Shares g (V m c main_arg1) ∧ Sound (Holds (R c)) g (V m c main_arg0) (V m c main_arg2) (V m c main_arg3)) :
    θ_run defs (onTc (τ := τ) (main (F := F))) ⟨m, fun _ => 0, ρ⟩ (fun r => ∀ c : Dev nD,
      r.2.mem ((c.tc : Thread nD τ).loc main_v0) = R c ∧ ArgsKept m r c) :=
  (θ_run defs _ _).mono (fun _ h c => ⟨(h.written c (Finset.mem_singleton_self _)).trans (G_result m R c), args_kept m h.toR c⟩)
    (run_value m ρ R hm)

end Cert.Kernel.Hand

end
-- ==== Proof.Product.lean ====
/-
The kernel's results at exact arithmetic: the row of activations times the group's weights, times the columns' scales.
-/
module

public import proofs.«01_k».proof.Proof.Quantised
public import proofs.«01_k».proof.Proof.Value
public import Idealize.ShloMosaic.Lib.MatmulPlain

@[expose] public section

noncomputable section

namespace Cert.Kernel.Hand

open Cert.Kernel Cert.Kernel.Gen
open Idealize.ShloMosaic Idealize.ShloMosaic.ValueIdx

/-- Row `t` of the activations times column `c` of group `e`'s weights, times the column's scale. -/
def product (xv : Acts Ideal) (wv : Weights Ideal) (sv : ColScales Ideal) (e : Fin 16) (t : Fin 512) (c : Fin 6144) : EReal :=
  (∑ k : Fin 2048, (xv (ix2 t k) : EReal) * (wv (ix3 e k c) : EReal)) * (sv (ix3 e (0 : Fin 1) c) : EReal)

/-- Every activation is a finite bf16 number. -/
def FiniteActs (xv : Acts Ideal) : Prop :=
  ∀ (t : Fin 512) (k : Fin 2048), max (xv (ix2 t k) : EReal) (-(xv (ix2 t k) : EReal)) ≤ Ideal.ofBits .f32 0x7F7F0000#32

/-- A row's codes and scale say the row exactly. -/
theorem exactly_codes {xv : Acts Ideal} (hx : FiniteActs xv) (t : Fin 512) (l : Fin 128) :
    Exactly (fun k : Fin 2048 => (xv (ix2 t k) : EReal)) (fun k => codes xv (ix2 t k)) (scales xv (ix2 t l)) := by
  have hrow : ∀ k : Fin 2048, rowsOf xv (blk t) (ix2 (plc t) k) = xv (ix2 t k) := fun k => by
    unfold rowsOf
    refine congrArg xv ?_
    funext a
    match a with
    | ⟨0, _⟩ => exact Fin.ext (by show 64 * (t.val / 64) + t.val % 64 = t.val; omega)
    | ⟨1, _⟩ => rfl
  have h := exactly_rows (rowsOf xv (blk t)) (plc t) (fun k => by rw [hrow]; exact hx t k) l
  simp only [hrow] at h
  exact h

/-- A block's result at a row and column: the product. -/
theorem block_eq {xv : Acts Ideal} (hx : FiniteActs xv) (wv : Weights Ideal) (sv : ColScales Ideal) (r : Fin 385) (e : Fin 16) (j : Fin 2)
    (a : Fin 128) (n : Fin 3072) (ht : r.val + a.val < 512) (hc : 3072 * j.val + n.val < 6144) :
    block xv wv sv r e j (ix2 a n) = product xv wv sv e ⟨r.val + a.val, ht⟩ ⟨3072 * j.val + n.val, hc⟩ := by
  have hE := exactly_codes hx ⟨r.val + a.val, ht⟩ 0
  unfold product block blockOf
  rw [← hE.sum fun k : Fin 2048 => (wv (ix3 e k ⟨3072 * j.val + n.val, hc⟩) : EReal)]
  show (FloatOps.matmul (F := Ideal) (DotDims.plain 128 2048 3072) none _ _ _ (ix2 a n) * broadcastTo S128x3072 _ broadcasts_S128x1_S128x3072 (ix2 a n))
    * broadcastTo S128x3072 _ broadcasts_S1x3072_S128x3072 (ix2 a n) = _
  rw [Ideal.matmul_plain_apply, bcast_col (by decide), broadcastTo_1b_ab_apply]
  unfold k0_pay8
  rw [shapeCast_1ab_ab_apply]
  simp only [shapeCast_1ab_ab_apply]
  rw [show (constant (F := Ideal) S128x3072 .f32 0x00000000#32 : FVec Ideal S128x3072 .f32) (ix2 a n) = (0 : EReal) from Ideal.ofBits_zero_f32, zero_add]
  rfl

/-- Results that are the product, for the group that owns the row, are what `R` says when `R` is the product there. -/
theorem sound_of {g : ℕ → ℕ} (hs : pre g 16 = 512) {xv : Acts Ideal} (hx : FiniteActs xv) (wv : Weights Ideal) (sv : ColScales Ideal)
    (R : S512x6144.Idx → EReal)
    (hR : ∀ (e : Fin 16) (t : Fin 512), pre g e.val ≤ t.val → t.val < pre g (e.val + 1) → ∀ c, R (ix2 t c) = product xv wv sv e t c) :
    Sound (F := Ideal) (Holds R) g xv wv sv := by
  intro k hk j r a n hl hh hr hc
  rw [block_eq hx wv sv r ⟨grp g k, grp_lt g k⟩ j a n hr hc]
  exact (hR ⟨grp g k, grp_lt g k⟩ ⟨r.val + a.val, hr⟩ hl hh _).symm

end Cert.Kernel.Hand

end
-- ==== Proof.Finite.lean ====
/-
What the precondition on finite activations says: the group sizes are as in `Sizes`, and every activation is a finite bf16 number.
-/
module

public import proofs.«01_k».proof.Proof.Sizes
public import proofs.«01_k».proof.Proof.Product
public import proofs.«01_k».proof.Proof.Gen.Pre_finite_rows_of_groups

@[expose] public section

noncomputable section

namespace Cert.Kernel.Hand

open Cert.Kernel Cert.Kernel.Gen
open Idealize.ShloMosaic Idealize.ShloMosaic.ValueIdx

variable {x : Acts Ideal} {gw : Words16} {w : Weights Ideal} {s : ColScales Ideal}

/-- The precondition's part on the group sizes. -/
theorem shares_of_finite (h : Cert.Pre_finite_rows_of_groups.fn (F := Ideal) x gw w s = fun _ => 1#1) : Shares (sizes gw) gw := by
  refine shares_of (F := Ideal) (x := x) (w := w) (s := s) (funext fun i => ?_)
  have h := congrFun h i
  unfold Cert.Pre_finite_rows_of_groups.fn at h
  exact (andi_one h).1

/-- The precondition's part on the activations. -/
theorem finite_of (h : Cert.Pre_finite_rows_of_groups.fn (F := Ideal) x gw w s = fun _ => 1#1) : FiniteActs x := by
  have h := congrFun h Idx0
  unfold Cert.Pre_finite_rows_of_groups.fn at h
  intro t k
  have hk := Host.reduce_andi_all _ _ _ _ _ (andi_one h).2 (ix2 t k)
  have hd : BitVec.ofBool (decide (max (x (ix2 t k) : EReal) (-(x (ix2 t k) : EReal)) ≤ Ideal.ofBits .f32 0x7F7F0000#32)) = 1#1 := hk
  by_contra hc
  simp [hc] at hd

end Cert.Kernel.Hand

end
-- ==== Proof.Reference.lean ====
/-
The reference's result as one function of its four arguments: what the sixteen products and selections of its body come to, read off
the generated run.
-/
module

public import proofs.«01_k».proof.Proof.Gen.ReferenceIdeal.Value
public import Idealize.ShloMosaic.Lib.WholeRead
public import Idealize.ShloMosaic.Lib.VecWindow
public import Idealize.ShloMosaic.Lib.ValueIdxCore

@[expose] public section

noncomputable section

namespace Cert.ReferenceIdeal.Hand

open Cert.ReferenceIdeal Cert.ReferenceIdeal.Gen
open Idealize.ShloMosaic Idealize.ShloMosaic.TcCoe Idealize.ShloMosaic.Tactic
open Idealize.ShloMosaic.ValueIdx

variable {F : FTy → Type} [FloatOps F]

/-- Group `n`, with `n` taken below sixteen. -/
abbrev gr (n : ℕ) : Fin 16 := ⟨n % 16, Nat.mod_lt _ (by norm_num)⟩

/-- The first row of group `n`: the sum of the sizes before it. -/
def start (gw : S16.Idx → BitVec 32) : ℕ → BitVec 32
  | 0 => 0#32
  | n + 1 => Scalar.addi (start gw n) (gw (ix1 (gr n)))

/-- The rows of group `n`: from its first row up to the next group's. -/
def mine (gw : S16.Idx → BitVec 32) (n : ℕ) : IVec S512x6144 1 :=
  andi (cmpi .sge (iota .tc S512x6144 32 [0] iota_S512x6144_d0_w32) (broadcast S512x6144 (start gw n)))
    (cmpi .slt (iota .tc S512x6144 32 [0] iota_S512x6144_d0_w32) (broadcast S512x6144 (start gw (n + 1))))

/-- Group `n`'s weights. -/
def weights (w : S16x2048x6144.Idx → Elt F .fp8e4m3) (n : ℕ) : Vec F S1x2048x6144 .fp8e4m3 := fun x => w (ix3 (gr n) (x 1) (x 2))
/-- Group `n`'s column scales. -/
def columns (s : S16x1x6144.Idx → Elt F .f32) (n : ℕ) : Vec F S1x1x6144 .f32 := fun x => s (ix3 (gr n) (0 : Fin 1) (x 2))

/-- The codes times group `n`'s weights. -/
def dots (q : FVec F S512x2048 .fp8e4m3) (w : S16x2048x6144.Idx → Elt F .fp8e4m3) (n : ℕ) : FVec F S512x6144 .f32 :=
  matmul dot_S512x2048_S2048x6144_S512x6144_1_0_0_1_n_n none q
    (shapeCast S2048x6144 (weights w n) shapeCasts_S1x2048x6144_S2048x6144) (constant S512x6144 .f32 0x00000000#32)
/-- Group `n`'s column scales, the same for every row. -/
def spread (s : S16x1x6144.Idx → Elt F .f32) (n : ℕ) : FVec F S512x6144 .f32 :=
  broadcastTo S512x6144 (shapeCast S1x6144 (shapeCast S1x6144 (columns s n) shapeCasts_S1x1x6144_S1x6144) shapeCasts_S1x6144_S1x6144)
    broadcasts_S1x6144_S512x6144

/-- The products selected over the first `n` groups. -/
def sums (gw : S16.Idx → BitVec 32) (q : FVec F S512x2048 .fp8e4m3) (w : S16x2048x6144.Idx → Elt F .fp8e4m3) : ℕ → FVec F S512x6144 .f32
  | 0 => k0_pay6
  | n + 1 => select (mine gw n) (dots q w n) (sums gw q w n)
/-- The column scales selected over the first `n` groups. -/
def factors (gw : S16.Idx → BitVec 32) (s : S16x1x6144.Idx → Elt F .f32) : ℕ → FVec F S512x6144 .f32
  | 0 => k0_pay7
  | n + 1 => select (mine gw n) (spread s n) (factors gw s n)

/-- The reference's result. -/
def result (x : Vec F S512x2048 .bf16) (gw : S16.Idx → BitVec 32) (w : S16x2048x6144.Idx → Elt F .fp8e4m3)
    (s : S16x1x6144.Idx → Elt F .f32) : FVec F S512x6144 .bf16 :=
  truncf .bf16 (mulf (mulf (sums gw (k0_pay5 x) w 16) (broadcastTo S512x6144 (k0_pay4 x) broadcasts_S512x1_S512x6144)) (factors gw s 16))
    bitsLt_bf16_f32

/-! ## What the loads read -/

/-- A word of the sizes. -/
theorem read_word {M : Memref sig .tc .smem S16 .i32} (h : M.IsWhole) (x1 : Vec F S16 .i32) (n : ℕ) (hn : n < 16)
    (inb : ∀ a, (![n] : Fin 1 → ℕ) a + S1.size a ≤ S16.size a) (i) :
    View.readAt (Elt F) M.view (Rect.unit (s := S16) ![n] S1.size inb).toLoadRect (h.unread x1) i = x1 (ix1 (gr n)) := by
  rw [h.readAt_unread]
  refine congrArg x1 (funext fun a => Fin.ext ?_)
  match a with
  | ⟨0, _⟩ =>
    have hi : (i (0 : Fin 1)).val = 0 := by have : (i (0 : Fin 1)).val < 1 := (i 0).isLt; omega
    show n + 1 * (i (0 : Fin 1)).val = n % 16
    omega

/-- A group's weights. -/
theorem read_weights {M : Memref sig .tc .vmem S16x2048x6144 .fp8e4m3} (h : M.IsWhole) (x2 : Vec F S16x2048x6144 .fp8e4m3) (n : ℕ) (hn : n < 16)
    (inb : ∀ a, (![n, 0, 0] : Fin 3 → ℕ) a + S1x2048x6144.size a ≤ S16x2048x6144.size a) :
    View.readAt (Elt F) M.view (Rect.unit (s := S16x2048x6144) ![n, 0, 0] S1x2048x6144.size inb).toLoadRect (h.unread x2) = weights x2 n := by
  funext i
  rw [h.readAt_unread]
  refine congrArg x2 (funext fun a => Fin.ext ?_)
  match a with
  | ⟨0, _⟩ =>
    have hi : (i (0 : Fin 3)).val = 0 := by have : (i (0 : Fin 3)).val < 1 := (i 0).isLt; omega
    show n + 1 * (i (0 : Fin 3)).val = n % 16
    omega
  | ⟨1, _⟩ => show 0 + 1 * (i (1 : Fin 3)).val = (i (1 : Fin 3)).val; omega
  | ⟨2, _⟩ => show 0 + 1 * (i (2 : Fin 3)).val = (i (2 : Fin 3)).val; omega

/-- A group's column scales. -/
theorem read_columns {M : Memref sig .tc .vmem S16x1x6144 .f32} (h : M.IsWhole) (x3 : Vec F S16x1x6144 .f32) (n : ℕ) (hn : n < 16)
    (inb : ∀ a, (![n, 0, 0] : Fin 3 → ℕ) a + S1x1x6144.size a ≤ S16x1x6144.size a) :
    View.readAt (Elt F) M.view (Rect.unit (s := S16x1x6144) ![n, 0, 0] S1x1x6144.size inb).toLoadRect (h.unread x3) = columns x3 n := by
  funext i
  rw [h.readAt_unread]
  refine congrArg x3 (funext fun a => Fin.ext ?_)
  match a with
  | ⟨0, _⟩ =>
    have hi : (i (0 : Fin 3)).val = 0 := by have : (i (0 : Fin 3)).val < 1 := (i 0).isLt; omega
    show n + 1 * (i (0 : Fin 3)).val = n % 16
    omega
  | ⟨1, _⟩ =>
    have hi : (i (1 : Fin 3)).val = 0 := by have : (i (1 : Fin 3)).val < 1 := (i 1).isLt; omega
    show 0 + 1 * (i (1 : Fin 3)).val = 0
    omega
  | ⟨2, _⟩ => show 0 + 1 * (i (2 : Fin 3)).val = (i (2 : Fin 3)).val; omega

/-- All activations. -/
theorem read_acts {M : Memref sig .tc .vmem S512x2048 .bf16} (h : M.IsWhole) (x0 : Vec F S512x2048 .bf16)
    (inb : ∀ a, (![0, 0] : Fin 2 → ℕ) a + S512x2048.size a ≤ S512x2048.size a) :
    View.readAt (Elt F) M.view (Rect.unit (s := S512x2048) ![0, 0] S512x2048.size inb).toLoadRect (h.unread x0) = x0 := by
  funext i
  rw [h.readAt_unread]
  refine congrArg x0 (funext fun a => Fin.ext ?_)
  match a with
  | ⟨0, _⟩ => show 0 + 1 * (i (0 : Fin 2)).val = (i (0 : Fin 2)).val; omega
  | ⟨1, _⟩ => show 0 + 1 * (i (1 : Fin 2)).val = (i (1 : Fin 2)).val; omega

/-- The generated run's result is the reference's. -/
theorem out_eq (c : Dev nD) (arg0 : Memref sig .tc .vmem S512x2048 .bf16) (harg0 : arg0.IsWhole) (arg1 : Memref sig .tc .smem S16 .i32)
    (harg1 : arg1.IsWhole) (arg2 : Memref sig .tc .vmem S16x2048x6144 .fp8e4m3) (harg2 : arg2.IsWhole)
    (arg3 : Memref sig .tc .vmem S16x1x6144 .f32) (harg3 : arg3.IsWhole) (arg4 : Memref sig .tc .vmem S512x6144 .bf16) (harg4 : arg4.IsWhole)
    (x0 : Vec F S512x2048 .bf16) (x1 : Vec F S16 .i32) (x2 : Vec F S16x2048x6144 .fp8e4m3) (x3 : Vec F S16x1x6144 .f32) :
    out0_A_4 c arg0 harg0 arg1 harg1 arg2 harg2 arg3 harg3 arg4 harg4 x0 x1 x2 x3 = result x0 x1 x2 x3 := by
  unfold out0_A_4 kernelRun0_A
  dsimp only
  sl_unfold_words
  refine (View.read_writes_full VO0_4 VO0_4.junk inb_S512x6144_S512x6144_0_0 _ []).trans ?_
  simp (disch := decide) only [read_word harg1, read_weights harg2, read_columns harg3, read_acts harg0]
  rfl

end Cert.ReferenceIdeal.Hand

end
-- ==== Proof.RefQuant.lean ====
/-
The reference's quantiser at exact arithmetic: the codes and the scale it makes of a row of finite activations say the row exactly.
-/
module

public import proofs.«01_k».proof.Proof.Quantised
public import proofs.«01_k».proof.Proof.Reference

@[expose] public section

noncomputable section

namespace Cert.ReferenceIdeal.Hand

open Cert.ReferenceIdeal Cert.ReferenceIdeal.Gen
open Idealize.ShloMosaic Idealize.ShloMosaic.ValueIdx
open Cert.Kernel.Hand (two two_pos two_mono amax amax_le factor_lt row_amax bcast_col inf_eq Exactly exactly_of_lt)

/-! ## The least exponent -/

/-- A running minimum of values below infinity is one of them. -/
theorem fold_min_mem {ι : Type} (s : Finset ι) (f : ι → EReal) : s.fold min ⊤ f = ⊤ ∨ ∃ k ∈ s, s.fold min ⊤ f = f k := by
  classical
  induction s using Finset.induction_on with
  | empty => exact .inl rfl
  | insert a s ha ih =>
    rw [Finset.fold_insert ha]
    rcases ih with h | ⟨k, hk, h⟩
    · exact .inr ⟨a, Finset.mem_insert_self a s, by rw [h, min_eq_left le_top]⟩
    · rcases le_total (f a) (f k) with c | c
      · exact .inr ⟨a, Finset.mem_insert_self a s, by rw [h, min_eq_left c]⟩
      · exact .inr ⟨k, Finset.mem_insert_of_mem hk, by rw [h, min_eq_right c]⟩

/-- `2` to a whole number, as the exponential takes it. -/
theorem exp2_int (e : ℤ) : Ideal.exp2 ((e : ℝ) : EReal) = two e := by
  show ((Real.rpow 2 (e : ℝ) : ℝ) : EReal) = _
  unfold two
  exact congrArg _ (Real.rpow_intCast 2 e)

/-- The word `0x43140000` is 148. -/
theorem shift_eq : Ideal.ofBits .f32 0x43140000#32 = ((148 : ℝ) : EReal) := by
  simp [Ideal.ofBits, Ideal.ieee]; norm_num
  exact_mod_cast (by norm_num)

/-- The word `0x43000000` is 128. -/
theorem last_eq : Ideal.ofBits .f32 0x43000000#32 = ((128 : ℝ) : EReal) := by
  simp [Ideal.ofBits, Ideal.ieee]; norm_num
  exact_mod_cast (by norm_num)

/-- Candidate `k` of the exponents: `k - 148`. -/
def cand (k : Fin 277) : EReal := ((((BitVec.ofNat 32 k.val).toInt : ℝ)) : EReal) - Ideal.ofBits .f32 0x43140000#32

/-- A candidate is a whole number. -/
theorem cand_eq (k : Fin 277) : cand k = ((((k.val : ℤ) - 148 : ℤ) : ℝ) : EReal) := by
  have h : (BitVec.ofNat 32 k.val).toInt = (k.val : ℤ) := by
    revert k
    decide +kernel
  unfold cand
  rw [h, shift_eq, ← EReal.coe_sub]
  push_cast
  rfl

/-- The least candidate whose power is above `v`, or 128. -/
def least (v : EReal) : EReal :=
  (Finset.univ : Finset (Fin 277)).fold min ⊤ fun k => Scalar.select (Ideal.cmp .olt v (Ideal.exp2 (cand k))) (cand k) (Ideal.ofBits .f32 0x43000000#32)

/-- For `v` below `2 ^ 120` it is a whole number whose power is above `v`. -/
theorem least_eq {v : EReal} (hv : v < two 120) : ∃ e : ℤ, least v = ((e : ℝ) : EReal) ∧ v < two e := by
  have each : ∀ k : Fin 277, ∃ e : ℤ,
      Scalar.select (Ideal.cmp .olt v (Ideal.exp2 (cand k))) (cand k) (Ideal.ofBits .f32 0x43000000#32) = ((e : ℝ) : EReal) ∧ v < two e := by
    intro k
    rw [cand_eq, exp2_int, last_eq]
    show ∃ e : ℤ, (if BitVec.ofBool (decide (v < two ((k.val : ℤ) - 148))) = 1#1 then _ else _) = _ ∧ _
    by_cases h : v < two ((k.val : ℤ) - 148)
    · exact ⟨(k.val : ℤ) - 148, by simp [h], h⟩
    · refine ⟨128, ?_, lt_of_lt_of_le hv (two_mono (by norm_num))⟩
      simp [h]
  unfold least
  rcases fold_min_mem (Finset.univ : Finset (Fin 277)) (fun k => Scalar.select (Ideal.cmp .olt v (Ideal.exp2 (cand k))) (cand k) (Ideal.ofBits .f32 0x43000000#32)) with h | ⟨k, -, h⟩
  · exfalso
    obtain ⟨e, he, -⟩ := each 0
    have : (⊤ : EReal) ≤ ((e : ℝ) : EReal) := by
      rw [← h, ← he]
      exact (Finset.fold_min_le _).mpr (.inr ⟨0, Finset.mem_univ _, le_rfl⟩)
    exact absurd (top_le_iff.mp this) (EReal.coe_ne_top _)
  · obtain ⟨e, he, hl⟩ := each k
    exact ⟨e, h.trans he, hl⟩

/-- The exponent of a row whose largest magnitude is `A`: zero for a row of zeros, else the least candidate above. -/
def expo (A : EReal) : EReal :=
  Scalar.select (Ideal.cmp .oeq A (Ideal.ofBits .f32 0x00000000#32)) (Ideal.ofBits .f32 0x00000000#32) (least (A * Ideal.ofBits .f32 0x3B124925#32))

/-- For a finite row it is a whole number whose power is above the row's largest magnitude times the factor. -/
theorem expo_eq {A : EReal} (h : A ≤ Ideal.ofBits .f32 0x7F7F0000#32) :
    ∃ e : ℤ, expo A = ((e : ℝ) : EReal) ∧ A * Ideal.ofBits .f32 0x3B124925#32 < two e := by
  unfold expo
  rw [Ideal.ofBits_zero_f32]
  show ∃ e : ℤ, (if BitVec.ofBool (decide (A = 0)) = 1#1 then _ else _) = _ ∧ _
  by_cases hA : A = 0
  · exact ⟨0, by simp [hA], by rw [hA, zero_mul]; exact two_pos 0⟩
  · obtain ⟨e, h1, h2⟩ := least_eq (factor_lt h)
    exact ⟨e, by simpa [hA] using h1, h2⟩

/-! ## The reference's codes and scale -/

/-- The reduction to the least, read at a row. -/
theorem row_min {n K : ℕ} (x : FVec Ideal ⟨2, ![n, K]⟩ .f32) (h : Shape.Reduces ⟨2, ![n, K]⟩ [1] ⟨1, ![n]⟩) (hφ : FKind.Formats .f32)
    (hacc : (0x7F800000#32 : BitVec 32) = FKind.minimumf.neutral .f32 hφ) (i : Fin n) :
    multiReduction .minimumf [1] ⟨1, ![n]⟩ x 0x7F800000#32 h hφ hacc (ix1 i)
      = (Finset.univ : Finset (Fin K)).fold min ⊤ fun k => x (ix2 i k) := by
  refine (multiReduction_minimumf_eq_fold x _ h hφ hacc (ix1 i)).trans ?_
  refine (h.fold_filter_drop_single _ _ x (ix1 i)).trans ?_
  rw [show FloatOps.ofBits (F := Ideal) .f32 0x7F800000#32 = ⊤ from inf_eq]
  have hl : ∀ k : Fin K, h.lift (ix1 i) k = ix2 i k := fun k => by
    funext a
    match a with
    | ⟨0, _⟩ => exact Fin.ext rfl
    | ⟨1, _⟩ => exact Fin.ext rfl
  refine congrArg (fun f => Finset.fold min ⊤ f (Finset.univ : Finset (Fin K))) ?_
  funext k
  exact congrArg x (hl k)

/-! The operations, read at an index. -/

section
variable {s : Shape} (a b : FVec Ideal s .f32) (i : s.Idx)
theorem exp2_at : exp2 a i = Ideal.exp2 (a i) := rfl
theorem subf_at : subf a b i = (a i : EReal) - b i := rfl
theorem mulf_at : mulf a b i = (a i : EReal) * b i := rfl
theorem minimumf_at : minimumf a b i = min (a i : EReal) (b i) := rfl
theorem maximumf_at : maximumf a b i = max (a i : EReal) (b i) := rfl
theorem cmpf_at (p : CmpFPredicate) : cmpf p a b i = Ideal.cmp p (a i) (b i) := rfl
theorem select_at (c : IVec s 1) : select c a b i = Scalar.select (c i) (a i) (b i) := rfl
theorem sitofp_at (w : IVec s 32) : sitofp (F := Ideal) .f32 w i = (((w i).toInt : ℝ) : EReal) := rfl
theorem broadcast_at (v : EReal) : broadcast s v i = v := rfl
end

/-- The exponent the reference gives row `t`. -/
theorem pay3_apply (x : Vec Ideal S512x2048 .bf16) (t : Fin 512) : k0_pay3 x (ix2 t (0 : Fin 1)) = expo (amax fun k : Fin 2048 => x (ix2 t k)) := by
  have hA : shapeCast S512x1 (multiReduction .maximumf [1] S512 (absf (k0_pay2 x)) 0xFF800000#32 reduces_S512x2048_S512 (.inl rfl) rfl)
      shapeCasts_S512_S512x1 (ix2 t (0 : Fin 1)) = amax fun k : Fin 2048 => x (ix2 t k) := by
    rw [shapeCast_a_a1_apply]
    exact row_amax (k0_pay2 x) reduces_S512x2048_S512 (.inl rfl) rfl t
  unfold k0_pay3
  rw [select_at, cmpf_at, broadcast_at, hA, shapeCast_a_a1_apply]
  refine (congrArg (Scalar.select _ _) (row_min _ reduces_S512x277_S512 (.inl rfl) rfl t)).trans ?_
  unfold expo least
  refine congrArg (fun f => Scalar.select _ _ (Finset.fold min ⊤ f (Finset.univ : Finset (Fin 277)))) ?_
  funext k
  have hi : iota .tc S512x277 32 [1] iota_S512x277_d1_w32 (ix2 t k) = BitVec.ofNat 32 k.val := by
    show BitVec.ofNat 32 (0 * 277 + k.val) = _; rw [Nat.zero_mul, Nat.zero_add]
  rw [select_at, cmpf_at, bcast_col (by decide), exp2_at, subf_at, sitofp_at, mulf_at, hA, hi]
  rfl

/-- The reference's codes and scale of a row of finite activations say it exactly. -/
theorem exactly_codes (x : Vec Ideal S512x2048 .bf16) (t : Fin 512)
    (h : ∀ k : Fin 2048, max (x (ix2 t k) : EReal) (-(x (ix2 t k) : EReal)) ≤ Ideal.ofBits .f32 0x7F7F0000#32) :
    Exactly (fun k : Fin 2048 => (x (ix2 t k) : EReal)) (fun k => k0_pay5 x (ix2 t k)) (k0_pay4 x (ix2 t (0 : Fin 1))) := by
  obtain ⟨e, he, hv⟩ := expo_eq (amax_le h)
  refine exactly_of_lt (e := e) ?_ hv fun k => ?_
  · unfold k0_pay4
    rw [exp2_at, pay3_apply, he, exp2_int]
  · have h5 : k0_pay5 x (ix2 t k) = minimumf (broadcast S512x2048 (Scalar.ofBits (F := Ideal) .f32 0x43E00000#32)) (maximumf (broadcast S512x2048 (Scalar.ofBits (F := Ideal) .f32 0xC3E00000#32))
        (mulf (k0_pay2 x) (broadcastTo S512x2048 (exp2 (subf (broadcast S512x1 (Scalar.ofBits (F := Ideal) .f32 0x00000000#32)) (k0_pay3 x))) broadcasts_S512x1_S512x2048))) (ix2 t k) := by
      unfold k0_pay5
      generalize k0_pay3 x = y
      rfl
    refine h5.trans ?_
    rw [minimumf_at, maximumf_at, mulf_at, bcast_col (by decide), exp2_at, subf_at, pay3_apply, he, broadcast_at, broadcast_at, broadcast_at,
      ← exp2_int, Int.cast_neg, EReal.coe_neg]
    have h0 : Scalar.ofBits (F := Ideal) .f32 0x00000000#32 = (0 : EReal) := Ideal.ofBits_zero_f32
    rw [h0, zero_sub]
    rfl

end Cert.ReferenceIdeal.Hand

end
-- ==== Proof.RefProduct.lean ====
/-
The reference's results at exact arithmetic: the row of activations times the weights of the group that owns the row, times the columns'
scales.
-/
module

public import proofs.«01_k».proof.Proof.RefQuant
public import proofs.«01_k».proof.Proof.Product

@[expose] public section

noncomputable section

namespace Cert.ReferenceIdeal.Hand

open Cert.ReferenceIdeal Cert.ReferenceIdeal.Gen
open Idealize.ShloMosaic Idealize.ShloMosaic.ValueIdx
open Cert.Kernel.Hand (W W_add pre pre_mono pre_le row_mask Shares bcast_col product FiniteActs)

variable {g : ℕ → ℕ} {gw : S16.Idx → BitVec 32}

/-- The running sum of the sizes is the first row of each group. -/
theorem start_eq (hg : Shares g gw) {n : ℕ} (h : n ≤ 16) : start gw n = W (pre g n) := by
  induction n with
  | zero => rfl
  | succ n ih =>
    have hw : gw (ix1 (gr n)) = W (g n) := (hg.word (gr n)).trans (congrArg (fun i => W (g i)) (Nat.mod_eq_of_lt (by omega)))
    show Scalar.addi (start gw n) (gw (ix1 (gr n))) = W (pre g n + g n)
    rw [ih (by omega), hw, W_add]

/-- The rows selected for group `n` are the group's. -/
theorem mine_apply (hg : Shares g gw) {n : ℕ} (h : n < 16) (t : Fin 512) (c : Fin 6144) :
    mine gw n (ix2 t c) = if pre g n ≤ t.val ∧ t.val < pre g (n + 1) then 1#1 else 0#1 := by
  have h1 := pre_le hg.sum (n := n) (by omega)
  have h2 := pre_le hg.sum (n := n + 1) (by omega)
  have e : iota .tc S512x6144 32 [0] iota_S512x6144_d0_w32 (ix2 t c) = IntOp.addi (W 0) (W t.val) := by
    rw [show IntOp.addi (W 0) (W t.val) = W (0 + t.val) from W_add 0 t.val, Nat.zero_add]
    show BitVec.ofNat 32 (0 * 512 + t.val) = _; rw [Nat.zero_mul, Nat.zero_add]
  have hm := row_mask (lo := pre g n) (hi := pre g (n + 1)) (r := 0) (a := t.val) (by omega) (by omega) (by omega)
  rw [← e, Nat.zero_add, ← start_eq hg (by omega : n ≤ 16), ← start_eq hg (by omega : n + 1 ≤ 16)] at hm
  exact hm

/-- A selection over the groups, one after the other, ends with the owner's value. -/
theorem pick (hg : Shares g gw) {e : ℕ} {t : Fin 512} (hl : pre g e ≤ t.val) (hh : t.val < pre g (e + 1)) (c : Fin 6144)
    (f acc : ℕ → FVec Ideal S512x6144 .f32) (hacc : ∀ n, acc (n + 1) = select (mine gw n) (f n) (acc n)) {n : ℕ} (hn : n ≤ 16) (he : e < n) :
    acc n (ix2 t c) = f e (ix2 t c) := by
  induction n with
  | zero => omega
  | succ n ih =>
    rw [hacc, select_at, mine_apply hg (by omega)]
    rcases Nat.lt_succ_iff_lt_or_eq.mp he with h | rfl
    · have : ¬ (pre g n ≤ t.val ∧ t.val < pre g (n + 1)) := fun hc => by
        have := pre_mono (g := g) (show e + 1 ≤ n from h)
        omega
      rw [if_neg this]
      exact ih (by omega) h
    · rw [if_pos ⟨hl, hh⟩]
      rfl

/-- A group's product of codes at a row and column. -/
theorem dots_apply (q : FVec Ideal S512x2048 .fp8e4m3) (w : S16x2048x6144.Idx → Elt Ideal .fp8e4m3) (e : Fin 16) (t : Fin 512) (c : Fin 6144) :
    dots q w e.val (ix2 t c) = ∑ k : Fin 2048, (q (ix2 t k) : EReal) * (w (ix3 e k c) : EReal) := by
  have hgr : gr e.val = e := Fin.ext (Nat.mod_eq_of_lt e.isLt)
  unfold dots
  show FloatOps.matmul (F := Ideal) (DotDims.plain 512 2048 6144) none _ _ _ (ix2 t c) = _
  rw [Ideal.matmul_plain_apply]
  simp only [shapeCast_1ab_ab_apply]
  rw [show (constant (F := Ideal) S512x6144 .f32 0x00000000#32 : FVec Ideal S512x6144 .f32) (ix2 t c) = (0 : EReal) from Ideal.ofBits_zero_f32, zero_add]
  unfold weights
  rw [hgr]

/-- A group's column scale at a row and column. -/
theorem spread_apply (s : S16x1x6144.Idx → Elt Ideal .f32) (e : Fin 16) (t : Fin 512) (c : Fin 6144) :
    spread s e.val (ix2 t c) = s (ix3 e (0 : Fin 1) c) := by
  have hgr : gr e.val = e := Fin.ext (Nat.mod_eq_of_lt e.isLt)
  unfold spread
  rw [broadcastTo_1b_ab_apply, shapeCast_self, shapeCast_1ab_ab_apply]
  unfold columns
  rw [hgr]

/-- The reference's result at a row and column: the product, for the group that owns the row. -/
theorem result_eq (hg : Shares g gw) {x : Vec Ideal S512x2048 .bf16} (hx : FiniteActs x) (w : S16x2048x6144.Idx → Elt Ideal .fp8e4m3)
    (s : S16x1x6144.Idx → Elt Ideal .f32) (e : Fin 16) (t : Fin 512) (hl : pre g e.val ≤ t.val) (hh : t.val < pre g (e.val + 1)) (c : Fin 6144) :
    result x gw w s (ix2 t c) = product x w s e t c := by
  have h1 := pick hg hl hh c (dots (k0_pay5 x) w) (sums gw (k0_pay5 x) w) (fun _ => rfl) (le_refl 16) e.isLt
  have h2 := pick hg hl hh c (spread s) (factors gw s) (fun _ => rfl) (le_refl 16) e.isLt
  show mulf (mulf (sums gw (k0_pay5 x) w 16) (broadcastTo S512x6144 (k0_pay4 x) broadcasts_S512x1_S512x6144)) (factors gw s 16) (ix2 t c) = _
  rw [mulf_at, mulf_at, h1, h2, dots_apply, spread_apply, bcast_col (by decide), (exactly_codes x t (hx t)).sum]
  rfl

end Cert.ReferenceIdeal.Hand

end
-- ==== Proof.RefValue.lean ====
/-
The reference's run: its result array is the reference's result of its argument arrays.
-/
module

public import proofs.«01_k».proof.Proof.Reference

@[expose] public section

noncomputable section

namespace Cert.ReferenceIdeal.Hand

open Cert.ReferenceIdeal Cert.ReferenceIdeal.Gen
open Idealize.ShloMosaic Idealize.ShloMosaic.TcCoe Idealize.ShloMosaic.ValueIdx

variable {F : FTy → Type} [FloatOps F] (m : (ℓ : Loc nD τ sig) → Buf (Elt F) ℓ)

/-- The one grid point's input blocks are the argument arrays. -/
theorem iblk0 (c : Dev nD) (t : Fin cfg0.N) : iblk m c 0 t = V m c main_arg0 := by
  funext i
  refine congrArg (V m c main_arg0) (funext fun a => Fin.ext ?_)
  match a with
  | ⟨0, _⟩ => show 0 * 512 + 1 * (i (0 : Fin 2)).val = (i (0 : Fin 2)).val; omega
  | ⟨1, _⟩ => show 0 * 2048 + 1 * (i (1 : Fin 2)).val = (i (1 : Fin 2)).val; omega

theorem iblk1 (c : Dev nD) (t : Fin cfg0.N) : iblk m c 1 t = V m c main_arg1 := by
  funext i
  refine congrArg (V m c main_arg1) (funext fun a => Fin.ext ?_)
  match a with
  | ⟨0, _⟩ => show 0 * 16 + 1 * (i (0 : Fin 1)).val = (i (0 : Fin 1)).val; omega

theorem iblk2 (c : Dev nD) (t : Fin cfg0.N) : iblk m c 2 t = V m c main_arg2 := by
  funext i
  refine congrArg (V m c main_arg2) (funext fun a => Fin.ext ?_)
  match a with
  | ⟨0, _⟩ => show 0 * 16 + 1 * (i (0 : Fin 3)).val = (i (0 : Fin 3)).val; omega
  | ⟨1, _⟩ => show 0 * 2048 + 1 * (i (1 : Fin 3)).val = (i (1 : Fin 3)).val; omega
  | ⟨2, _⟩ => show 0 * 6144 + 1 * (i (2 : Fin 3)).val = (i (2 : Fin 3)).val; omega

theorem iblk3 (c : Dev nD) (t : Fin cfg0.N) : iblk m c 3 t = V m c main_arg3 := by
  funext i
  refine congrArg (V m c main_arg3) (funext fun a => Fin.ext ?_)
  match a with
  | ⟨0, _⟩ => show 0 * 16 + 1 * (i (0 : Fin 3)).val = (i (0 : Fin 3)).val; omega
  | ⟨1, _⟩ => show 0 * 1 + 1 * (i (1 : Fin 3)).val = (i (1 : Fin 3)).val; omega
  | ⟨2, _⟩ => show 0 * 6144 + 1 * (i (2 : Fin 3)).val = (i (2 : Fin 3)).val; omega

/-- The one grid point. -/
abbrev first : Fin cfg0.N := ⟨0, by decide⟩

/-- The result array after the run. -/
theorem array_eq (c : Dev nD) :
    (dats m 0 c).arrAt 4 cfg0.N = result (V m c main_arg0) (V m c main_arg1) (V m c main_arg2) (V m c main_arg3) := by
  have hb := Cert.ReferenceIdeal.Value.blocks4 m c first (flush0_4 first)
  rw [Cert.ReferenceIdeal.Value.flushed4 m c first] at hb
  unfold outsAt0 at hb
  rw [out_eq, iblk0, iblk1, iblk2, iblk3] at hb
  have hread : ∀ A : S512x6144.Idx → Elt F .bf16, ((cfg0.win 4).blk first).view.read (Elt F) A = A := fun A => by
    funext i
    refine congrArg A (funext fun a => Fin.ext ?_)
    match a with
    | ⟨0, _⟩ => show 0 * 512 + 1 * (i (0 : Fin 2)).val = (i (0 : Fin 2)).val; omega
    | ⟨1, _⟩ => show 0 * 6144 + 1 * (i (1 : Fin 2)).val = (i (1 : Fin 2)).val; omega
  exact (hread _).symm.trans hb

end Cert.ReferenceIdeal.Hand

end
-- ==== Proof.Equal.lean ====
/-
The kernel's run and the reference's run, at exact arithmetic, end with the same function of the arguments.
-/
module

public import proofs.«01_k».proof.Proof.Finite
public import proofs.«01_k».proof.Proof.RefProduct
public import proofs.«01_k».proof.Proof.RefValue

@[expose] public section

noncomputable section

namespace Cert.Kernel.Hand

open Cert.Kernel Cert.Kernel.Gen
open Idealize.ShloMosaic Idealize.ShloMosaic.TcCoe Idealize.SL.Sem
open Cert.ReferenceIdeal.Hand (result result_eq array_eq)

/-- What both programs compute from the four arguments. -/
abbrev Answer (x : Acts Ideal) (gw : Words16) (w : Weights Ideal) (s : ColScales Ideal) : S512x6144.Idx → EReal := result (F := Ideal) x gw w s

/-- The kernel ends with the answer of its arguments, which it leaves unchanged. -/
theorem kernel_run (m : (ℓ : Loc nD τ sig) → Buf (Elt Ideal) ℓ) (ρ : Dev nD → PrngReg)
    (h : ∀ c : Dev nD, Cert.Pre_finite_rows_of_groups.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    θ_run (defs (F := Ideal)) (onTc (τ := τ) (main (F := Ideal))) ⟨m, fun _ => 0, ρ⟩ fun r => ∀ c : Dev nD,
      r.2.mem ((c.tc : Thread nD τ).loc main_v0)
        = Answer (m ((c.tc : Thread nD τ).loc main_arg0)) (m ((c.tc : Thread nD τ).loc main_arg1)) (m ((c.tc : Thread nD τ).loc main_arg2))
            (m ((c.tc : Thread nD τ).loc main_arg3))
      ∧ ArgsKept m r c :=
  value_run (F := Ideal) m ρ (fun c => Answer (m ((c.tc : Thread nD τ).loc main_arg0)) (m ((c.tc : Thread nD τ).loc main_arg1))
      (m ((c.tc : Thread nD τ).loc main_arg2)) (m ((c.tc : Thread nD τ).loc main_arg3))) fun c =>
    have hg := shares_of_finite (h c)
    have hx := finite_of (h c)
    ⟨_, hg, sound_of hg.sum hx _ _ _ fun e t hl hh j => result_eq hg hx _ _ e t hl hh j⟩

end Cert.Kernel.Hand

namespace Cert.ReferenceIdeal.Hand

open Cert.ReferenceIdeal Cert.ReferenceIdeal.Gen
open Idealize.ShloMosaic Idealize.ShloMosaic.TcCoe Idealize.SL.Sem

/-- The reference ends with the answer of its arguments, which it leaves unchanged. -/
theorem reference_run (m : (ℓ : Loc nD τ sig) → Buf (Elt Ideal) ℓ) (ρ : Dev nD → PrngReg)
    {x : Dev nD → Vec Ideal S512x2048 .bf16} {gw : Dev nD → Vec Ideal S16 .i32} {w : Dev nD → Vec Ideal S16x2048x6144 .fp8e4m3}
    {s : Dev nD → Vec Ideal S16x1x6144 .f32}
    (h : ∀ c : Dev nD, m ((c.tc : Thread nD τ).loc main_arg0) = x c ∧ m ((c.tc : Thread nD τ).loc main_arg1) = gw c
      ∧ m ((c.tc : Thread nD τ).loc main_arg2) = w c ∧ m ((c.tc : Thread nD τ).loc main_arg3) = s c) :
    θ_run (defs (F := Ideal)) (onTc (τ := τ) (main (F := Ideal))) ⟨m, fun _ => 0, ρ⟩ fun r => ∀ c : Dev nD,
      r.2.mem ((c.tc : Thread nD τ).loc main_v0) = result (F := Ideal) (x c) (gw c) (w c) (s c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c => by
    obtain ⟨e0, e1, e2, e3⟩ := h c
    have f0 : V m c main_arg0 = x c := e0
    have f1 : V m c main_arg1 = gw c := e1
    have f2 : V m c main_arg2 = w c := e2
    have f3 : V m c main_arg3 = s c := e3
    refine ⟨(hr c).1.trans ?_, (hr c).2⟩
    rw [array_eq, f0, f1, f2, f3])
    (Cert.ReferenceIdeal.Value.run_blocks m ρ)

end Cert.ReferenceIdeal.Hand

end
-- ==== Proof.lean ====
/-
The proof of `Cert.Claim`. The program `Kernel` is proved once (`Proof/Launch.lean`, `Proof/Value.lean`); `KernelIdeal` is the same text,
so its statements are `Kernel`'s at `Ideal` by definition. The reference's run is the generated one, its result read in
`Proof/RefValue.lean`.
-/
module

public import proofs.«01_k».proof.Defs
public import proofs.«01_k».proof.Proof.Equal
public import proofs.«01_k».proof.Proof.Gen.KernelIdeal
public import proofs.«01_k».proof.Proof.Gen.Pre_finite_rows_of_groups
public import proofs.«01_k».proof.Proof.Gen.ReferenceIdeal
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- The kernel runs and leaves its arguments, at any reading of the floats. -/
theorem frame_kernel : Cert.quiescent_Kernel := fun m ρ h =>
  Cert.Kernel.Hand.frame_run m ρ fun c => ⟨_, Cert.Kernel.Hand.shares_of (h c)⟩

set_option maxHeartbeats 4000000 in
/-- The same of its idealization. -/
theorem frame_ideal : Cert.quiescent_KernelIdeal := fun m ρ h =>
  Cert.Kernel.Hand.frame_run (F := Ideal) m ρ fun c => ⟨_, Cert.Kernel.Hand.shares_of (h c)⟩

set_option maxHeartbeats 4000000 in
/-- The same under the precondition of the value claim. -/
theorem frame_ideal_finite : Cert.quiescent_KernelIdeal_pre_finite_rows_of_groups := fun m ρ h =>
  Cert.Kernel.Hand.frame_run (F := Ideal) m ρ fun c => ⟨_, Cert.Kernel.Hand.shares_of_finite (h c)⟩

set_option maxHeartbeats 4000000 in
/-- The idealized kernel ends with the answer of its arguments. -/
theorem value_ideal : ∀ (m : (ℓ : Loc Cert.KernelIdeal.nD Cert.KernelIdeal.τ Cert.KernelIdeal.sig) → Buf (Elt Ideal) ℓ)
    (ρ : Dev Cert.KernelIdeal.nD → PrngReg), Cert.Pre_KernelIdeal_finite_rows_of_groups m →
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = Cert.Kernel.Hand.Answer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  fun m ρ h => Cert.Kernel.Hand.kernel_run m ρ h

/-- From equal arguments, the kernel and the reference end with equal results. -/
theorem algebraic : Cert.algebraic_KernelIdeal_ReferenceIdeal_pre_finite_rows_of_groups := fun m g m' g' h heq =>
  ⟨_, value_ideal m g h, Cert.ReferenceIdeal.Hand.reference_run m' g' heq⟩

/-- Every claim. -/
theorem claim : Cert.Claim := ⟨Cert.Kernel.Gen.facts, Cert.KernelIdeal.Gen.facts, Cert.ReferenceIdeal.Gen.facts, Cert.Pre_rows_of_groups.Gen.facts,
  Cert.Pre_finite_rows_of_groups.Gen.facts, frame_kernel, frame_ideal, frame_ideal_finite, fun m ρ _ => Cert.ReferenceIdeal.Gen.frame m ρ,
  fun m ρ _ => Cert.ReferenceIdeal.Gen.frame m ρ, trivial, algebraic⟩

end Cert.Proof

end
